-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v746) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S8x144x64x64 : Shape := ⟨4, ![8, 144, 64, 64]⟩
abbrev S8x144x32x32 : Shape := ⟨4, ![8, 144, 32, 32]⟩
abbrev S8x144x16x16 : Shape := ⟨4, ![8, 144, 16, 16]⟩
abbrev S8x20x4 : Shape := ⟨3, ![8, 20, 4]⟩
abbrev S8x20 : Shape := ⟨2, ![8, 20]⟩
abbrev S_ : Shape := ⟨0, ![]⟩
abbrev S8x64x64x64 : Shape := ⟨4, ![8, 64, 64, 64]⟩
abbrev S8x80x64x64 : Shape := ⟨4, ![8, 80, 64, 64]⟩
abbrev S64 : Shape := ⟨1, ![64]⟩
abbrev S64x64 : Shape := ⟨2, ![64, 64]⟩
abbrev S64x64x1 : Shape := ⟨3, ![64, 64, 1]⟩
abbrev S64x64x2 : Shape := ⟨3, ![64, 64, 2]⟩
abbrev S4096x2 : Shape := ⟨2, ![4096, 2]⟩
abbrev S8x4096x4x16 : Shape := ⟨4, ![8, 4096, 4, 16]⟩
abbrev S8x4096x4 : Shape := ⟨3, ![8, 4096, 4]⟩
abbrev S8x4096x4x1 : Shape := ⟨4, ![8, 4096, 4, 1]⟩
abbrev S16 : Shape := ⟨1, ![16]⟩
abbrev S1x1x1x16 : Shape := ⟨4, ![1, 1, 1, 16]⟩
abbrev S4096x1 : Shape := ⟨2, ![4096, 1]⟩
abbrev S4096 : Shape := ⟨1, ![4096]⟩
abbrev S1x4096 : Shape := ⟨2, ![1, 4096]⟩
abbrev S8x4096x1 : Shape := ⟨3, ![8, 4096, 1]⟩
abbrev S8x4096 : Shape := ⟨2, ![8, 4096]⟩
abbrev S8x64x64x80 : Shape := ⟨4, ![8, 64, 64, 80]⟩
abbrev S8x4096x80 : Shape := ⟨3, ![8, 4096, 80]⟩
abbrev S8x64x32x32 : Shape := ⟨4, ![8, 64, 32, 32]⟩
abbrev S8x80x32x32 : Shape := ⟨4, ![8, 80, 32, 32]⟩
abbrev S32 : Shape := ⟨1, ![32]⟩
abbrev S32x32 : Shape := ⟨2, ![32, 32]⟩
abbrev S32x32x1 : Shape := ⟨3, ![32, 32, 1]⟩
abbrev S32x32x2 : Shape := ⟨3, ![32, 32, 2]⟩
abbrev S1024x2 : Shape := ⟨2, ![1024, 2]⟩
abbrev S8x32x32x64 : Shape := ⟨4, ![8, 32, 32, 64]⟩
abbrev S8x1024x4x16 : Shape := ⟨4, ![8, 1024, 4, 16]⟩
abbrev S8x1024x4 : Shape := ⟨3, ![8, 1024, 4]⟩
abbrev S8x1024x4x1 : Shape := ⟨4, ![8, 1024, 4, 1]⟩
abbrev S1024x1 : Shape := ⟨2, ![1024, 1]⟩
abbrev S1024 : Shape := ⟨1, ![1024]⟩
abbrev S1x1024 : Shape := ⟨2, ![1, 1024]⟩
abbrev S8x1024x1 : Shape := ⟨3, ![8, 1024, 1]⟩
abbrev S8x1024 : Shape := ⟨2, ![8, 1024]⟩
abbrev S8x32x32x80 : Shape := ⟨4, ![8, 32, 32, 80]⟩
abbrev S8x1024x80 : Shape := ⟨3, ![8, 1024, 80]⟩
abbrev S8x64x16x16 : Shape := ⟨4, ![8, 64, 16, 16]⟩
abbrev S8x80x16x16 : Shape := ⟨4, ![8, 80, 16, 16]⟩
abbrev S16x16 : Shape := ⟨2, ![16, 16]⟩
abbrev S16x16x1 : Shape := ⟨3, ![16, 16, 1]⟩
abbrev S16x16x2 : Shape := ⟨3, ![16, 16, 2]⟩
abbrev S256x2 : Shape := ⟨2, ![256, 2]⟩
abbrev S8x16x16x64 : Shape := ⟨4, ![8, 16, 16, 64]⟩
abbrev S8x256x4x16 : Shape := ⟨4, ![8, 256, 4, 16]⟩
abbrev S8x256x4 : Shape := ⟨3, ![8, 256, 4]⟩
abbrev S8x256x4x1 : Shape := ⟨4, ![8, 256, 4, 1]⟩
abbrev S256x1 : Shape := ⟨2, ![256, 1]⟩
abbrev S256 : Shape := ⟨1, ![256]⟩
abbrev S1x256 : Shape := ⟨2, ![1, 256]⟩
abbrev S8x256x1 : Shape := ⟨3, ![8, 256, 1]⟩
abbrev S8x256 : Shape := ⟨2, ![8, 256]⟩
abbrev S8x16x16x80 : Shape := ⟨4, ![8, 16, 16, 80]⟩
abbrev S8x256x80 : Shape := ⟨3, ![8, 256, 80]⟩
abbrev S8x5376x80 : Shape := ⟨3, ![8, 5376, 80]⟩
abbrev S8x5376x4x16 : Shape := ⟨4, ![8, 5376, 4, 16]⟩
abbrev S8x5376x4 : Shape := ⟨3, ![8, 5376, 4]⟩
abbrev S5376x2 : Shape := ⟨2, ![5376, 2]⟩
abbrev S8x20x1 : Shape := ⟨3, ![8, 20, 1]⟩
abbrev S8x5376x1 : Shape := ⟨3, ![8, 5376, 1]⟩
abbrev S8x5376 : Shape := ⟨2, ![8, 5376]⟩
abbrev S8x1x5376 : Shape := ⟨3, ![8, 1, 5376]⟩
abbrev S8x20x5376 : Shape := ⟨3, ![8, 20, 5376]⟩
abbrev S8x1x20 : Shape := ⟨3, ![8, 1, 20]⟩
abbrev S8x5376x20 : Shape := ⟨3, ![8, 5376, 20]⟩
abbrev S8x20x11 : Shape := ⟨3, ![8, 20, 11]⟩
abbrev S8x20x10 : Shape := ⟨3, ![8, 20, 10]⟩

class Facts : Prop where
  bcast_S_S8x144x64x64 : S_.BroadcastsInDim S8x144x64x64 (![] : Fin 0 → Fin S8x144x64x64.rank)
  bcast_S_S8x144x32x32 : S_.BroadcastsInDim S8x144x32x32 (![] : Fin 0 → Fin S8x144x32x32.rank)
  bcast_S_S8x144x16x16 : S_.BroadcastsInDim S8x144x16x16 (![] : Fin 0 → Fin S8x144x16x16.rank)
  bcast_S_S8x20 : S_.BroadcastsInDim S8x20 (![] : Fin 0 → Fin S8x20.rank)
  slices_S8x144x64x64_S8x64x64x64_0_0_0_0 : S8x144x64x64.Slices ![0, 0, 0, 0] S8x64x64x64
  slices_S8x144x64x64_S8x80x64x64_0_64_0_0 : S8x144x64x64.Slices ![0, 64, 0, 0] S8x80x64x64
  bcast_S64_S64x64_0 : S64.BroadcastsInDim S64x64 (![0] : Fin 1 → Fin S64x64.rank)
  bcast_S64_S64x64_1 : S64.BroadcastsInDim S64x64 (![1] : Fin 1 → Fin S64x64.rank)
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  concatenates_S64x64x1_S64x64x1_S64x64x2_d2 : Shape.Concatenates [S64x64x1, S64x64x1] S64x64x2 2
  shapeCasts_S64x64x2_S4096x2 : S64x64x2.ShapeCasts S4096x2
  transposes_S8x64x64x64_S8x64x64x64_0_2_3_1 : S8x64x64x64.Transposes [0, 2, 3, 1] S8x64x64x64
  shapeCasts_S8x64x64x64_S8x4096x4x16 : S8x64x64x64.ShapeCasts S8x4096x4x16
  reducesTo_S8x4096x4x16_S8x4096x4_d3 : S8x4096x4x16.ReducesTo [3] S8x4096x4
  h_S_ : 0 < S_.numel
  bcast_S8x4096x4_S8x4096x4x1_0_1_2 : S8x4096x4.BroadcastsInDim S8x4096x4x1 (![0, 1, 2] : Fin 3 → Fin S8x4096x4x1.rank)
  bcast_S8x4096x4x1_S8x4096x4x16_0_1_2_3 : S8x4096x4x1.BroadcastsInDim S8x4096x4x16 (![0, 1, 2, 3] : Fin 4 → Fin S8x4096x4x16.rank)
  bcast_S16_S1x1x1x16_3 : S16.BroadcastsInDim S1x1x1x16 (![3] : Fin 1 → Fin S1x1x1x16.rank)
  bcast_S1x1x1x16_S8x4096x4x16_0_1_2_3 : S1x1x1x16.BroadcastsInDim S8x4096x4x16 (![0, 1, 2, 3] : Fin 4 → Fin S8x4096x4x16.rank)
  bcast_S_S8x4096x4 : S_.BroadcastsInDim S8x4096x4 (![] : Fin 0 → Fin S8x4096x4.rank)
  slices_S4096x2_S4096x1_0_0 : S4096x2.Slices ![0, 0] S4096x1
  shapeCasts_S4096x1_S4096 : S4096x1.ShapeCasts S4096
  bcast_S4096_S1x4096_1 : S4096.BroadcastsInDim S1x4096 (![1] : Fin 1 → Fin S1x4096.rank)
  slices_S4096x2_S4096x1_0_1 : S4096x2.Slices ![0, 1] S4096x1
  slices_S8x4096x4_S8x4096x1_0_0_0 : S8x4096x4.Slices ![0, 0, 0] S8x4096x1
  shapeCasts_S8x4096x1_S8x4096 : S8x4096x1.ShapeCasts S8x4096
  bcast_S1x4096_S8x4096_0_1 : S1x4096.BroadcastsInDim S8x4096 (![0, 1] : Fin 2 → Fin S8x4096.rank)
  slices_S8x4096x4_S8x4096x1_0_0_1 : S8x4096x4.Slices ![0, 0, 1] S8x4096x1
  slices_S8x4096x4_S8x4096x1_0_0_2 : S8x4096x4.Slices ![0, 0, 2] S8x4096x1
  slices_S8x4096x4_S8x4096x1_0_0_3 : S8x4096x4.Slices ![0, 0, 3] S8x4096x1
  bcast_S8x4096_S8x4096x1_0_1 : S8x4096.BroadcastsInDim S8x4096x1 (![0, 1] : Fin 2 → Fin S8x4096x1.rank)
  concatenates_S8x4096x1_S8x4096x1_S8x4096x1_S8x4096x1_S8x4096x4_d2 : Shape.Concatenates [S8x4096x1, S8x4096x1, S8x4096x1, S8x4096x1] S8x4096x4 2
  transposes_S8x80x64x64_S8x64x64x80_0_2_3_1 : S8x80x64x64.Transposes [0, 2, 3, 1] S8x64x64x80
  shapeCasts_S8x64x64x80_S8x4096x80 : S8x64x64x80.ShapeCasts S8x4096x80
  slices_S8x144x32x32_S8x64x32x32_0_0_0_0 : S8x144x32x32.Slices ![0, 0, 0, 0] S8x64x32x32
  slices_S8x144x32x32_S8x80x32x32_0_64_0_0 : S8x144x32x32.Slices ![0, 64, 0, 0] S8x80x32x32
  bcast_S32_S32x32_0 : S32.BroadcastsInDim S32x32 (![0] : Fin 1 → Fin S32x32.rank)
  bcast_S32_S32x32_1 : S32.BroadcastsInDim S32x32 (![1] : Fin 1 → Fin S32x32.rank)
  bcast_S_S32x32 : S_.BroadcastsInDim S32x32 (![] : Fin 0 → Fin S32x32.rank)
  bcast_S32x32_S32x32x1_0_1 : S32x32.BroadcastsInDim S32x32x1 (![0, 1] : Fin 2 → Fin S32x32x1.rank)
  concatenates_S32x32x1_S32x32x1_S32x32x2_d2 : Shape.Concatenates [S32x32x1, S32x32x1] S32x32x2 2
  shapeCasts_S32x32x2_S1024x2 : S32x32x2.ShapeCasts S1024x2
  transposes_S8x64x32x32_S8x32x32x64_0_2_3_1 : S8x64x32x32.Transposes [0, 2, 3, 1] S8x32x32x64
  shapeCasts_S8x32x32x64_S8x1024x4x16 : S8x32x32x64.ShapeCasts S8x1024x4x16
  reducesTo_S8x1024x4x16_S8x1024x4_d3 : S8x1024x4x16.ReducesTo [3] S8x1024x4
  bcast_S8x1024x4_S8x1024x4x1_0_1_2 : S8x1024x4.BroadcastsInDim S8x1024x4x1 (![0, 1, 2] : Fin 3 → Fin S8x1024x4x1.rank)
  bcast_S8x1024x4x1_S8x1024x4x16_0_1_2_3 : S8x1024x4x1.BroadcastsInDim S8x1024x4x16 (![0, 1, 2, 3] : Fin 4 → Fin S8x1024x4x16.rank)
  bcast_S1x1x1x16_S8x1024x4x16_0_1_2_3 : S1x1x1x16.BroadcastsInDim S8x1024x4x16 (![0, 1, 2, 3] : Fin 4 → Fin S8x1024x4x16.rank)
  bcast_S_S8x1024x4 : S_.BroadcastsInDim S8x1024x4 (![] : Fin 0 → Fin S8x1024x4.rank)
  slices_S1024x2_S1024x1_0_0 : S1024x2.Slices ![0, 0] S1024x1
  shapeCasts_S1024x1_S1024 : S1024x1.ShapeCasts S1024
  bcast_S1024_S1x1024_1 : S1024.BroadcastsInDim S1x1024 (![1] : Fin 1 → Fin S1x1024.rank)
  slices_S1024x2_S1024x1_0_1 : S1024x2.Slices ![0, 1] S1024x1
  slices_S8x1024x4_S8x1024x1_0_0_0 : S8x1024x4.Slices ![0, 0, 0] S8x1024x1
  shapeCasts_S8x1024x1_S8x1024 : S8x1024x1.ShapeCasts S8x1024
  bcast_S1x1024_S8x1024_0_1 : S1x1024.BroadcastsInDim S8x1024 (![0, 1] : Fin 2 → Fin S8x1024.rank)
  slices_S8x1024x4_S8x1024x1_0_0_1 : S8x1024x4.Slices ![0, 0, 1] S8x1024x1
  slices_S8x1024x4_S8x1024x1_0_0_2 : S8x1024x4.Slices ![0, 0, 2] S8x1024x1
  slices_S8x1024x4_S8x1024x1_0_0_3 : S8x1024x4.Slices ![0, 0, 3] S8x1024x1
  bcast_S8x1024_S8x1024x1_0_1 : S8x1024.BroadcastsInDim S8x1024x1 (![0, 1] : Fin 2 → Fin S8x1024x1.rank)
  concatenates_S8x1024x1_S8x1024x1_S8x1024x1_S8x1024x1_S8x1024x4_d2 : Shape.Concatenates [S8x1024x1, S8x1024x1, S8x1024x1, S8x1024x1] S8x1024x4 2
  transposes_S8x80x32x32_S8x32x32x80_0_2_3_1 : S8x80x32x32.Transposes [0, 2, 3, 1] S8x32x32x80
  shapeCasts_S8x32x32x80_S8x1024x80 : S8x32x32x80.ShapeCasts S8x1024x80
  slices_S8x144x16x16_S8x64x16x16_0_0_0_0 : S8x144x16x16.Slices ![0, 0, 0, 0] S8x64x16x16
  slices_S8x144x16x16_S8x80x16x16_0_64_0_0 : S8x144x16x16.Slices ![0, 64, 0, 0] S8x80x16x16
  bcast_S16_S16x16_0 : S16.BroadcastsInDim S16x16 (![0] : Fin 1 → Fin S16x16.rank)
  bcast_S16_S16x16_1 : S16.BroadcastsInDim S16x16 (![1] : Fin 1 → Fin S16x16.rank)
  bcast_S_S16x16 : S_.BroadcastsInDim S16x16 (![] : Fin 0 → Fin S16x16.rank)
  bcast_S16x16_S16x16x1_0_1 : S16x16.BroadcastsInDim S16x16x1 (![0, 1] : Fin 2 → Fin S16x16x1.rank)
  concatenates_S16x16x1_S16x16x1_S16x16x2_d2 : Shape.Concatenates [S16x16x1, S16x16x1] S16x16x2 2
  shapeCasts_S16x16x2_S256x2 : S16x16x2.ShapeCasts S256x2
  transposes_S8x64x16x16_S8x16x16x64_0_2_3_1 : S8x64x16x16.Transposes [0, 2, 3, 1] S8x16x16x64
  shapeCasts_S8x16x16x64_S8x256x4x16 : S8x16x16x64.ShapeCasts S8x256x4x16
  reducesTo_S8x256x4x16_S8x256x4_d3 : S8x256x4x16.ReducesTo [3] S8x256x4
  bcast_S8x256x4_S8x256x4x1_0_1_2 : S8x256x4.BroadcastsInDim S8x256x4x1 (![0, 1, 2] : Fin 3 → Fin S8x256x4x1.rank)
  bcast_S8x256x4x1_S8x256x4x16_0_1_2_3 : S8x256x4x1.BroadcastsInDim S8x256x4x16 (![0, 1, 2, 3] : Fin 4 → Fin S8x256x4x16.rank)
  bcast_S1x1x1x16_S8x256x4x16_0_1_2_3 : S1x1x1x16.BroadcastsInDim S8x256x4x16 (![0, 1, 2, 3] : Fin 4 → Fin S8x256x4x16.rank)
  bcast_S_S8x256x4 : S_.BroadcastsInDim S8x256x4 (![] : Fin 0 → Fin S8x256x4.rank)
  slices_S256x2_S256x1_0_0 : S256x2.Slices ![0, 0] S256x1
  shapeCasts_S256x1_S256 : S256x1.ShapeCasts S256
  bcast_S256_S1x256_1 : S256.BroadcastsInDim S1x256 (![1] : Fin 1 → Fin S1x256.rank)
  slices_S256x2_S256x1_0_1 : S256x2.Slices ![0, 1] S256x1
  slices_S8x256x4_S8x256x1_0_0_0 : S8x256x4.Slices ![0, 0, 0] S8x256x1
  shapeCasts_S8x256x1_S8x256 : S8x256x1.ShapeCasts S8x256
  bcast_S1x256_S8x256_0_1 : S1x256.BroadcastsInDim S8x256 (![0, 1] : Fin 2 → Fin S8x256.rank)
  slices_S8x256x4_S8x256x1_0_0_1 : S8x256x4.Slices ![0, 0, 1] S8x256x1
  slices_S8x256x4_S8x256x1_0_0_2 : S8x256x4.Slices ![0, 0, 2] S8x256x1
  slices_S8x256x4_S8x256x1_0_0_3 : S8x256x4.Slices ![0, 0, 3] S8x256x1
  bcast_S8x256_S8x256x1_0_1 : S8x256.BroadcastsInDim S8x256x1 (![0, 1] : Fin 2 → Fin S8x256x1.rank)
  concatenates_S8x256x1_S8x256x1_S8x256x1_S8x256x1_S8x256x4_d2 : Shape.Concatenates [S8x256x1, S8x256x1, S8x256x1, S8x256x1] S8x256x4 2
  transposes_S8x80x16x16_S8x16x16x80_0_2_3_1 : S8x80x16x16.Transposes [0, 2, 3, 1] S8x16x16x80
  shapeCasts_S8x16x16x80_S8x256x80 : S8x16x16x80.ShapeCasts S8x256x80
  concatenates_S8x4096x80_S8x1024x80_S8x256x80_S8x5376x80_d1 : Shape.Concatenates [S8x4096x80, S8x1024x80, S8x256x80] S8x5376x80 1
  concatenates_S8x4096x4x16_S8x1024x4x16_S8x256x4x16_S8x5376x4x16_d1 : Shape.Concatenates [S8x4096x4x16, S8x1024x4x16, S8x256x4x16] S8x5376x4x16 1
  concatenates_S8x4096x4_S8x1024x4_S8x256x4_S8x5376x4_d1 : Shape.Concatenates [S8x4096x4, S8x1024x4, S8x256x4] S8x5376x4 1
  concatenates_S4096x2_S1024x2_S256x2_S5376x2_d0 : Shape.Concatenates [S4096x2, S1024x2, S256x2] S5376x2 0
  slices_S8x20x4_S8x20x1_0_0_2 : S8x20x4.Slices ![0, 0, 2] S8x20x1
  shapeCasts_S8x20x1_S8x20 : S8x20x1.ShapeCasts S8x20
  slices_S8x20x4_S8x20x1_0_0_0 : S8x20x4.Slices ![0, 0, 0] S8x20x1
  slices_S8x20x4_S8x20x1_0_0_3 : S8x20x4.Slices ![0, 0, 3] S8x20x1
  slices_S8x20x4_S8x20x1_0_0_1 : S8x20x4.Slices ![0, 0, 1] S8x20x1
  bcast_S8x20_S8x20x1_0_1 : S8x20.BroadcastsInDim S8x20x1 (![0, 1] : Fin 2 → Fin S8x20x1.rank)
  slices_S8x5376x4_S8x5376x1_0_0_0 : S8x5376x4.Slices ![0, 0, 0] S8x5376x1
  shapeCasts_S8x5376x1_S8x5376 : S8x5376x1.ShapeCasts S8x5376
  bcast_S8x5376_S8x1x5376_0_2 : S8x5376.BroadcastsInDim S8x1x5376 (![0, 2] : Fin 2 → Fin S8x1x5376.rank)
  bcast_S8x20x1_S8x20x5376_0_1_2 : S8x20x1.BroadcastsInDim S8x20x5376 (![0, 1, 2] : Fin 3 → Fin S8x20x5376.rank)
  bcast_S8x1x5376_S8x20x5376_0_1_2 : S8x1x5376.BroadcastsInDim S8x20x5376 (![0, 1, 2] : Fin 3 → Fin S8x20x5376.rank)
  slices_S8x5376x4_S8x5376x1_0_0_1 : S8x5376x4.Slices ![0, 0, 1] S8x5376x1
  slices_S8x5376x4_S8x5376x1_0_0_2 : S8x5376x4.Slices ![0, 0, 2] S8x5376x1
  slices_S8x5376x4_S8x5376x1_0_0_3 : S8x5376x4.Slices ![0, 0, 3] S8x5376x1
  bcast_S_S8x20x5376 : S_.BroadcastsInDim S8x20x5376 (![] : Fin 0 → Fin S8x20x5376.rank)
  bcast_S_S8x5376x80 : S_.BroadcastsInDim S8x5376x80 (![] : Fin 0 → Fin S8x5376x80.rank)
  bcast_S8x20_S8x1x20_0_2 : S8x20.BroadcastsInDim S8x1x20 (![0, 2] : Fin 2 → Fin S8x1x20.rank)
  bcast_S_S8x1x20 : S_.BroadcastsInDim S8x1x20 (![] : Fin 0 → Fin S8x1x20.rank)
  shapeCasts_S8x1x20_S8x20x1 : S8x1x20.ShapeCasts S8x20x1
  transposes_S8x5376x20_S8x20x5376_0_2_1 : S8x5376x20.Transposes [0, 2, 1] S8x20x5376
  bcast_S_S8x5376 : S_.BroadcastsInDim S8x5376 (![] : Fin 0 → Fin S8x5376.rank)
  sliceFits_S8x20x5376_S8x20x11 : S8x20x5376.Slices (fun _ => 0) S8x20x11
  slices_S8x20x11_S8x20x10_0_0_0 : S8x20x11.Slices ![0, 0, 0] S8x20x10
  slices_S8x20x11_S8x20x10_0_0_1 : S8x20x11.Slices ![0, 0, 1] S8x20x10
  slices_S8x20x11_S8x20x1_0_0_10 : S8x20x11.Slices ![0, 0, 10] S8x20x1
  bcast_S_S8x20x1 : S_.BroadcastsInDim S8x20x1 (![] : Fin 0 → Fin S8x20x1.rank)
  bcast_S8x20x1_S8x20x10_0_1_2 : S8x20x1.BroadcastsInDim S8x20x10 (![0, 1, 2] : Fin 3 → Fin S8x20x10.rank)
  gather_S8x5376x80_S8x20x1_S8x5376x20_1_2_0_0_2_2_153761_wf : GatherDims.WF S8x5376x80 S8x20x1 S8x5376x20 [1] [2] [0] [2] [0] 2 ![1, 5376, 1]

variable [Facts]

def gather_S8x5376x80_S8x20x1_S8x5376x20_1_2_0_0_2_2_153761 : GatherDims S8x5376x80 S8x20x1 S8x5376x20 where
  offsetDims := [1]
  collapsedSliceDims := [2]
  operandBatchingDims := [0]
  startIndicesBatchingDims := [0]
  startIndexMap := [2]
  indexVectorDim := 2
  sliceSizes := ![1, 5376, 1]
  wf := gather_S8x5376x80_S8x20x1_S8x5376x20_1_2_0_0_2_2_153761_wf
def fn_take_along_axis {F : FTy → Type} [FloatOps F] (arg0 : FVec F S8x5376x80 .f32) (arg1 : IVec S8x1x20 32) : FVec F S8x5376x20 .f32 :=
  let c : IVec S_ 32 := constantI S_ 32 0#32
  let v0 : IVec S8x1x20 32 := broadcastInDim S8x1x20 ![] bcast_S_S8x1x20 c
  let v1 : IVec S8x1x20 1 := cmpi .slt arg1 v0
  let c_0 : IVec S_ 32 := constantI S_ 32 80#32
  let v2 : IVec S8x1x20 32 := broadcastInDim S8x1x20 ![] bcast_S_S8x1x20 c_0
  let v3 : IVec S8x1x20 32 := addi arg1 v2
  let v4 : IVec S8x1x20 32 := select v1 v3 arg1
  let v5 : IVec S8x20x1 32 := shapeCast S8x20x1 v4 shapeCasts_S8x1x20_S8x20x1
  let v6 : FVec F S8x5376x20 .f32 := (fun x i => Host.gather gather_S8x5376x80_S8x20x1_S8x5376x20_1_2_0_0_2_2_153761 x i) arg0 v5
  v6

def fn_part17 {F : FTy → Type} [FloatOps F] (main_v2 : IVec S8x144x64x64 1) (main_v5 : IVec S8x144x32x32 1) (main_v8 : IVec S8x144x16x16 1) (main_v13 : IVec S8x20 1) (main_values : FVec F S8x20x11 .f32) (main_v362 : FVec F S8x20x10 .f32) : IVec S8x144x64x64 1 × IVec S8x144x32x32 1 × IVec S8x144x16x16 1 × IVec S8x20 1 × IVec S8x20x10 1 :=
  let main_v363 : FVec F S8x20x10 .f32 := (extractStridedSlice S8x20x10 ![0, 0, 1] · slices_S8x20x11_S8x20x10_0_0_1) main_values
  let main_v364 : IVec S8x20x10 1 := cmpf .ogt main_v362 main_v363
  let main_v365 : FVec F S8x20x1 .f32 := (extractStridedSlice S8x20x1 ![0, 0, 10] · slices_S8x20x11_S8x20x1_0_0_10) main_values
  let main_cst_41 : FVec F S_ .f32 := constant S_ .f32 0x3089705F#32
  let main_v366 : FVec F S8x20x1 .f32 := broadcastInDim S8x20x1 ![] bcast_S_S8x20x1 main_cst_41
  let main_v367 : IVec S8x20x1 1 := cmpf .ole main_v365 main_v366
  let main_v368 : IVec S8x20x10 1 := broadcastInDim S8x20x10 ![0, 1, 2] bcast_S8x20x1_S8x20x10_0_1_2 main_v367
  let main_v369 : IVec S8x20x10 1 := ori main_v364 main_v368
  (main_v2, main_v5, main_v8, main_v13, main_v369)

def fn_part16 {F : FTy → Type} [FloatOps F] (main_arg3 : FVec F S8x20x4 .f32) (main_v2 : IVec S8x144x64x64 1) (main_v5 : IVec S8x144x32x32 1) (main_v8 : IVec S8x144x16x16 1) (main_v13 : IVec S8x20 1) (main_v227 : IVec S8x20 1) (main_v319 : FVec F S8x20x5376 .f32) (main_v333 : FVec F S8x5376 .f32) (main_v338 : IVec S8x20x5376 1) (main_v340 : FVec F S8x20x1 .f32) (main_v341 : FVec F S8x20x5376 .f32) : IVec S8x144x64x64 1 × IVec S8x144x32x32 1 × IVec S8x144x16x16 1 × IVec S8x20 1 × IVec S8x20x10 1 :=
  let main_v342 : FVec F S8x20x5376 .f32 := broadcastInDim S8x20x5376 ![0, 1, 2] bcast_S8x20x1_S8x20x5376_0_1_2 main_v340
  let main_v343 : IVec S8x20x5376 1 := cmpf .olt main_v341 main_v342
  let main_v344 : IVec S8x20x5376 1 := andi main_v338 main_v343
  let main_v345 : FVec F S8x1x5376 .f32 := broadcastInDim S8x1x5376 ![0, 2] bcast_S8x5376_S8x1x5376_0_2 main_v333
  let main_v346 : FVec F S8x20x1 .f32 := (extractStridedSlice S8x20x1 ![0, 0, 1] · slices_S8x20x4_S8x20x1_0_0_1) main_arg3
  let main_v347 : FVec F S8x20x5376 .f32 := broadcastInDim S8x20x5376 ![0, 1, 2] bcast_S8x1x5376_S8x20x5376_0_1_2 main_v345
  let main_v348 : FVec F S8x20x5376 .f32 := broadcastInDim S8x20x5376 ![0, 1, 2] bcast_S8x20x1_S8x20x5376_0_1_2 main_v346
  let main_v349 : IVec S8x20x5376 1 := cmpf .oge main_v347 main_v348
  let main_v350 : IVec S8x20x5376 1 := andi main_v344 main_v349
  let main_v351 : FVec F S8x1x5376 .f32 := broadcastInDim S8x1x5376 ![0, 2] bcast_S8x5376_S8x1x5376_0_2 main_v333
  let main_v352 : FVec F S8x20x1 .f32 := (extractStridedSlice S8x20x1 ![0, 0, 3] · slices_S8x20x4_S8x20x1_0_0_3) main_arg3
  let main_v353 : FVec F S8x20x5376 .f32 := broadcastInDim S8x20x5376 ![0, 1, 2] bcast_S8x1x5376_S8x20x5376_0_1_2 main_v351
  let main_v354 : FVec F S8x20x5376 .f32 := broadcastInDim S8x20x5376 ![0, 1, 2] bcast_S8x20x1_S8x20x5376_0_1_2 main_v352
  let main_v355 : IVec S8x20x5376 1 := cmpf .olt main_v353 main_v354
  let main_v356 : IVec S8x20x5376 1 := andi main_v350 main_v355
  let main_v357 : IVec S8x20x1 1 := broadcastInDim S8x20x1 ![0, 1] bcast_S8x20_S8x20x1_0_1 main_v227
  let main_v358 : IVec S8x20x5376 1 := broadcastInDim S8x20x5376 ![0, 1, 2] bcast_S8x20x1_S8x20x5376_0_1_2 main_v357
  let main_v359 : IVec S8x20x5376 1 := andi main_v356 main_v358
  let main_cst_40 : FVec F S_ .f32 := constant S_ .f32 0x00000000#32
  let main_v360 : FVec F S8x20x5376 .f32 := broadcastInDim S8x20x5376 ![] bcast_S_S8x20x5376 main_cst_40
  let main_v361 : FVec F S8x20x5376 .f32 := select main_v359 main_v319 main_v360
  let main_values : FVec F S8x20x11 .f32 := (fun x => (Host.topK S8x20x11 2 (FloatOps.cmpfTotal .gt) x sliceFits_S8x20x5376_S8x20x11).1) main_v361
  let main_indices : IVec S8x20x11 32 := (fun x => (Host.topK S8x20x11 2 (FloatOps.cmpfTotal .gt) x sliceFits_S8x20x5376_S8x20x11).2) main_v361
  let main_v362 : FVec F S8x20x10 .f32 := (extractStridedSlice S8x20x10 ![0, 0, 0] · slices_S8x20x11_S8x20x10_0_0_0) main_values
  fn_part17 (F := F) main_v2 main_v5 main_v8 main_v13 main_values main_v362

def fn_part15 {F : FTy → Type} [FloatOps F] (main_arg3 : FVec F S8x20x4 .f32) (main_v2 : IVec S8x144x64x64 1) (main_v5 : IVec S8x144x32x32 1) (main_v8 : IVec S8x144x16x16 1) (main_v13 : IVec S8x20 1) (main_v211 : FVec F S8x5376x4 .f32) (main_v227 : IVec S8x20 1) (main_v319 : FVec F S8x20x5376 .f32) : IVec S8x144x64x64 1 × IVec S8x144x32x32 1 × IVec S8x144x16x16 1 × IVec S8x20 1 × IVec S8x20x10 1 :=
  let main_v320 : FVec F S8x5376x1 .f32 := (extractStridedSlice S8x5376x1 ![0, 0, 0] · slices_S8x5376x4_S8x5376x1_0_0_0) main_v211
  let main_v321 : FVec F S8x5376 .f32 := shapeCast S8x5376 main_v320 shapeCasts_S8x5376x1_S8x5376
  let main_v322 : FVec F S8x5376x1 .f32 := (extractStridedSlice S8x5376x1 ![0, 0, 2] · slices_S8x5376x4_S8x5376x1_0_0_2) main_v211
  let main_v323 : FVec F S8x5376 .f32 := shapeCast S8x5376 main_v322 shapeCasts_S8x5376x1_S8x5376
  let main_v324 : FVec F S8x5376 .f32 := addf main_v321 main_v323
  let main_cst_38 : FVec F S_ .f32 := constant S_ .f32 0x3F000000#32
  let main_v325 : FVec F S8x5376 .f32 := broadcastInDim S8x5376 ![] bcast_S_S8x5376 main_cst_38
  let main_v326 : FVec F S8x5376 .f32 := mulf main_v324 main_v325
  let main_v327 : FVec F S8x5376x1 .f32 := (extractStridedSlice S8x5376x1 ![0, 0, 1] · slices_S8x5376x4_S8x5376x1_0_0_1) main_v211
  let main_v328 : FVec F S8x5376 .f32 := shapeCast S8x5376 main_v327 shapeCasts_S8x5376x1_S8x5376
  let main_v329 : FVec F S8x5376x1 .f32 := (extractStridedSlice S8x5376x1 ![0, 0, 3] · slices_S8x5376x4_S8x5376x1_0_0_3) main_v211
  let main_v330 : FVec F S8x5376 .f32 := shapeCast S8x5376 main_v329 shapeCasts_S8x5376x1_S8x5376
  let main_v331 : FVec F S8x5376 .f32 := addf main_v328 main_v330
  let main_cst_39 : FVec F S_ .f32 := constant S_ .f32 0x3F000000#32
  let main_v332 : FVec F S8x5376 .f32 := broadcastInDim S8x5376 ![] bcast_S_S8x5376 main_cst_39
  let main_v333 : FVec F S8x5376 .f32 := mulf main_v331 main_v332
  let main_v334 : FVec F S8x1x5376 .f32 := broadcastInDim S8x1x5376 ![0, 2] bcast_S8x5376_S8x1x5376_0_2 main_v326
  let main_v335 : FVec F S8x20x1 .f32 := (extractStridedSlice S8x20x1 ![0, 0, 0] · slices_S8x20x4_S8x20x1_0_0_0) main_arg3
  let main_v336 : FVec F S8x20x5376 .f32 := broadcastInDim S8x20x5376 ![0, 1, 2] bcast_S8x1x5376_S8x20x5376_0_1_2 main_v334
  let main_v337 : FVec F S8x20x5376 .f32 := broadcastInDim S8x20x5376 ![0, 1, 2] bcast_S8x20x1_S8x20x5376_0_1_2 main_v335
  let main_v338 : IVec S8x20x5376 1 := cmpf .oge main_v336 main_v337
  let main_v339 : FVec F S8x1x5376 .f32 := broadcastInDim S8x1x5376 ![0, 2] bcast_S8x5376_S8x1x5376_0_2 main_v326
  let main_v340 : FVec F S8x20x1 .f32 := (extractStridedSlice S8x20x1 ![0, 0, 2] · slices_S8x20x4_S8x20x1_0_0_2) main_arg3
  let main_v341 : FVec F S8x20x5376 .f32 := broadcastInDim S8x20x5376 ![0, 1, 2] bcast_S8x1x5376_S8x20x5376_0_1_2 main_v339
  fn_part16 (F := F) main_arg3 main_v2 main_v5 main_v8 main_v13 main_v227 main_v319 main_v333 main_v338 main_v340 main_v341

def fn_part14 {F : FTy → Type} [FloatOps F] (main_arg3 : FVec F S8x20x4 .f32) (main_arg4 : IVec S8x20 32) (main_v2 : IVec S8x144x64x64 1) (main_v5 : IVec S8x144x32x32 1) (main_v8 : IVec S8x144x16x16 1) (main_v13 : IVec S8x20 1) (main_v209 : FVec F S8x5376x80 .f32) (main_v211 : FVec F S8x5376x4 .f32) (main_v227 : IVec S8x20 1) (main_v301 : FVec F S8x20x5376 .f32) : IVec S8x144x64x64 1 × IVec S8x144x32x32 1 × IVec S8x144x16x16 1 × IVec S8x20 1 × IVec S8x20x10 1 :=
  let main_v302 : FVec F S8x5376x80 .f32 := Host.negf main_v209
  let main_v303 : FVec F S8x5376x80 .f32 := Host.exp main_v302
  let main_cst_32 : FVec F S_ .f32 := constant S_ .f32 0x3F800000#32
  let main_v304 : FVec F S8x5376x80 .f32 := broadcastInDim S8x5376x80 ![] bcast_S_S8x5376x80 main_cst_32
  let main_v305 : FVec F S8x5376x80 .f32 := addf main_v304 main_v303
  let main_cst_33 : FVec F S_ .f32 := constant S_ .f32 0x3F800000#32
  let main_v306 : FVec F S8x5376x80 .f32 := broadcastInDim S8x5376x80 ![] bcast_S_S8x5376x80 main_cst_33
  let main_v307 : FVec F S8x5376x80 .f32 := Host.divf main_v306 main_v305
  let main_c_34 : IVec S_ 32 := constantI S_ 32 0#32
  let main_v308 : IVec S8x20 32 := broadcastInDim S8x20 ![] bcast_S_S8x20 main_c_34
  let main_v309 : IVec S8x20 32 := maxsi main_arg4 main_v308
  let main_c_35 : IVec S_ 32 := constantI S_ 32 79#32
  let main_v310 : IVec S8x20 32 := broadcastInDim S8x20 ![] bcast_S_S8x20 main_c_35
  let main_v311 : IVec S8x20 32 := minsi main_v309 main_v310
  let main_v312 : IVec S8x1x20 32 := broadcastInDim S8x1x20 ![0, 2] bcast_S8x20_S8x1x20_0_2 main_v311
  let main_v313 : FVec F S8x5376x20 .f32 := fn_take_along_axis (F := F) main_v307 main_v312
  let main_v314 : FVec F S8x20x5376 .f32 := (transpose S8x20x5376 [0, 2, 1] · transposes_S8x5376x20_S8x20x5376_0_2_1) main_v313
  let main_cst_36 : FVec F S_ .f32 := constant S_ .f32 0x3F000000#32
  let main_v315 : FVec F S8x20x5376 .f32 := broadcastInDim S8x20x5376 ![] bcast_S_S8x20x5376 main_cst_36
  let main_v316 : FVec F S8x20x5376 .f32 := Host.powf main_v314 main_v315
  let main_cst_37 : FVec F S_ .f32 := constant S_ .f32 0x40C00000#32
  let main_v317 : FVec F S8x20x5376 .f32 := broadcastInDim S8x20x5376 ![] bcast_S_S8x20x5376 main_cst_37
  let main_v318 : FVec F S8x20x5376 .f32 := Host.powf main_v301 main_v317
  let main_v319 : FVec F S8x20x5376 .f32 := mulf main_v316 main_v318
  fn_part15 (F := F) main_arg3 main_v2 main_v5 main_v8 main_v13 main_v211 main_v227 main_v319

def fn_part13 {F : FTy → Type} [FloatOps F] (main_arg3 : FVec F S8x20x4 .f32) (main_arg4 : IVec S8x20 32) (main_v2 : IVec S8x144x64x64 1) (main_v5 : IVec S8x144x32x32 1) (main_v8 : IVec S8x144x16x16 1) (main_v13 : IVec S8x20 1) (main_v209 : FVec F S8x5376x80 .f32) (main_v211 : FVec F S8x5376x4 .f32) (main_v227 : IVec S8x20 1) (main_v270 : FVec F S8x20x5376 .f32) (main_v275 : FVec F S8x20 .f32) (main_v277 : FVec F S8x20 .f32) (main_v278 : FVec F S8x20x1 .f32) : IVec S8x144x64x64 1 × IVec S8x144x32x32 1 × IVec S8x144x16x16 1 × IVec S8x20 1 × IVec S8x20x10 1 :=
  let main_v279 : FVec F S8x20 .f32 := shapeCast S8x20 main_v278 shapeCasts_S8x20x1_S8x20
  let main_v280 : FVec F S8x20 .f32 := subf main_v277 main_v279
  let main_v281 : FVec F S8x20 .f32 := mulf main_v275 main_v280
  let main_v282 : FVec F S8x5376x1 .f32 := (extractStridedSlice S8x5376x1 ![0, 0, 2] · slices_S8x5376x4_S8x5376x1_0_0_2) main_v211
  let main_v283 : FVec F S8x5376 .f32 := shapeCast S8x5376 main_v282 shapeCasts_S8x5376x1_S8x5376
  let main_v284 : FVec F S8x5376x1 .f32 := (extractStridedSlice S8x5376x1 ![0, 0, 0] · slices_S8x5376x4_S8x5376x1_0_0_0) main_v211
  let main_v285 : FVec F S8x5376 .f32 := shapeCast S8x5376 main_v284 shapeCasts_S8x5376x1_S8x5376
  let main_v286 : FVec F S8x5376 .f32 := subf main_v283 main_v285
  let main_v287 : FVec F S8x5376x1 .f32 := (extractStridedSlice S8x5376x1 ![0, 0, 3] · slices_S8x5376x4_S8x5376x1_0_0_3) main_v211
  let main_v288 : FVec F S8x5376 .f32 := shapeCast S8x5376 main_v287 shapeCasts_S8x5376x1_S8x5376
  let main_v289 : FVec F S8x5376x1 .f32 := (extractStridedSlice S8x5376x1 ![0, 0, 1] · slices_S8x5376x4_S8x5376x1_0_0_1) main_v211
  let main_v290 : FVec F S8x5376 .f32 := shapeCast S8x5376 main_v289 shapeCasts_S8x5376x1_S8x5376
  let main_v291 : FVec F S8x5376 .f32 := subf main_v288 main_v290
  let main_v292 : FVec F S8x5376 .f32 := mulf main_v286 main_v291
  let main_v293 : FVec F S8x20x1 .f32 := broadcastInDim S8x20x1 ![0, 1] bcast_S8x20_S8x20x1_0_1 main_v281
  let main_v294 : FVec F S8x1x5376 .f32 := broadcastInDim S8x1x5376 ![0, 2] bcast_S8x5376_S8x1x5376_0_2 main_v292
  let main_v295 : FVec F S8x20x5376 .f32 := broadcastInDim S8x20x5376 ![0, 1, 2] bcast_S8x20x1_S8x20x5376_0_1_2 main_v293
  let main_v296 : FVec F S8x20x5376 .f32 := broadcastInDim S8x20x5376 ![0, 1, 2] bcast_S8x1x5376_S8x20x5376_0_1_2 main_v294
  let main_v297 : FVec F S8x20x5376 .f32 := addf main_v295 main_v296
  let main_v298 : FVec F S8x20x5376 .f32 := subf main_v297 main_v270
  let main_cst_31 : FVec F S_ .f32 := constant S_ .f32 0x3089705F#32
  let main_v299 : FVec F S8x20x5376 .f32 := broadcastInDim S8x20x5376 ![] bcast_S_S8x20x5376 main_cst_31
  let main_v300 : FVec F S8x20x5376 .f32 := addf main_v298 main_v299
  let main_v301 : FVec F S8x20x5376 .f32 := Host.divf main_v270 main_v300
  fn_part14 (F := F) main_arg3 main_arg4 main_v2 main_v5 main_v8 main_v13 main_v209 main_v211 main_v227 main_v301

def fn_part12 {F : FTy → Type} [FloatOps F] (main_arg3 : FVec F S8x20x4 .f32) (main_arg4 : IVec S8x20 32) (main_v2 : IVec S8x144x64x64 1) (main_v5 : IVec S8x144x32x32 1) (main_v8 : IVec S8x144x16x16 1) (main_v13 : IVec S8x20 1) (main_v209 : FVec F S8x5376x80 .f32) (main_v211 : FVec F S8x5376x4 .f32) (main_v227 : IVec S8x20 1) (main_v236 : FVec F S8x20x5376 .f32) (main_v245 : FVec F S8x20x5376 .f32) (main_v254 : FVec F S8x20x5376 .f32) (main_v256 : FVec F S8x20 .f32) : IVec S8x144x64x64 1 × IVec S8x144x32x32 1 × IVec S8x144x16x16 1 × IVec S8x20 1 × IVec S8x20x10 1 :=
  let main_v257 : FVec F S8x20x1 .f32 := broadcastInDim S8x20x1 ![0, 1] bcast_S8x20_S8x20x1_0_1 main_v256
  let main_v258 : FVec F S8x5376x1 .f32 := (extractStridedSlice S8x5376x1 ![0, 0, 3] · slices_S8x5376x4_S8x5376x1_0_0_3) main_v211
  let main_v259 : FVec F S8x5376 .f32 := shapeCast S8x5376 main_v258 shapeCasts_S8x5376x1_S8x5376
  let main_v260 : FVec F S8x1x5376 .f32 := broadcastInDim S8x1x5376 ![0, 2] bcast_S8x5376_S8x1x5376_0_2 main_v259
  let main_v261 : FVec F S8x20x5376 .f32 := broadcastInDim S8x20x5376 ![0, 1, 2] bcast_S8x20x1_S8x20x5376_0_1_2 main_v257
  let main_v262 : FVec F S8x20x5376 .f32 := broadcastInDim S8x20x5376 ![0, 1, 2] bcast_S8x1x5376_S8x20x5376_0_1_2 main_v260
  let main_v263 : FVec F S8x20x5376 .f32 := minimumf main_v261 main_v262
  let main_v264 : FVec F S8x20x5376 .f32 := subf main_v254 main_v236
  let main_cst_29 : FVec F S_ .f32 := constant S_ .f32 0x00000000#32
  let main_v265 : FVec F S8x20x5376 .f32 := broadcastInDim S8x20x5376 ![] bcast_S_S8x20x5376 main_cst_29
  let main_v266 : FVec F S8x20x5376 .f32 := maximumf main_v264 main_v265
  let main_v267 : FVec F S8x20x5376 .f32 := subf main_v263 main_v245
  let main_cst_30 : FVec F S_ .f32 := constant S_ .f32 0x00000000#32
  let main_v268 : FVec F S8x20x5376 .f32 := broadcastInDim S8x20x5376 ![] bcast_S_S8x20x5376 main_cst_30
  let main_v269 : FVec F S8x20x5376 .f32 := maximumf main_v267 main_v268
  let main_v270 : FVec F S8x20x5376 .f32 := mulf main_v266 main_v269
  let main_v271 : FVec F S8x20x1 .f32 := (extractStridedSlice S8x20x1 ![0, 0, 2] · slices_S8x20x4_S8x20x1_0_0_2) main_arg3
  let main_v272 : FVec F S8x20 .f32 := shapeCast S8x20 main_v271 shapeCasts_S8x20x1_S8x20
  let main_v273 : FVec F S8x20x1 .f32 := (extractStridedSlice S8x20x1 ![0, 0, 0] · slices_S8x20x4_S8x20x1_0_0_0) main_arg3
  let main_v274 : FVec F S8x20 .f32 := shapeCast S8x20 main_v273 shapeCasts_S8x20x1_S8x20
  let main_v275 : FVec F S8x20 .f32 := subf main_v272 main_v274
  let main_v276 : FVec F S8x20x1 .f32 := (extractStridedSlice S8x20x1 ![0, 0, 3] · slices_S8x20x4_S8x20x1_0_0_3) main_arg3
  let main_v277 : FVec F S8x20 .f32 := shapeCast S8x20 main_v276 shapeCasts_S8x20x1_S8x20
  let main_v278 : FVec F S8x20x1 .f32 := (extractStridedSlice S8x20x1 ![0, 0, 1] · slices_S8x20x4_S8x20x1_0_0_1) main_arg3
  fn_part13 (F := F) main_arg3 main_arg4 main_v2 main_v5 main_v8 main_v13 main_v209 main_v211 main_v227 main_v270 main_v275 main_v277 main_v278

def fn_part11 {F : FTy → Type} [FloatOps F] (main_arg3 : FVec F S8x20x4 .f32) (main_arg4 : IVec S8x20 32) (main_v2 : IVec S8x144x64x64 1) (main_v5 : IVec S8x144x32x32 1) (main_v8 : IVec S8x144x16x16 1) (main_v13 : IVec S8x20 1) (main_v209 : FVec F S8x5376x80 .f32) (main_v211 : FVec F S8x5376x4 .f32) (main_v227 : IVec S8x20 1) (main_v230 : FVec F S8x20x1 .f32) (main_v232 : FVec F S8x5376 .f32) : IVec S8x144x64x64 1 × IVec S8x144x32x32 1 × IVec S8x144x16x16 1 × IVec S8x20 1 × IVec S8x20x10 1 :=
  let main_v233 : FVec F S8x1x5376 .f32 := broadcastInDim S8x1x5376 ![0, 2] bcast_S8x5376_S8x1x5376_0_2 main_v232
  let main_v234 : FVec F S8x20x5376 .f32 := broadcastInDim S8x20x5376 ![0, 1, 2] bcast_S8x20x1_S8x20x5376_0_1_2 main_v230
  let main_v235 : FVec F S8x20x5376 .f32 := broadcastInDim S8x20x5376 ![0, 1, 2] bcast_S8x1x5376_S8x20x5376_0_1_2 main_v233
  let main_v236 : FVec F S8x20x5376 .f32 := maximumf main_v234 main_v235
  let main_v237 : FVec F S8x20x1 .f32 := (extractStridedSlice S8x20x1 ![0, 0, 1] · slices_S8x20x4_S8x20x1_0_0_1) main_arg3
  let main_v238 : FVec F S8x20 .f32 := shapeCast S8x20 main_v237 shapeCasts_S8x20x1_S8x20
  let main_v239 : FVec F S8x20x1 .f32 := broadcastInDim S8x20x1 ![0, 1] bcast_S8x20_S8x20x1_0_1 main_v238
  let main_v240 : FVec F S8x5376x1 .f32 := (extractStridedSlice S8x5376x1 ![0, 0, 1] · slices_S8x5376x4_S8x5376x1_0_0_1) main_v211
  let main_v241 : FVec F S8x5376 .f32 := shapeCast S8x5376 main_v240 shapeCasts_S8x5376x1_S8x5376
  let main_v242 : FVec F S8x1x5376 .f32 := broadcastInDim S8x1x5376 ![0, 2] bcast_S8x5376_S8x1x5376_0_2 main_v241
  let main_v243 : FVec F S8x20x5376 .f32 := broadcastInDim S8x20x5376 ![0, 1, 2] bcast_S8x20x1_S8x20x5376_0_1_2 main_v239
  let main_v244 : FVec F S8x20x5376 .f32 := broadcastInDim S8x20x5376 ![0, 1, 2] bcast_S8x1x5376_S8x20x5376_0_1_2 main_v242
  let main_v245 : FVec F S8x20x5376 .f32 := maximumf main_v243 main_v244
  let main_v246 : FVec F S8x20x1 .f32 := (extractStridedSlice S8x20x1 ![0, 0, 2] · slices_S8x20x4_S8x20x1_0_0_2) main_arg3
  let main_v247 : FVec F S8x20 .f32 := shapeCast S8x20 main_v246 shapeCasts_S8x20x1_S8x20
  let main_v248 : FVec F S8x20x1 .f32 := broadcastInDim S8x20x1 ![0, 1] bcast_S8x20_S8x20x1_0_1 main_v247
  let main_v249 : FVec F S8x5376x1 .f32 := (extractStridedSlice S8x5376x1 ![0, 0, 2] · slices_S8x5376x4_S8x5376x1_0_0_2) main_v211
  let main_v250 : FVec F S8x5376 .f32 := shapeCast S8x5376 main_v249 shapeCasts_S8x5376x1_S8x5376
  let main_v251 : FVec F S8x1x5376 .f32 := broadcastInDim S8x1x5376 ![0, 2] bcast_S8x5376_S8x1x5376_0_2 main_v250
  let main_v252 : FVec F S8x20x5376 .f32 := broadcastInDim S8x20x5376 ![0, 1, 2] bcast_S8x20x1_S8x20x5376_0_1_2 main_v248
  let main_v253 : FVec F S8x20x5376 .f32 := broadcastInDim S8x20x5376 ![0, 1, 2] bcast_S8x1x5376_S8x20x5376_0_1_2 main_v251
  let main_v254 : FVec F S8x20x5376 .f32 := minimumf main_v252 main_v253
  let main_v255 : FVec F S8x20x1 .f32 := (extractStridedSlice S8x20x1 ![0, 0, 3] · slices_S8x20x4_S8x20x1_0_0_3) main_arg3
  let main_v256 : FVec F S8x20 .f32 := shapeCast S8x20 main_v255 shapeCasts_S8x20x1_S8x20
  fn_part12 (F := F) main_arg3 main_arg4 main_v2 main_v5 main_v8 main_v13 main_v209 main_v211 main_v227 main_v236 main_v245 main_v254 main_v256

def fn_part10 {F : FTy → Type} [FloatOps F] (main_arg3 : FVec F S8x20x4 .f32) (main_arg4 : IVec S8x20 32) (main_v2 : IVec S8x144x64x64 1) (main_v5 : IVec S8x144x32x32 1) (main_v8 : IVec S8x144x16x16 1) (main_v13 : IVec S8x20 1) (main_v31 : FVec F S4096x2 .f32) (main_v76 : FVec F S8x4096x4 .f32) (main_v96 : FVec F S1024x2 .f32) (main_v141 : FVec F S8x1024x4 .f32) (main_v161 : FVec F S256x2 .f32) (main_v206 : FVec F S8x256x4 .f32) (main_v209 : FVec F S8x5376x80 .f32) : IVec S8x144x64x64 1 × IVec S8x144x32x32 1 × IVec S8x144x16x16 1 × IVec S8x20 1 × IVec S8x20x10 1 :=
  let main_v211 : FVec F S8x5376x4 .f32 := concatenate S8x5376x4 1 [⟨S8x4096x4, main_v76⟩, ⟨S8x1024x4, main_v141⟩, ⟨S8x256x4, main_v206⟩] concatenates_S8x4096x4_S8x1024x4_S8x256x4_S8x5376x4_d1
  let main_v212 : FVec F S5376x2 .f32 := concatenate S5376x2 0 [⟨S4096x2, main_v31⟩, ⟨S1024x2, main_v96⟩, ⟨S256x2, main_v161⟩] concatenates_S4096x2_S1024x2_S256x2_S5376x2_d0
  let main_v213 : FVec F S8x20x1 .f32 := (extractStridedSlice S8x20x1 ![0, 0, 2] · slices_S8x20x4_S8x20x1_0_0_2) main_arg3
  let main_v214 : FVec F S8x20 .f32 := shapeCast S8x20 main_v213 shapeCasts_S8x20x1_S8x20
  let main_v215 : FVec F S8x20x1 .f32 := (extractStridedSlice S8x20x1 ![0, 0, 0] · slices_S8x20x4_S8x20x1_0_0_0) main_arg3
  let main_v216 : FVec F S8x20 .f32 := shapeCast S8x20 main_v215 shapeCasts_S8x20x1_S8x20
  let main_v217 : FVec F S8x20 .f32 := subf main_v214 main_v216
  let main_cst_27 : FVec F S_ .f32 := constant S_ .f32 0x00000000#32
  let main_v218 : FVec F S8x20 .f32 := broadcastInDim S8x20 ![] bcast_S_S8x20 main_cst_27
  let main_v219 : IVec S8x20 1 := cmpf .ogt main_v217 main_v218
  let main_v220 : FVec F S8x20x1 .f32 := (extractStridedSlice S8x20x1 ![0, 0, 3] · slices_S8x20x4_S8x20x1_0_0_3) main_arg3
  let main_v221 : FVec F S8x20 .f32 := shapeCast S8x20 main_v220 shapeCasts_S8x20x1_S8x20
  let main_v222 : FVec F S8x20x1 .f32 := (extractStridedSlice S8x20x1 ![0, 0, 1] · slices_S8x20x4_S8x20x1_0_0_1) main_arg3
  let main_v223 : FVec F S8x20 .f32 := shapeCast S8x20 main_v222 shapeCasts_S8x20x1_S8x20
  let main_v224 : FVec F S8x20 .f32 := subf main_v221 main_v223
  let main_cst_28 : FVec F S_ .f32 := constant S_ .f32 0x00000000#32
  let main_v225 : FVec F S8x20 .f32 := broadcastInDim S8x20 ![] bcast_S_S8x20 main_cst_28
  let main_v226 : IVec S8x20 1 := cmpf .ogt main_v224 main_v225
  let main_v227 : IVec S8x20 1 := andi main_v219 main_v226
  let main_v228 : FVec F S8x20x1 .f32 := (extractStridedSlice S8x20x1 ![0, 0, 0] · slices_S8x20x4_S8x20x1_0_0_0) main_arg3
  let main_v229 : FVec F S8x20 .f32 := shapeCast S8x20 main_v228 shapeCasts_S8x20x1_S8x20
  let main_v230 : FVec F S8x20x1 .f32 := broadcastInDim S8x20x1 ![0, 1] bcast_S8x20_S8x20x1_0_1 main_v229
  let main_v231 : FVec F S8x5376x1 .f32 := (extractStridedSlice S8x5376x1 ![0, 0, 0] · slices_S8x5376x4_S8x5376x1_0_0_0) main_v211
  let main_v232 : FVec F S8x5376 .f32 := shapeCast S8x5376 main_v231 shapeCasts_S8x5376x1_S8x5376
  fn_part11 (F := F) main_arg3 main_arg4 main_v2 main_v5 main_v8 main_v13 main_v209 main_v211 main_v227 main_v230 main_v232

def fn_part9 {F : FTy → Type} [FloatOps F] (main_arg3 : FVec F S8x20x4 .f32) (main_arg4 : IVec S8x20 32) (main_v2 : IVec S8x144x64x64 1) (main_v5 : IVec S8x144x32x32 1) (main_v8 : IVec S8x144x16x16 1) (main_v13 : IVec S8x20 1) (main_v31 : FVec F S4096x2 .f32) (main_v33 : FVec F S8x4096x4x16 .f32) (main_v76 : FVec F S8x4096x4 .f32) (main_v78 : FVec F S8x4096x80 .f32) (main_v96 : FVec F S1024x2 .f32) (main_v98 : FVec F S8x1024x4x16 .f32) (main_v141 : FVec F S8x1024x4 .f32) (main_v143 : FVec F S8x1024x80 .f32) (main_v145 : FVec F S8x80x16x16 .f32) (main_v161 : FVec F S256x2 .f32) (main_v163 : FVec F S8x256x4x16 .f32) (main_v179 : FVec F S8x256x4 .f32) (main_v182 : FVec F S1x256 .f32) (main_v185 : FVec F S1x256 .f32) (main_v186 : FVec F S8x256x1 .f32) : IVec S8x144x64x64 1 × IVec S8x144x32x32 1 × IVec S8x144x16x16 1 × IVec S8x20 1 × IVec S8x20x10 1 :=
  let main_v187 : FVec F S8x256 .f32 := shapeCast S8x256 main_v186 shapeCasts_S8x256x1_S8x256
  let main_v188 : FVec F S8x256 .f32 := broadcastInDim S8x256 ![0, 1] bcast_S1x256_S8x256_0_1 main_v182
  let main_v189 : FVec F S8x256 .f32 := subf main_v188 main_v187
  let main_v190 : FVec F S8x256x1 .f32 := (extractStridedSlice S8x256x1 ![0, 0, 1] · slices_S8x256x4_S8x256x1_0_0_1) main_v179
  let main_v191 : FVec F S8x256 .f32 := shapeCast S8x256 main_v190 shapeCasts_S8x256x1_S8x256
  let main_v192 : FVec F S8x256 .f32 := broadcastInDim S8x256 ![0, 1] bcast_S1x256_S8x256_0_1 main_v185
  let main_v193 : FVec F S8x256 .f32 := subf main_v192 main_v191
  let main_v194 : FVec F S8x256x1 .f32 := (extractStridedSlice S8x256x1 ![0, 0, 2] · slices_S8x256x4_S8x256x1_0_0_2) main_v179
  let main_v195 : FVec F S8x256 .f32 := shapeCast S8x256 main_v194 shapeCasts_S8x256x1_S8x256
  let main_v196 : FVec F S8x256 .f32 := broadcastInDim S8x256 ![0, 1] bcast_S1x256_S8x256_0_1 main_v182
  let main_v197 : FVec F S8x256 .f32 := addf main_v196 main_v195
  let main_v198 : FVec F S8x256x1 .f32 := (extractStridedSlice S8x256x1 ![0, 0, 3] · slices_S8x256x4_S8x256x1_0_0_3) main_v179
  let main_v199 : FVec F S8x256 .f32 := shapeCast S8x256 main_v198 shapeCasts_S8x256x1_S8x256
  let main_v200 : FVec F S8x256 .f32 := broadcastInDim S8x256 ![0, 1] bcast_S1x256_S8x256_0_1 main_v185
  let main_v201 : FVec F S8x256 .f32 := addf main_v200 main_v199
  let main_v202 : FVec F S8x256x1 .f32 := broadcastInDim S8x256x1 ![0, 1] bcast_S8x256_S8x256x1_0_1 main_v189
  let main_v203 : FVec F S8x256x1 .f32 := broadcastInDim S8x256x1 ![0, 1] bcast_S8x256_S8x256x1_0_1 main_v193
  let main_v204 : FVec F S8x256x1 .f32 := broadcastInDim S8x256x1 ![0, 1] bcast_S8x256_S8x256x1_0_1 main_v197
  let main_v205 : FVec F S8x256x1 .f32 := broadcastInDim S8x256x1 ![0, 1] bcast_S8x256_S8x256x1_0_1 main_v201
  let main_v206 : FVec F S8x256x4 .f32 := concatenate S8x256x4 2 [⟨S8x256x1, main_v202⟩, ⟨S8x256x1, main_v203⟩, ⟨S8x256x1, main_v204⟩, ⟨S8x256x1, main_v205⟩] concatenates_S8x256x1_S8x256x1_S8x256x1_S8x256x1_S8x256x4_d2
  let main_v207 : FVec F S8x16x16x80 .f32 := (transpose S8x16x16x80 [0, 2, 3, 1] · transposes_S8x80x16x16_S8x16x16x80_0_2_3_1) main_v145
  let main_v208 : FVec F S8x256x80 .f32 := shapeCast S8x256x80 main_v207 shapeCasts_S8x16x16x80_S8x256x80
  let main_v209 : FVec F S8x5376x80 .f32 := concatenate S8x5376x80 1 [⟨S8x4096x80, main_v78⟩, ⟨S8x1024x80, main_v143⟩, ⟨S8x256x80, main_v208⟩] concatenates_S8x4096x80_S8x1024x80_S8x256x80_S8x5376x80_d1
  let main_v210 : FVec F S8x5376x4x16 .f32 := concatenate S8x5376x4x16 1 [⟨S8x4096x4x16, main_v33⟩, ⟨S8x1024x4x16, main_v98⟩, ⟨S8x256x4x16, main_v163⟩] concatenates_S8x4096x4x16_S8x1024x4x16_S8x256x4x16_S8x5376x4x16_d1
  fn_part10 (F := F) main_arg3 main_arg4 main_v2 main_v5 main_v8 main_v13 main_v31 main_v76 main_v96 main_v141 main_v161 main_v206 main_v209

def fn_part8 {F : FTy → Type} [FloatOps F] (main_arg3 : FVec F S8x20x4 .f32) (main_arg4 : IVec S8x20 32) (main_v2 : IVec S8x144x64x64 1) (main_v5 : IVec S8x144x32x32 1) (main_v8 : IVec S8x144x16x16 1) (main_v13 : IVec S8x20 1) (main_v31 : FVec F S4096x2 .f32) (main_v33 : FVec F S8x4096x4x16 .f32) (main_v76 : FVec F S8x4096x4 .f32) (main_v78 : FVec F S8x4096x80 .f32) (main_v96 : FVec F S1024x2 .f32) (main_v98 : FVec F S8x1024x4x16 .f32) (main_v141 : FVec F S8x1024x4 .f32) (main_v143 : FVec F S8x1024x80 .f32) (main_v145 : FVec F S8x80x16x16 .f32) (main_v161 : FVec F S256x2 .f32) (main_v163 : FVec F S8x256x4x16 .f32) (main_v165 : FVec F S8x256x4x1 .f32) : IVec S8x144x64x64 1 × IVec S8x144x32x32 1 × IVec S8x144x16x16 1 × IVec S8x20 1 × IVec S8x20x10 1 :=
  let main_v166 : FVec F S8x256x4x16 .f32 := broadcastInDim S8x256x4x16 ![0, 1, 2, 3] bcast_S8x256x4x1_S8x256x4x16_0_1_2_3 main_v165
  let main_v167 : FVec F S8x256x4x16 .f32 := subf main_v163 main_v166
  let main_v168 : FVec F S8x256x4x16 .f32 := Host.exp main_v167
  let main_cst_24 : FVec F S_ .f32 := constant S_ .f32 0x00000000#32
  let main_v169 : FVec F S8x256x4 .f32 := (fun x v => Host.reduceAdd x v reducesTo_S8x256x4x16_S8x256x4_d3 h_S_) main_v168 main_cst_24
  let main_v170 : FVec F S8x256x4x1 .f32 := broadcastInDim S8x256x4x1 ![0, 1, 2] bcast_S8x256x4_S8x256x4x1_0_1_2 main_v169
  let main_v171 : FVec F S8x256x4x16 .f32 := broadcastInDim S8x256x4x16 ![0, 1, 2, 3] bcast_S8x256x4x1_S8x256x4x16_0_1_2_3 main_v170
  let main_v172 : FVec F S8x256x4x16 .f32 := Host.divf main_v168 main_v171
  let main_v173 : FVec F S16 .f32 := sitofp .f32 (iotaInDim S16 32 0)
  let main_v174 : FVec F S1x1x1x16 .f32 := broadcastInDim S1x1x1x16 ![3] bcast_S16_S1x1x1x16_3 main_v173
  let main_v175 : FVec F S8x256x4x16 .f32 := broadcastInDim S8x256x4x16 ![0, 1, 2, 3] bcast_S1x1x1x16_S8x256x4x16_0_1_2_3 main_v174
  let main_v176 : FVec F S8x256x4x16 .f32 := mulf main_v172 main_v175
  let main_cst_25 : FVec F S_ .f32 := constant S_ .f32 0x00000000#32
  let main_v177 : FVec F S8x256x4 .f32 := (fun x v => Host.reduceAdd x v reducesTo_S8x256x4x16_S8x256x4_d3 h_S_) main_v176 main_cst_25
  let main_cst_26 : FVec F S_ .f32 := constant S_ .f32 0x42000000#32
  let main_v178 : FVec F S8x256x4 .f32 := broadcastInDim S8x256x4 ![] bcast_S_S8x256x4 main_cst_26
  let main_v179 : FVec F S8x256x4 .f32 := mulf main_v177 main_v178
  let main_v180 : FVec F S256x1 .f32 := (extractStridedSlice S256x1 ![0, 0] · slices_S256x2_S256x1_0_0) main_v161
  let main_v181 : FVec F S256 .f32 := shapeCast S256 main_v180 shapeCasts_S256x1_S256
  let main_v182 : FVec F S1x256 .f32 := broadcastInDim S1x256 ![1] bcast_S256_S1x256_1 main_v181
  let main_v183 : FVec F S256x1 .f32 := (extractStridedSlice S256x1 ![0, 1] · slices_S256x2_S256x1_0_1) main_v161
  let main_v184 : FVec F S256 .f32 := shapeCast S256 main_v183 shapeCasts_S256x1_S256
  let main_v185 : FVec F S1x256 .f32 := broadcastInDim S1x256 ![1] bcast_S256_S1x256_1 main_v184
  let main_v186 : FVec F S8x256x1 .f32 := (extractStridedSlice S8x256x1 ![0, 0, 0] · slices_S8x256x4_S8x256x1_0_0_0) main_v179
  fn_part9 (F := F) main_arg3 main_arg4 main_v2 main_v5 main_v8 main_v13 main_v31 main_v33 main_v76 main_v78 main_v96 main_v98 main_v141 main_v143 main_v145 main_v161 main_v163 main_v179 main_v182 main_v185 main_v186

def fn_part7 {F : FTy → Type} [FloatOps F] (main_arg3 : FVec F S8x20x4 .f32) (main_arg4 : IVec S8x20 32) (main_v2 : IVec S8x144x64x64 1) (main_v5 : IVec S8x144x32x32 1) (main_v8 : IVec S8x144x16x16 1) (main_v13 : IVec S8x20 1) (main_v31 : FVec F S4096x2 .f32) (main_v33 : FVec F S8x4096x4x16 .f32) (main_v76 : FVec F S8x4096x4 .f32) (main_v78 : FVec F S8x4096x80 .f32) (main_v96 : FVec F S1024x2 .f32) (main_v98 : FVec F S8x1024x4x16 .f32) (main_v141 : FVec F S8x1024x4 .f32) (main_v143 : FVec F S8x1024x80 .f32) (main_v144 : FVec F S8x64x16x16 .f32) (main_v145 : FVec F S8x80x16x16 .f32) (main_v146 : FVec F S16 .f32) : IVec S8x144x64x64 1 × IVec S8x144x32x32 1 × IVec S8x144x16x16 1 × IVec S8x20 1 × IVec S8x20x10 1 :=
  let main_v147 : FVec F S16 .f32 := sitofp .f32 (iotaInDim S16 32 0)
  let main_v148 : FVec F S16x16 .f32 := broadcastInDim S16x16 ![0] bcast_S16_S16x16_0 main_v146
  let main_v149 : FVec F S16x16 .f32 := broadcastInDim S16x16 ![1] bcast_S16_S16x16_1 main_v147
  let main_cst_19 : FVec F S_ .f32 := constant S_ .f32 0x3F000000#32
  let main_v150 : FVec F S16x16 .f32 := broadcastInDim S16x16 ![] bcast_S_S16x16 main_cst_19
  let main_v151 : FVec F S16x16 .f32 := addf main_v149 main_v150
  let main_cst_20 : FVec F S_ .f32 := constant S_ .f32 0x42000000#32
  let main_v152 : FVec F S16x16 .f32 := broadcastInDim S16x16 ![] bcast_S_S16x16 main_cst_20
  let main_v153 : FVec F S16x16 .f32 := mulf main_v151 main_v152
  let main_cst_21 : FVec F S_ .f32 := constant S_ .f32 0x3F000000#32
  let main_v154 : FVec F S16x16 .f32 := broadcastInDim S16x16 ![] bcast_S_S16x16 main_cst_21
  let main_v155 : FVec F S16x16 .f32 := addf main_v148 main_v154
  let main_cst_22 : FVec F S_ .f32 := constant S_ .f32 0x42000000#32
  let main_v156 : FVec F S16x16 .f32 := broadcastInDim S16x16 ![] bcast_S_S16x16 main_cst_22
  let main_v157 : FVec F S16x16 .f32 := mulf main_v155 main_v156
  let main_v158 : FVec F S16x16x1 .f32 := broadcastInDim S16x16x1 ![0, 1] bcast_S16x16_S16x16x1_0_1 main_v153
  let main_v159 : FVec F S16x16x1 .f32 := broadcastInDim S16x16x1 ![0, 1] bcast_S16x16_S16x16x1_0_1 main_v157
  let main_v160 : FVec F S16x16x2 .f32 := (fun a b => concatenate S16x16x2 2 [⟨S16x16x1, a⟩, ⟨S16x16x1, b⟩] concatenates_S16x16x1_S16x16x1_S16x16x2_d2) main_v158 main_v159
  let main_v161 : FVec F S256x2 .f32 := shapeCast S256x2 main_v160 shapeCasts_S16x16x2_S256x2
  let main_v162 : FVec F S8x16x16x64 .f32 := (transpose S8x16x16x64 [0, 2, 3, 1] · transposes_S8x64x16x16_S8x16x16x64_0_2_3_1) main_v144
  let main_v163 : FVec F S8x256x4x16 .f32 := shapeCast S8x256x4x16 main_v162 shapeCasts_S8x16x16x64_S8x256x4x16
  let main_cst_23 : FVec F S_ .f32 := constant S_ .f32 0xFF800000#32
  let main_v164 : FVec F S8x256x4 .f32 := (fun x v => Host.reduce FloatOps.maximumf x v reducesTo_S8x256x4x16_S8x256x4_d3 h_S_) main_v163 main_cst_23
  let main_v165 : FVec F S8x256x4x1 .f32 := broadcastInDim S8x256x4x1 ![0, 1, 2] bcast_S8x256x4_S8x256x4x1_0_1_2 main_v164
  fn_part8 (F := F) main_arg3 main_arg4 main_v2 main_v5 main_v8 main_v13 main_v31 main_v33 main_v76 main_v78 main_v96 main_v98 main_v141 main_v143 main_v145 main_v161 main_v163 main_v165

def fn_part6 {F : FTy → Type} [FloatOps F] (main_arg2 : FVec F S8x144x16x16 .f32) (main_arg3 : FVec F S8x20x4 .f32) (main_arg4 : IVec S8x20 32) (main_v2 : IVec S8x144x64x64 1) (main_v5 : IVec S8x144x32x32 1) (main_v8 : IVec S8x144x16x16 1) (main_v13 : IVec S8x20 1) (main_v31 : FVec F S4096x2 .f32) (main_v33 : FVec F S8x4096x4x16 .f32) (main_v76 : FVec F S8x4096x4 .f32) (main_v78 : FVec F S8x4096x80 .f32) (main_v80 : FVec F S8x80x32x32 .f32) (main_v96 : FVec F S1024x2 .f32) (main_v98 : FVec F S8x1024x4x16 .f32) (main_v114 : FVec F S8x1024x4 .f32) (main_v117 : FVec F S1x1024 .f32) (main_v120 : FVec F S1x1024 .f32) (main_v122 : FVec F S8x1024 .f32) : IVec S8x144x64x64 1 × IVec S8x144x32x32 1 × IVec S8x144x16x16 1 × IVec S8x20 1 × IVec S8x20x10 1 :=
  let main_v123 : FVec F S8x1024 .f32 := broadcastInDim S8x1024 ![0, 1] bcast_S1x1024_S8x1024_0_1 main_v117
  let main_v124 : FVec F S8x1024 .f32 := subf main_v123 main_v122
  let main_v125 : FVec F S8x1024x1 .f32 := (extractStridedSlice S8x1024x1 ![0, 0, 1] · slices_S8x1024x4_S8x1024x1_0_0_1) main_v114
  let main_v126 : FVec F S8x1024 .f32 := shapeCast S8x1024 main_v125 shapeCasts_S8x1024x1_S8x1024
  let main_v127 : FVec F S8x1024 .f32 := broadcastInDim S8x1024 ![0, 1] bcast_S1x1024_S8x1024_0_1 main_v120
  let main_v128 : FVec F S8x1024 .f32 := subf main_v127 main_v126
  let main_v129 : FVec F S8x1024x1 .f32 := (extractStridedSlice S8x1024x1 ![0, 0, 2] · slices_S8x1024x4_S8x1024x1_0_0_2) main_v114
  let main_v130 : FVec F S8x1024 .f32 := shapeCast S8x1024 main_v129 shapeCasts_S8x1024x1_S8x1024
  let main_v131 : FVec F S8x1024 .f32 := broadcastInDim S8x1024 ![0, 1] bcast_S1x1024_S8x1024_0_1 main_v117
  let main_v132 : FVec F S8x1024 .f32 := addf main_v131 main_v130
  let main_v133 : FVec F S8x1024x1 .f32 := (extractStridedSlice S8x1024x1 ![0, 0, 3] · slices_S8x1024x4_S8x1024x1_0_0_3) main_v114
  let main_v134 : FVec F S8x1024 .f32 := shapeCast S8x1024 main_v133 shapeCasts_S8x1024x1_S8x1024
  let main_v135 : FVec F S8x1024 .f32 := broadcastInDim S8x1024 ![0, 1] bcast_S1x1024_S8x1024_0_1 main_v120
  let main_v136 : FVec F S8x1024 .f32 := addf main_v135 main_v134
  let main_v137 : FVec F S8x1024x1 .f32 := broadcastInDim S8x1024x1 ![0, 1] bcast_S8x1024_S8x1024x1_0_1 main_v124
  let main_v138 : FVec F S8x1024x1 .f32 := broadcastInDim S8x1024x1 ![0, 1] bcast_S8x1024_S8x1024x1_0_1 main_v128
  let main_v139 : FVec F S8x1024x1 .f32 := broadcastInDim S8x1024x1 ![0, 1] bcast_S8x1024_S8x1024x1_0_1 main_v132
  let main_v140 : FVec F S8x1024x1 .f32 := broadcastInDim S8x1024x1 ![0, 1] bcast_S8x1024_S8x1024x1_0_1 main_v136
  let main_v141 : FVec F S8x1024x4 .f32 := concatenate S8x1024x4 2 [⟨S8x1024x1, main_v137⟩, ⟨S8x1024x1, main_v138⟩, ⟨S8x1024x1, main_v139⟩, ⟨S8x1024x1, main_v140⟩] concatenates_S8x1024x1_S8x1024x1_S8x1024x1_S8x1024x1_S8x1024x4_d2
  let main_v142 : FVec F S8x32x32x80 .f32 := (transpose S8x32x32x80 [0, 2, 3, 1] · transposes_S8x80x32x32_S8x32x32x80_0_2_3_1) main_v80
  let main_v143 : FVec F S8x1024x80 .f32 := shapeCast S8x1024x80 main_v142 shapeCasts_S8x32x32x80_S8x1024x80
  let main_v144 : FVec F S8x64x16x16 .f32 := (extractStridedSlice S8x64x16x16 ![0, 0, 0, 0] · slices_S8x144x16x16_S8x64x16x16_0_0_0_0) main_arg2
  let main_v145 : FVec F S8x80x16x16 .f32 := (extractStridedSlice S8x80x16x16 ![0, 64, 0, 0] · slices_S8x144x16x16_S8x80x16x16_0_64_0_0) main_arg2
  let main_v146 : FVec F S16 .f32 := sitofp .f32 (iotaInDim S16 32 0)
  fn_part7 (F := F) main_arg3 main_arg4 main_v2 main_v5 main_v8 main_v13 main_v31 main_v33 main_v76 main_v78 main_v96 main_v98 main_v141 main_v143 main_v144 main_v145 main_v146

def fn_part5 {F : FTy → Type} [FloatOps F] (main_arg2 : FVec F S8x144x16x16 .f32) (main_arg3 : FVec F S8x20x4 .f32) (main_arg4 : IVec S8x20 32) (main_v2 : IVec S8x144x64x64 1) (main_v5 : IVec S8x144x32x32 1) (main_v8 : IVec S8x144x16x16 1) (main_v13 : IVec S8x20 1) (main_v31 : FVec F S4096x2 .f32) (main_v33 : FVec F S8x4096x4x16 .f32) (main_v76 : FVec F S8x4096x4 .f32) (main_v78 : FVec F S8x4096x80 .f32) (main_v80 : FVec F S8x80x32x32 .f32) (main_v96 : FVec F S1024x2 .f32) (main_v98 : FVec F S8x1024x4x16 .f32) (main_v101 : FVec F S8x1024x4x16 .f32) : IVec S8x144x64x64 1 × IVec S8x144x32x32 1 × IVec S8x144x16x16 1 × IVec S8x20 1 × IVec S8x20x10 1 :=
  let main_v102 : FVec F S8x1024x4x16 .f32 := subf main_v98 main_v101
  let main_v103 : FVec F S8x1024x4x16 .f32 := Host.exp main_v102
  let main_cst_16 : FVec F S_ .f32 := constant S_ .f32 0x00000000#32
  let main_v104 : FVec F S8x1024x4 .f32 := (fun x v => Host.reduceAdd x v reducesTo_S8x1024x4x16_S8x1024x4_d3 h_S_) main_v103 main_cst_16
  let main_v105 : FVec F S8x1024x4x1 .f32 := broadcastInDim S8x1024x4x1 ![0, 1, 2] bcast_S8x1024x4_S8x1024x4x1_0_1_2 main_v104
  let main_v106 : FVec F S8x1024x4x16 .f32 := broadcastInDim S8x1024x4x16 ![0, 1, 2, 3] bcast_S8x1024x4x1_S8x1024x4x16_0_1_2_3 main_v105
  let main_v107 : FVec F S8x1024x4x16 .f32 := Host.divf main_v103 main_v106
  let main_v108 : FVec F S16 .f32 := sitofp .f32 (iotaInDim S16 32 0)
  let main_v109 : FVec F S1x1x1x16 .f32 := broadcastInDim S1x1x1x16 ![3] bcast_S16_S1x1x1x16_3 main_v108
  let main_v110 : FVec F S8x1024x4x16 .f32 := broadcastInDim S8x1024x4x16 ![0, 1, 2, 3] bcast_S1x1x1x16_S8x1024x4x16_0_1_2_3 main_v109
  let main_v111 : FVec F S8x1024x4x16 .f32 := mulf main_v107 main_v110
  let main_cst_17 : FVec F S_ .f32 := constant S_ .f32 0x00000000#32
  let main_v112 : FVec F S8x1024x4 .f32 := (fun x v => Host.reduceAdd x v reducesTo_S8x1024x4x16_S8x1024x4_d3 h_S_) main_v111 main_cst_17
  let main_cst_18 : FVec F S_ .f32 := constant S_ .f32 0x41800000#32
  let main_v113 : FVec F S8x1024x4 .f32 := broadcastInDim S8x1024x4 ![] bcast_S_S8x1024x4 main_cst_18
  let main_v114 : FVec F S8x1024x4 .f32 := mulf main_v112 main_v113
  let main_v115 : FVec F S1024x1 .f32 := (extractStridedSlice S1024x1 ![0, 0] · slices_S1024x2_S1024x1_0_0) main_v96
  let main_v116 : FVec F S1024 .f32 := shapeCast S1024 main_v115 shapeCasts_S1024x1_S1024
  let main_v117 : FVec F S1x1024 .f32 := broadcastInDim S1x1024 ![1] bcast_S1024_S1x1024_1 main_v116
  let main_v118 : FVec F S1024x1 .f32 := (extractStridedSlice S1024x1 ![0, 1] · slices_S1024x2_S1024x1_0_1) main_v96
  let main_v119 : FVec F S1024 .f32 := shapeCast S1024 main_v118 shapeCasts_S1024x1_S1024
  let main_v120 : FVec F S1x1024 .f32 := broadcastInDim S1x1024 ![1] bcast_S1024_S1x1024_1 main_v119
  let main_v121 : FVec F S8x1024x1 .f32 := (extractStridedSlice S8x1024x1 ![0, 0, 0] · slices_S8x1024x4_S8x1024x1_0_0_0) main_v114
  let main_v122 : FVec F S8x1024 .f32 := shapeCast S8x1024 main_v121 shapeCasts_S8x1024x1_S8x1024
  fn_part6 (F := F) main_arg2 main_arg3 main_arg4 main_v2 main_v5 main_v8 main_v13 main_v31 main_v33 main_v76 main_v78 main_v80 main_v96 main_v98 main_v114 main_v117 main_v120 main_v122

def fn_part4 {F : FTy → Type} [FloatOps F] (main_arg2 : FVec F S8x144x16x16 .f32) (main_arg3 : FVec F S8x20x4 .f32) (main_arg4 : IVec S8x20 32) (main_v2 : IVec S8x144x64x64 1) (main_v5 : IVec S8x144x32x32 1) (main_v8 : IVec S8x144x16x16 1) (main_v13 : IVec S8x20 1) (main_v31 : FVec F S4096x2 .f32) (main_v33 : FVec F S8x4096x4x16 .f32) (main_v76 : FVec F S8x4096x4 .f32) (main_v78 : FVec F S8x4096x80 .f32) (main_v79 : FVec F S8x64x32x32 .f32) (main_v80 : FVec F S8x80x32x32 .f32) (main_v81 : FVec F S32 .f32) (main_v82 : FVec F S32 .f32) : IVec S8x144x64x64 1 × IVec S8x144x32x32 1 × IVec S8x144x16x16 1 × IVec S8x20 1 × IVec S8x20x10 1 :=
  let main_v83 : FVec F S32x32 .f32 := broadcastInDim S32x32 ![0] bcast_S32_S32x32_0 main_v81
  let main_v84 : FVec F S32x32 .f32 := broadcastInDim S32x32 ![1] bcast_S32_S32x32_1 main_v82
  let main_cst_11 : FVec F S_ .f32 := constant S_ .f32 0x3F000000#32
  let main_v85 : FVec F S32x32 .f32 := broadcastInDim S32x32 ![] bcast_S_S32x32 main_cst_11
  let main_v86 : FVec F S32x32 .f32 := addf main_v84 main_v85
  let main_cst_12 : FVec F S_ .f32 := constant S_ .f32 0x41800000#32
  let main_v87 : FVec F S32x32 .f32 := broadcastInDim S32x32 ![] bcast_S_S32x32 main_cst_12
  let main_v88 : FVec F S32x32 .f32 := mulf main_v86 main_v87
  let main_cst_13 : FVec F S_ .f32 := constant S_ .f32 0x3F000000#32
  let main_v89 : FVec F S32x32 .f32 := broadcastInDim S32x32 ![] bcast_S_S32x32 main_cst_13
  let main_v90 : FVec F S32x32 .f32 := addf main_v83 main_v89
  let main_cst_14 : FVec F S_ .f32 := constant S_ .f32 0x41800000#32
  let main_v91 : FVec F S32x32 .f32 := broadcastInDim S32x32 ![] bcast_S_S32x32 main_cst_14
  let main_v92 : FVec F S32x32 .f32 := mulf main_v90 main_v91
  let main_v93 : FVec F S32x32x1 .f32 := broadcastInDim S32x32x1 ![0, 1] bcast_S32x32_S32x32x1_0_1 main_v88
  let main_v94 : FVec F S32x32x1 .f32 := broadcastInDim S32x32x1 ![0, 1] bcast_S32x32_S32x32x1_0_1 main_v92
  let main_v95 : FVec F S32x32x2 .f32 := (fun a b => concatenate S32x32x2 2 [⟨S32x32x1, a⟩, ⟨S32x32x1, b⟩] concatenates_S32x32x1_S32x32x1_S32x32x2_d2) main_v93 main_v94
  let main_v96 : FVec F S1024x2 .f32 := shapeCast S1024x2 main_v95 shapeCasts_S32x32x2_S1024x2
  let main_v97 : FVec F S8x32x32x64 .f32 := (transpose S8x32x32x64 [0, 2, 3, 1] · transposes_S8x64x32x32_S8x32x32x64_0_2_3_1) main_v79
  let main_v98 : FVec F S8x1024x4x16 .f32 := shapeCast S8x1024x4x16 main_v97 shapeCasts_S8x32x32x64_S8x1024x4x16
  let main_cst_15 : FVec F S_ .f32 := constant S_ .f32 0xFF800000#32
  let main_v99 : FVec F S8x1024x4 .f32 := (fun x v => Host.reduce FloatOps.maximumf x v reducesTo_S8x1024x4x16_S8x1024x4_d3 h_S_) main_v98 main_cst_15
  let main_v100 : FVec F S8x1024x4x1 .f32 := broadcastInDim S8x1024x4x1 ![0, 1, 2] bcast_S8x1024x4_S8x1024x4x1_0_1_2 main_v99
  let main_v101 : FVec F S8x1024x4x16 .f32 := broadcastInDim S8x1024x4x16 ![0, 1, 2, 3] bcast_S8x1024x4x1_S8x1024x4x16_0_1_2_3 main_v100
  fn_part5 (F := F) main_arg2 main_arg3 main_arg4 main_v2 main_v5 main_v8 main_v13 main_v31 main_v33 main_v76 main_v78 main_v80 main_v96 main_v98 main_v101

def fn_part3 {F : FTy → Type} [FloatOps F] (main_arg1 : FVec F S8x144x32x32 .f32) (main_arg2 : FVec F S8x144x16x16 .f32) (main_arg3 : FVec F S8x20x4 .f32) (main_arg4 : IVec S8x20 32) (main_v2 : IVec S8x144x64x64 1) (main_v5 : IVec S8x144x32x32 1) (main_v8 : IVec S8x144x16x16 1) (main_v13 : IVec S8x20 1) (main_v15 : FVec F S8x80x64x64 .f32) (main_v31 : FVec F S4096x2 .f32) (main_v33 : FVec F S8x4096x4x16 .f32) (main_v49 : FVec F S8x4096x4 .f32) (main_v52 : FVec F S1x4096 .f32) (main_v55 : FVec F S1x4096 .f32) (main_v57 : FVec F S8x4096 .f32) (main_v58 : FVec F S8x4096 .f32) : IVec S8x144x64x64 1 × IVec S8x144x32x32 1 × IVec S8x144x16x16 1 × IVec S8x20 1 × IVec S8x20x10 1 :=
  let main_v59 : FVec F S8x4096 .f32 := subf main_v58 main_v57
  let main_v60 : FVec F S8x4096x1 .f32 := (extractStridedSlice S8x4096x1 ![0, 0, 1] · slices_S8x4096x4_S8x4096x1_0_0_1) main_v49
  let main_v61 : FVec F S8x4096 .f32 := shapeCast S8x4096 main_v60 shapeCasts_S8x4096x1_S8x4096
  let main_v62 : FVec F S8x4096 .f32 := broadcastInDim S8x4096 ![0, 1] bcast_S1x4096_S8x4096_0_1 main_v55
  let main_v63 : FVec F S8x4096 .f32 := subf main_v62 main_v61
  let main_v64 : FVec F S8x4096x1 .f32 := (extractStridedSlice S8x4096x1 ![0, 0, 2] · slices_S8x4096x4_S8x4096x1_0_0_2) main_v49
  let main_v65 : FVec F S8x4096 .f32 := shapeCast S8x4096 main_v64 shapeCasts_S8x4096x1_S8x4096
  let main_v66 : FVec F S8x4096 .f32 := broadcastInDim S8x4096 ![0, 1] bcast_S1x4096_S8x4096_0_1 main_v52
  let main_v67 : FVec F S8x4096 .f32 := addf main_v66 main_v65
  let main_v68 : FVec F S8x4096x1 .f32 := (extractStridedSlice S8x4096x1 ![0, 0, 3] · slices_S8x4096x4_S8x4096x1_0_0_3) main_v49
  let main_v69 : FVec F S8x4096 .f32 := shapeCast S8x4096 main_v68 shapeCasts_S8x4096x1_S8x4096
  let main_v70 : FVec F S8x4096 .f32 := broadcastInDim S8x4096 ![0, 1] bcast_S1x4096_S8x4096_0_1 main_v55
  let main_v71 : FVec F S8x4096 .f32 := addf main_v70 main_v69
  let main_v72 : FVec F S8x4096x1 .f32 := broadcastInDim S8x4096x1 ![0, 1] bcast_S8x4096_S8x4096x1_0_1 main_v59
  let main_v73 : FVec F S8x4096x1 .f32 := broadcastInDim S8x4096x1 ![0, 1] bcast_S8x4096_S8x4096x1_0_1 main_v63
  let main_v74 : FVec F S8x4096x1 .f32 := broadcastInDim S8x4096x1 ![0, 1] bcast_S8x4096_S8x4096x1_0_1 main_v67
  let main_v75 : FVec F S8x4096x1 .f32 := broadcastInDim S8x4096x1 ![0, 1] bcast_S8x4096_S8x4096x1_0_1 main_v71
  let main_v76 : FVec F S8x4096x4 .f32 := concatenate S8x4096x4 2 [⟨S8x4096x1, main_v72⟩, ⟨S8x4096x1, main_v73⟩, ⟨S8x4096x1, main_v74⟩, ⟨S8x4096x1, main_v75⟩] concatenates_S8x4096x1_S8x4096x1_S8x4096x1_S8x4096x1_S8x4096x4_d2
  let main_v77 : FVec F S8x64x64x80 .f32 := (transpose S8x64x64x80 [0, 2, 3, 1] · transposes_S8x80x64x64_S8x64x64x80_0_2_3_1) main_v15
  let main_v78 : FVec F S8x4096x80 .f32 := shapeCast S8x4096x80 main_v77 shapeCasts_S8x64x64x80_S8x4096x80
  let main_v79 : FVec F S8x64x32x32 .f32 := (extractStridedSlice S8x64x32x32 ![0, 0, 0, 0] · slices_S8x144x32x32_S8x64x32x32_0_0_0_0) main_arg1
  let main_v80 : FVec F S8x80x32x32 .f32 := (extractStridedSlice S8x80x32x32 ![0, 64, 0, 0] · slices_S8x144x32x32_S8x80x32x32_0_64_0_0) main_arg1
  let main_v81 : FVec F S32 .f32 := sitofp .f32 (iotaInDim S32 32 0)
  let main_v82 : FVec F S32 .f32 := sitofp .f32 (iotaInDim S32 32 0)
  fn_part4 (F := F) main_arg2 main_arg3 main_arg4 main_v2 main_v5 main_v8 main_v13 main_v31 main_v33 main_v76 main_v78 main_v79 main_v80 main_v81 main_v82

def fn_part2 {F : FTy → Type} [FloatOps F] (main_arg1 : FVec F S8x144x32x32 .f32) (main_arg2 : FVec F S8x144x16x16 .f32) (main_arg3 : FVec F S8x20x4 .f32) (main_arg4 : IVec S8x20 32) (main_v2 : IVec S8x144x64x64 1) (main_v5 : IVec S8x144x32x32 1) (main_v8 : IVec S8x144x16x16 1) (main_v13 : IVec S8x20 1) (main_v15 : FVec F S8x80x64x64 .f32) (main_v31 : FVec F S4096x2 .f32) (main_v33 : FVec F S8x4096x4x16 .f32) (main_v37 : FVec F S8x4096x4x16 .f32) : IVec S8x144x64x64 1 × IVec S8x144x32x32 1 × IVec S8x144x16x16 1 × IVec S8x20 1 × IVec S8x20x10 1 :=
  let main_v38 : FVec F S8x4096x4x16 .f32 := Host.exp main_v37
  let main_cst_8 : FVec F S_ .f32 := constant S_ .f32 0x00000000#32
  let main_v39 : FVec F S8x4096x4 .f32 := (fun x v => Host.reduceAdd x v reducesTo_S8x4096x4x16_S8x4096x4_d3 h_S_) main_v38 main_cst_8
  let main_v40 : FVec F S8x4096x4x1 .f32 := broadcastInDim S8x4096x4x1 ![0, 1, 2] bcast_S8x4096x4_S8x4096x4x1_0_1_2 main_v39
  let main_v41 : FVec F S8x4096x4x16 .f32 := broadcastInDim S8x4096x4x16 ![0, 1, 2, 3] bcast_S8x4096x4x1_S8x4096x4x16_0_1_2_3 main_v40
  let main_v42 : FVec F S8x4096x4x16 .f32 := Host.divf main_v38 main_v41
  let main_v43 : FVec F S16 .f32 := sitofp .f32 (iotaInDim S16 32 0)
  let main_v44 : FVec F S1x1x1x16 .f32 := broadcastInDim S1x1x1x16 ![3] bcast_S16_S1x1x1x16_3 main_v43
  let main_v45 : FVec F S8x4096x4x16 .f32 := broadcastInDim S8x4096x4x16 ![0, 1, 2, 3] bcast_S1x1x1x16_S8x4096x4x16_0_1_2_3 main_v44
  let main_v46 : FVec F S8x4096x4x16 .f32 := mulf main_v42 main_v45
  let main_cst_9 : FVec F S_ .f32 := constant S_ .f32 0x00000000#32
  let main_v47 : FVec F S8x4096x4 .f32 := (fun x v => Host.reduceAdd x v reducesTo_S8x4096x4x16_S8x4096x4_d3 h_S_) main_v46 main_cst_9
  let main_cst_10 : FVec F S_ .f32 := constant S_ .f32 0x41000000#32
  let main_v48 : FVec F S8x4096x4 .f32 := broadcastInDim S8x4096x4 ![] bcast_S_S8x4096x4 main_cst_10
  let main_v49 : FVec F S8x4096x4 .f32 := mulf main_v47 main_v48
  let main_v50 : FVec F S4096x1 .f32 := (extractStridedSlice S4096x1 ![0, 0] · slices_S4096x2_S4096x1_0_0) main_v31
  let main_v51 : FVec F S4096 .f32 := shapeCast S4096 main_v50 shapeCasts_S4096x1_S4096
  let main_v52 : FVec F S1x4096 .f32 := broadcastInDim S1x4096 ![1] bcast_S4096_S1x4096_1 main_v51
  let main_v53 : FVec F S4096x1 .f32 := (extractStridedSlice S4096x1 ![0, 1] · slices_S4096x2_S4096x1_0_1) main_v31
  let main_v54 : FVec F S4096 .f32 := shapeCast S4096 main_v53 shapeCasts_S4096x1_S4096
  let main_v55 : FVec F S1x4096 .f32 := broadcastInDim S1x4096 ![1] bcast_S4096_S1x4096_1 main_v54
  let main_v56 : FVec F S8x4096x1 .f32 := (extractStridedSlice S8x4096x1 ![0, 0, 0] · slices_S8x4096x4_S8x4096x1_0_0_0) main_v49
  let main_v57 : FVec F S8x4096 .f32 := shapeCast S8x4096 main_v56 shapeCasts_S8x4096x1_S8x4096
  let main_v58 : FVec F S8x4096 .f32 := broadcastInDim S8x4096 ![0, 1] bcast_S1x4096_S8x4096_0_1 main_v52
  fn_part3 (F := F) main_arg1 main_arg2 main_arg3 main_arg4 main_v2 main_v5 main_v8 main_v13 main_v15 main_v31 main_v33 main_v49 main_v52 main_v55 main_v57 main_v58

def fn_part1 {F : FTy → Type} [FloatOps F] (main_arg1 : FVec F S8x144x32x32 .f32) (main_arg2 : FVec F S8x144x16x16 .f32) (main_arg3 : FVec F S8x20x4 .f32) (main_arg4 : IVec S8x20 32) (main_v2 : IVec S8x144x64x64 1) (main_v5 : IVec S8x144x32x32 1) (main_v8 : IVec S8x144x16x16 1) (main_v13 : IVec S8x20 1) (main_v14 : FVec F S8x64x64x64 .f32) (main_v15 : FVec F S8x80x64x64 .f32) (main_v17 : FVec F S64 .f32) (main_v18 : FVec F S64x64 .f32) : IVec S8x144x64x64 1 × IVec S8x144x32x32 1 × IVec S8x144x16x16 1 × IVec S8x20 1 × IVec S8x20x10 1 :=
  let main_v19 : FVec F S64x64 .f32 := broadcastInDim S64x64 ![1] bcast_S64_S64x64_1 main_v17
  let main_cst_3 : FVec F S_ .f32 := constant S_ .f32 0x3F000000#32
  let main_v20 : FVec F S64x64 .f32 := broadcastInDim S64x64 ![] bcast_S_S64x64 main_cst_3
  let main_v21 : FVec F S64x64 .f32 := addf main_v19 main_v20
  let main_cst_4 : FVec F S_ .f32 := constant S_ .f32 0x41000000#32
  let main_v22 : FVec F S64x64 .f32 := broadcastInDim S64x64 ![] bcast_S_S64x64 main_cst_4
  let main_v23 : FVec F S64x64 .f32 := mulf main_v21 main_v22
  let main_cst_5 : FVec F S_ .f32 := constant S_ .f32 0x3F000000#32
  let main_v24 : FVec F S64x64 .f32 := broadcastInDim S64x64 ![] bcast_S_S64x64 main_cst_5
  let main_v25 : FVec F S64x64 .f32 := addf main_v18 main_v24
  let main_cst_6 : FVec F S_ .f32 := constant S_ .f32 0x41000000#32
  let main_v26 : FVec F S64x64 .f32 := broadcastInDim S64x64 ![] bcast_S_S64x64 main_cst_6
  let main_v27 : FVec F S64x64 .f32 := mulf main_v25 main_v26
  let main_v28 : FVec F S64x64x1 .f32 := broadcastInDim S64x64x1 ![0, 1] bcast_S64x64_S64x64x1_0_1 main_v23
  let main_v29 : FVec F S64x64x1 .f32 := broadcastInDim S64x64x1 ![0, 1] bcast_S64x64_S64x64x1_0_1 main_v27
  let main_v30 : FVec F S64x64x2 .f32 := (fun a b => concatenate S64x64x2 2 [⟨S64x64x1, a⟩, ⟨S64x64x1, b⟩] concatenates_S64x64x1_S64x64x1_S64x64x2_d2) main_v28 main_v29
  let main_v31 : FVec F S4096x2 .f32 := shapeCast S4096x2 main_v30 shapeCasts_S64x64x2_S4096x2
  let main_v32 : FVec F S8x64x64x64 .f32 := (transpose S8x64x64x64 [0, 2, 3, 1] · transposes_S8x64x64x64_S8x64x64x64_0_2_3_1) main_v14
  let main_v33 : FVec F S8x4096x4x16 .f32 := shapeCast S8x4096x4x16 main_v32 shapeCasts_S8x64x64x64_S8x4096x4x16
  let main_cst_7 : FVec F S_ .f32 := constant S_ .f32 0xFF800000#32
  let main_v34 : FVec F S8x4096x4 .f32 := (fun x v => Host.reduce FloatOps.maximumf x v reducesTo_S8x4096x4x16_S8x4096x4_d3 h_S_) main_v33 main_cst_7
  let main_v35 : FVec F S8x4096x4x1 .f32 := broadcastInDim S8x4096x4x1 ![0, 1, 2] bcast_S8x4096x4_S8x4096x4x1_0_1_2 main_v34
  let main_v36 : FVec F S8x4096x4x16 .f32 := broadcastInDim S8x4096x4x16 ![0, 1, 2, 3] bcast_S8x4096x4x1_S8x4096x4x16_0_1_2_3 main_v35
  let main_v37 : FVec F S8x4096x4x16 .f32 := subf main_v33 main_v36
  fn_part2 (F := F) main_arg1 main_arg2 main_arg3 main_arg4 main_v2 main_v5 main_v8 main_v13 main_v15 main_v31 main_v33 main_v37

def fn {F : FTy → Type} [FloatOps F] (main_arg0 : FVec F S8x144x64x64 .f32) (main_arg1 : FVec F S8x144x32x32 .f32) (main_arg2 : FVec F S8x144x16x16 .f32) (main_arg3 : FVec F S8x20x4 .f32) (main_arg4 : IVec S8x20 32) : IVec S8x144x64x64 1 × IVec S8x144x32x32 1 × IVec S8x144x16x16 1 × IVec S8x20 1 × IVec S8x20x10 1 :=
  let main_v0 : FVec F S8x144x64x64 .f32 := Host.absf main_arg0
  let main_cst : FVec F S_ .f32 := constant S_ .f32 0x7F800000#32
  let main_v1 : FVec F S8x144x64x64 .f32 := broadcastInDim S8x144x64x64 ![] bcast_S_S8x144x64x64 main_cst
  let main_v2 : IVec S8x144x64x64 1 := cmpf .olt main_v0 main_v1
  let main_v3 : FVec F S8x144x32x32 .f32 := Host.absf main_arg1
  let main_cst_0 : FVec F S_ .f32 := constant S_ .f32 0x7F800000#32
  let main_v4 : FVec F S8x144x32x32 .f32 := broadcastInDim S8x144x32x32 ![] bcast_S_S8x144x32x32 main_cst_0
  let main_v5 : IVec S8x144x32x32 1 := cmpf .olt main_v3 main_v4
  let main_v6 : FVec F S8x144x16x16 .f32 := Host.absf main_arg2
  let main_cst_1 : FVec F S_ .f32 := constant S_ .f32 0x7F800000#32
  let main_v7 : FVec F S8x144x16x16 .f32 := broadcastInDim S8x144x16x16 ![] bcast_S_S8x144x16x16 main_cst_1
  let main_v8 : IVec S8x144x16x16 1 := cmpf .olt main_v6 main_v7
  let main_c : IVec S_ 32 := constantI S_ 32 0#32
  let main_v9 : IVec S8x20 32 := broadcastInDim S8x20 ![] bcast_S_S8x20 main_c
  let main_v10 : IVec S8x20 1 := cmpi .sge main_arg4 main_v9
  let main_c_2 : IVec S_ 32 := constantI S_ 32 80#32
  let main_v11 : IVec S8x20 32 := broadcastInDim S8x20 ![] bcast_S_S8x20 main_c_2
  let main_v12 : IVec S8x20 1 := cmpi .slt main_arg4 main_v11
  let main_v13 : IVec S8x20 1 := andi main_v10 main_v12
  let main_v14 : FVec F S8x64x64x64 .f32 := (extractStridedSlice S8x64x64x64 ![0, 0, 0, 0] · slices_S8x144x64x64_S8x64x64x64_0_0_0_0) main_arg0
  let main_v15 : FVec F S8x80x64x64 .f32 := (extractStridedSlice S8x80x64x64 ![0, 64, 0, 0] · slices_S8x144x64x64_S8x80x64x64_0_64_0_0) main_arg0
  let main_v16 : FVec F S64 .f32 := sitofp .f32 (iotaInDim S64 32 0)
  let main_v17 : FVec F S64 .f32 := sitofp .f32 (iotaInDim S64 32 0)
  let main_v18 : FVec F S64x64 .f32 := broadcastInDim S64x64 ![0] bcast_S64_S64x64_0 main_v16
  fn_part1 (F := F) main_arg1 main_arg2 main_arg3 main_arg4 main_v2 main_v5 main_v8 main_v13 main_v14 main_v15 main_v17 main_v18
-- ==== Kernel.lean ====
abbrev S8x144x64x64 : Shape := ⟨4, ![8, 144, 64, 64]⟩
abbrev S8x144x32x32 : Shape := ⟨4, ![8, 144, 32, 32]⟩
abbrev S8x144x16x16 : Shape := ⟨4, ![8, 144, 16, 16]⟩
abbrev S8x20x4 : Shape := ⟨3, ![8, 20, 4]⟩
abbrev S8x20 : Shape := ⟨2, ![8, 20]⟩
abbrev S8x5376 : Shape := ⟨2, ![8, 5376]⟩
abbrev S8x144x4096 : Shape := ⟨3, ![8, 144, 4096]⟩
abbrev S8x144x1024 : Shape := ⟨3, ![8, 144, 1024]⟩
abbrev S8x144x256 : Shape := ⟨3, ![8, 144, 256]⟩
abbrev S8x4x20 : Shape := ⟨3, ![8, 4, 20]⟩
abbrev S8x20x1 : Shape := ⟨3, ![8, 20, 1]⟩
abbrev S8x1x4 : Shape := ⟨3, ![8, 1, 4]⟩
abbrev S1x144x4096 : Shape := ⟨3, ![1, 144, 4096]⟩
abbrev S1x144x1024 : Shape := ⟨3, ![1, 144, 1024]⟩
abbrev S1x144x256 : Shape := ⟨3, ![1, 144, 256]⟩
abbrev S1x20x4 : Shape := ⟨3, ![1, 20, 4]⟩
abbrev S1x4x20 : Shape := ⟨3, ![1, 4, 20]⟩
abbrev S1x20x1 : Shape := ⟨3, ![1, 20, 1]⟩
abbrev S1x1x4 : Shape := ⟨3, ![1, 1, 4]⟩
abbrev S1x5376 : Shape := ⟨2, ![1, 5376]⟩
abbrev S1x80x4096 : Shape := ⟨3, ![1, 80, 4096]⟩
abbrev S80x4096 : Shape := ⟨2, ![80, 4096]⟩
abbrev S1x80x1024 : Shape := ⟨3, ![1, 80, 1024]⟩
abbrev S80x1024 : Shape := ⟨2, ![80, 1024]⟩
abbrev S1x80x256 : Shape := ⟨3, ![1, 80, 256]⟩
abbrev S80x256 : Shape := ⟨2, ![80, 256]⟩
abbrev S80x5376 : Shape := ⟨2, ![80, 5376]⟩
abbrev S1x64x4096 : Shape := ⟨3, ![1, 64, 4096]⟩
abbrev S64x4096 : Shape := ⟨2, ![64, 4096]⟩
abbrev S1x64x1024 : Shape := ⟨3, ![1, 64, 1024]⟩
abbrev S64x1024 : Shape := ⟨2, ![64, 1024]⟩
abbrev S1x64x256 : Shape := ⟨3, ![1, 64, 256]⟩
abbrev S64x256 : Shape := ⟨2, ![64, 256]⟩
abbrev S64x5376 : Shape := ⟨2, ![64, 5376]⟩
abbrev S20x4 : Shape := ⟨2, ![20, 4]⟩
abbrev S4x20 : Shape := ⟨2, ![4, 20]⟩
abbrev S20x1 : Shape := ⟨2, ![20, 1]⟩
abbrev S8x64 : Shape := ⟨2, ![8, 64]⟩
abbrev S4x5376 : Shape := ⟨2, ![4, 5376]⟩
abbrev S20x80 : Shape := ⟨2, ![20, 80]⟩
abbrev S20x5376 : Shape := ⟨2, ![20, 5376]⟩
abbrev S20 : Shape := ⟨1, ![20]⟩
abbrev S1x20 : Shape := ⟨2, ![1, 20]⟩
abbrev S20x20 : Shape := ⟨2, ![20, 20]⟩
abbrev S5376 : Shape := ⟨1, ![5376]⟩
abbrev S1x80 : Shape := ⟨2, ![1, 80]⟩
abbrev S1x1x5376 : Shape := ⟨3, ![1, 1, 5376]⟩
abbrev S1 : Shape := ⟨1, ![1]⟩
abbrev S1x1x1 : Shape := ⟨3, ![1, 1, 1]⟩
abbrev S42x128 : Shape := ⟨2, ![42, 128]⟩
abbrev S1x42x128 : Shape := ⟨3, ![1, 42, 128]⟩
abbrev S16x5376 : Shape := ⟨2, ![16, 5376]⟩
abbrev S1x16 : Shape := ⟨2, ![1, 16]⟩
abbrev S_ : Shape := ⟨0, ![]⟩
abbrev S4 : Shape := ⟨1, ![4]⟩
abbrev S3 : Shape := ⟨1, ![3]⟩

abbrev nBuf : Space → Nat
  | .hbm => 36
  | .vmem => 13
  | .smem => 2
  | _ => 0

abbrev bufTy : (tb : Table) → Fin (tcTables nBuf tb) → BufTy
  | .hbm, ⟨0, _⟩ => ⟨S8x144x64x64, .f32⟩
  | .hbm, ⟨1, _⟩ => ⟨S8x144x32x32, .f32⟩
  | .hbm, ⟨2, _⟩ => ⟨S8x144x16x16, .f32⟩
  | .hbm, ⟨3, _⟩ => ⟨S8x20x4, .f32⟩
  | .hbm, ⟨4, _⟩ => ⟨S8x20, .i32⟩
  | .hbm, ⟨5, _⟩ => ⟨S8x5376, .f32⟩
  | .hbm, ⟨6, _⟩ => ⟨S8x144x4096, .f32⟩
  | .hbm, ⟨7, _⟩ => ⟨S8x144x1024, .f32⟩
  | .hbm, ⟨8, _⟩ => ⟨S8x144x256, .f32⟩
  | .hbm, ⟨9, _⟩ => ⟨S8x4x20, .f32⟩
  | .hbm, ⟨10, _⟩ => ⟨S8x20x1, .i32⟩
  | .hbm, ⟨11, _⟩ => ⟨S8x1x4, .f32⟩
  | .hbm, ⟨12, _⟩ => ⟨S_, .f32⟩
  | .hbm, ⟨13, _⟩ => ⟨S4, .f32⟩
  | .hbm, ⟨14, _⟩ => ⟨S1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1, .f32⟩
  | .hbm, ⟨31, _⟩ => ⟨S1, .f32⟩
  | .hbm, ⟨32, _⟩ => ⟨S1, .f32⟩
  | .hbm, ⟨33, _⟩ => ⟨S3, .f32⟩
  | .hbm, ⟨34, _⟩ => ⟨S3, .f32⟩
  | .hbm, ⟨35, _⟩ => ⟨S3, .f32⟩
  | .local _ .vmem, ⟨0, _⟩ => ⟨S8x5376, .f32⟩
  | .local _ .vmem, ⟨1, _⟩ => ⟨S1x144x4096, .f32⟩
  | .local _ .vmem, ⟨2, _⟩ => ⟨S1x144x4096, .f32⟩
  | .local _ .vmem, ⟨3, _⟩ => ⟨S1x144x1024, .f32⟩
  | .local _ .vmem, ⟨4, _⟩ => ⟨S1x144x1024, .f32⟩
  | .local _ .vmem, ⟨5, _⟩ => ⟨S1x144x256, .f32⟩
  | .local _ .vmem, ⟨6, _⟩ => ⟨S1x144x256, .f32⟩
  | .local _ .vmem, ⟨7, _⟩ => ⟨S1x20x4, .f32⟩
  | .local _ .vmem, ⟨8, _⟩ => ⟨S1x20x4, .f32⟩
  | .local _ .vmem, ⟨9, _⟩ => ⟨S1x4x20, .f32⟩
  | .local _ .vmem, ⟨10, _⟩ => ⟨S1x4x20, .f32⟩
  | .local _ .vmem, ⟨11, _⟩ => ⟨S1x20x1, .i32⟩
  | .local _ .vmem, ⟨12, _⟩ => ⟨S1x20x1, .i32⟩
  | .local _ .smem, ⟨0, _⟩ => ⟨S1x1x4, .f32⟩
  | .local _ .smem, ⟨1, _⟩ => ⟨S1x1x4, .f32⟩
  | _, _ => ⟨S8x144x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.smem, 0, rfl⟩
abbrev cc0_stg7_1 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x5376 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x144x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x144x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x144x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x20x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x20 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x20x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .smem S1x1x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8x144x64x64 : Shape := ⟨4, ![8, 144, 64, 64]⟩
abbrev S8x144x32x32 : Shape := ⟨4, ![8, 144, 32, 32]⟩
abbrev S8x144x16x16 : Shape := ⟨4, ![8, 144, 16, 16]⟩
abbrev S8x20x4 : Shape := ⟨3, ![8, 20, 4]⟩
abbrev S8x20 : Shape := ⟨2, ![8, 20]⟩
abbrev S8x64x64x64 : Shape := ⟨4, ![8, 64, 64, 64]⟩
abbrev S8x80x64x64 : Shape := ⟨4, ![8, 80, 64, 64]⟩
abbrev S64 : Shape := ⟨1, ![64]⟩
abbrev S64x64 : Shape := ⟨2, ![64, 64]⟩
abbrev S_ : Shape := ⟨0, ![]⟩
abbrev S64x64x1 : Shape := ⟨3, ![64, 64, 1]⟩
abbrev S64x64x2 : Shape := ⟨3, ![64, 64, 2]⟩
abbrev S4096x2 : Shape := ⟨2, ![4096, 2]⟩
abbrev S8x4096x4x16 : Shape := ⟨4, ![8, 4096, 4, 16]⟩
abbrev S8x4096x4 : Shape := ⟨3, ![8, 4096, 4]⟩
abbrev S8x4096x4x1 : Shape := ⟨4, ![8, 4096, 4, 1]⟩
abbrev S16 : Shape := ⟨1, ![16]⟩
abbrev S1x1x1x16 : Shape := ⟨4, ![1, 1, 1, 16]⟩
abbrev S4096x1 : Shape := ⟨2, ![4096, 1]⟩
abbrev S4096 : Shape := ⟨1, ![4096]⟩
abbrev S1x4096 : Shape := ⟨2, ![1, 4096]⟩
abbrev S8x4096x1 : Shape := ⟨3, ![8, 4096, 1]⟩
abbrev S8x4096 : Shape := ⟨2, ![8, 4096]⟩
abbrev S8x64x64x80 : Shape := ⟨4, ![8, 64, 64, 80]⟩
abbrev S8x4096x80 : Shape := ⟨3, ![8, 4096, 80]⟩
abbrev S8x64x32x32 : Shape := ⟨4, ![8, 64, 32, 32]⟩
abbrev S8x80x32x32 : Shape := ⟨4, ![8, 80, 32, 32]⟩
abbrev S32 : Shape := ⟨1, ![32]⟩
abbrev S32x32 : Shape := ⟨2, ![32, 32]⟩
abbrev S32x32x1 : Shape := ⟨3, ![32, 32, 1]⟩
abbrev S32x32x2 : Shape := ⟨3, ![32, 32, 2]⟩
abbrev S1024x2 : Shape := ⟨2, ![1024, 2]⟩
abbrev S8x32x32x64 : Shape := ⟨4, ![8, 32, 32, 64]⟩
abbrev S8x1024x4x16 : Shape := ⟨4, ![8, 1024, 4, 16]⟩
abbrev S8x1024x4 : Shape := ⟨3, ![8, 1024, 4]⟩
abbrev S8x1024x4x1 : Shape := ⟨4, ![8, 1024, 4, 1]⟩
abbrev S1024x1 : Shape := ⟨2, ![1024, 1]⟩
abbrev S1024 : Shape := ⟨1, ![1024]⟩
abbrev S1x1024 : Shape := ⟨2, ![1, 1024]⟩
abbrev S8x1024x1 : Shape := ⟨3, ![8, 1024, 1]⟩
abbrev S8x1024 : Shape := ⟨2, ![8, 1024]⟩
abbrev S8x32x32x80 : Shape := ⟨4, ![8, 32, 32, 80]⟩
abbrev S8x1024x80 : Shape := ⟨3, ![8, 1024, 80]⟩
abbrev S8x64x16x16 : Shape := ⟨4, ![8, 64, 16, 16]⟩
abbrev S8x80x16x16 : Shape := ⟨4, ![8, 80, 16, 16]⟩
abbrev S16x16 : Shape := ⟨2, ![16, 16]⟩
abbrev S16x16x1 : Shape := ⟨3, ![16, 16, 1]⟩
abbrev S16x16x2 : Shape := ⟨3, ![16, 16, 2]⟩
abbrev S256x2 : Shape := ⟨2, ![256, 2]⟩
abbrev S8x16x16x64 : Shape := ⟨4, ![8, 16, 16, 64]⟩
abbrev S8x256x4x16 : Shape := ⟨4, ![8, 256, 4, 16]⟩
abbrev S8x256x4 : Shape := ⟨3, ![8, 256, 4]⟩
abbrev S8x256x4x1 : Shape := ⟨4, ![8, 256, 4, 1]⟩
abbrev S256x1 : Shape := ⟨2, ![256, 1]⟩
abbrev S256 : Shape := ⟨1, ![256]⟩
abbrev S1x256 : Shape := ⟨2, ![1, 256]⟩
abbrev S8x256x1 : Shape := ⟨3, ![8, 256, 1]⟩
abbrev S8x256 : Shape := ⟨2, ![8, 256]⟩
abbrev S8x16x16x80 : Shape := ⟨4, ![8, 16, 16, 80]⟩
abbrev S8x256x80 : Shape := ⟨3, ![8, 256, 80]⟩
abbrev S8x5376x80 : Shape := ⟨3, ![8, 5376, 80]⟩
abbrev S8x5376x4x16 : Shape := ⟨4, ![8, 5376, 4, 16]⟩
abbrev S8x5376x4 : Shape := ⟨3, ![8, 5376, 4]⟩
abbrev S5376x2 : Shape := ⟨2, ![5376, 2]⟩
abbrev S8x20x1 : Shape := ⟨3, ![8, 20, 1]⟩
abbrev S8x5376x1 : Shape := ⟨3, ![8, 5376, 1]⟩
abbrev S8x5376 : Shape := ⟨2, ![8, 5376]⟩
abbrev S8x1x5376 : Shape := ⟨3, ![8, 1, 5376]⟩
abbrev S8x20x5376 : Shape := ⟨3, ![8, 20, 5376]⟩
abbrev S8x1x20 : Shape := ⟨3, ![8, 1, 20]⟩
abbrev S8x5376x20 : Shape := ⟨3, ![8, 5376, 20]⟩
abbrev S8x20x10 : Shape := ⟨3, ![8, 20, 10]⟩
abbrev S8x20x10x1 : Shape := ⟨4, ![8, 20, 10, 1]⟩
abbrev S1x1x1x5376 : Shape := ⟨4, ![1, 1, 1, 5376]⟩
abbrev S8x20x10x5376 : Shape := ⟨4, ![8, 20, 10, 5376]⟩
abbrev S1x1x20 : Shape := ⟨3, ![1, 1, 20]⟩
abbrev S1x1x80 : Shape := ⟨3, ![1, 1, 80]⟩
abbrev S5376x1 : Shape := ⟨2, ![5376, 1]⟩
abbrev S5376 : Shape := ⟨1, ![5376]⟩
abbrev S1x5376 : Shape := ⟨2, ![1, 5376]⟩
abbrev S8x5376x4x1 : Shape := ⟨4, ![8, 5376, 4, 1]⟩
abbrev S8x5376x1x1 : Shape := ⟨4, ![8, 5376, 1, 1]⟩
abbrev S1 : Shape := ⟨1, ![1]⟩
abbrev S3 : Shape := ⟨1, ![3]⟩

abbrev nBuf : Space → Nat
  | .hbm => 963
  | .vmem => 0
  | .smem => 0
  | _ => 0

abbrev hbmTy0_0 (i : Nat) : BufTy := match i % 128 with
  | 0 => ⟨S8x144x64x64, .f32⟩
  | 1 => ⟨S8x144x32x32, .f32⟩
  | 2 => ⟨S8x144x16x16, .f32⟩
  | 3 => ⟨S8x20x4, .f32⟩
  | 4 => ⟨S8x20, .i32⟩
  | 5 => ⟨S8x64x64x64, .f32⟩
  | 6 => ⟨S8x80x64x64, .f32⟩
  | 7 => ⟨S64, .f32⟩
  | 8 => ⟨S64, .f32⟩
  | 9 => ⟨S64x64, .f32⟩
  | 10 => ⟨S64x64, .f32⟩
  | 11 => ⟨S_, .f32⟩
  | 12 => ⟨S64x64, .f32⟩
  | 13 => ⟨S64x64, .f32⟩
  | 14 => ⟨S_, .f32⟩
  | 15 => ⟨S64x64, .f32⟩
  | 16 => ⟨S64x64, .f32⟩
  | 17 => ⟨S_, .f32⟩
  | 18 => ⟨S64x64, .f32⟩
  | 19 => ⟨S64x64, .f32⟩
  | 20 => ⟨S_, .f32⟩
  | 21 => ⟨S64x64, .f32⟩
  | 22 => ⟨S64x64, .f32⟩
  | 23 => ⟨S64x64x1, .f32⟩
  | 24 => ⟨S64x64x1, .f32⟩
  | 25 => ⟨S64x64x2, .f32⟩
  | 26 => ⟨S4096x2, .f32⟩
  | 27 => ⟨S8x64x64x64, .f32⟩
  | 28 => ⟨S8x4096x4x16, .f32⟩
  | 29 => ⟨S_, .f32⟩
  | 30 => ⟨S8x4096x4, .f32⟩
  | 31 => ⟨S8x4096x4x1, .f32⟩
  | 32 => ⟨S8x4096x4x16, .f32⟩
  | 33 => ⟨S8x4096x4x16, .f32⟩
  | 34 => ⟨S8x4096x4x16, .f32⟩
  | 35 => ⟨S_, .f32⟩
  | 36 => ⟨S8x4096x4, .f32⟩
  | 37 => ⟨S8x4096x4x1, .f32⟩
  | 38 => ⟨S8x4096x4x16, .f32⟩
  | 39 => ⟨S8x4096x4x16, .f32⟩
  | 40 => ⟨S16, .f32⟩
  | 41 => ⟨S1x1x1x16, .f32⟩
  | 42 => ⟨S8x4096x4x16, .f32⟩
  | 43 => ⟨S8x4096x4x16, .f32⟩
  | 44 => ⟨S_, .f32⟩
  | 45 => ⟨S8x4096x4, .f32⟩
  | 46 => ⟨S_, .f32⟩
  | 47 => ⟨S8x4096x4, .f32⟩
  | 48 => ⟨S8x4096x4, .f32⟩
  | 49 => ⟨S4096x1, .f32⟩
  | 50 => ⟨S4096, .f32⟩
  | 51 => ⟨S1x4096, .f32⟩
  | 52 => ⟨S4096x1, .f32⟩
  | 53 => ⟨S4096, .f32⟩
  | 54 => ⟨S1x4096, .f32⟩
  | 55 => ⟨S8x4096x1, .f32⟩
  | 56 => ⟨S8x4096, .f32⟩
  | 57 => ⟨S8x4096, .f32⟩
  | 58 => ⟨S8x4096, .f32⟩
  | 59 => ⟨S8x4096x1, .f32⟩
  | 60 => ⟨S8x4096, .f32⟩
  | 61 => ⟨S8x4096, .f32⟩
  | 62 => ⟨S8x4096, .f32⟩
  | 63 => ⟨S8x4096x1, .f32⟩
  | 64 => ⟨S8x4096, .f32⟩
  | 65 => ⟨S8x4096, .f32⟩
  | 66 => ⟨S8x4096, .f32⟩
  | 67 => ⟨S8x4096x1, .f32⟩
  | 68 => ⟨S8x4096, .f32⟩
  | 69 => ⟨S8x4096, .f32⟩
  | 70 => ⟨S8x4096, .f32⟩
  | 71 => ⟨S8x4096x1, .f32⟩
  | 72 => ⟨S8x4096x1, .f32⟩
  | 73 => ⟨S8x4096x1, .f32⟩
  | 74 => ⟨S8x4096x1, .f32⟩
  | 75 => ⟨S8x4096x4, .f32⟩
  | 76 => ⟨S8x64x64x80, .f32⟩
  | 77 => ⟨S8x4096x80, .f32⟩
  | 78 => ⟨S8x64x32x32, .f32⟩
  | 79 => ⟨S8x80x32x32, .f32⟩
  | 80 => ⟨S32, .f32⟩
  | 81 => ⟨S32, .f32⟩
  | 82 => ⟨S32x32, .f32⟩
  | 83 => ⟨S32x32, .f32⟩
  | 84 => ⟨S_, .f32⟩
  | 85 => ⟨S32x32, .f32⟩
  | 86 => ⟨S32x32, .f32⟩
  | 87 => ⟨S_, .f32⟩
  | 88 => ⟨S32x32, .f32⟩
  | 89 => ⟨S32x32, .f32⟩
  | 90 => ⟨S_, .f32⟩
  | 91 => ⟨S32x32, .f32⟩
  | 92 => ⟨S32x32, .f32⟩
  | 93 => ⟨S_, .f32⟩
  | 94 => ⟨S32x32, .f32⟩
  | 95 => ⟨S32x32, .f32⟩
  | 96 => ⟨S32x32x1, .f32⟩
  | 97 => ⟨S32x32x1, .f32⟩
  | 98 => ⟨S32x32x2, .f32⟩
  | 99 => ⟨S1024x2, .f32⟩
  | 100 => ⟨S8x32x32x64, .f32⟩
  | 101 => ⟨S8x1024x4x16, .f32⟩
  | 102 => ⟨S_, .f32⟩
  | 103 => ⟨S8x1024x4, .f32⟩
  | 104 => ⟨S8x1024x4x1, .f32⟩
  | 105 => ⟨S8x1024x4x16, .f32⟩
  | 106 => ⟨S8x1024x4x16, .f32⟩
  | 107 => ⟨S8x1024x4x16, .f32⟩
  | 108 => ⟨S_, .f32⟩
  | 109 => ⟨S8x1024x4, .f32⟩
  | 110 => ⟨S8x1024x4x1, .f32⟩
  | 111 => ⟨S8x1024x4x16, .f32⟩
  | 112 => ⟨S8x1024x4x16, .f32⟩
  | 113 => ⟨S16, .f32⟩
  | 114 => ⟨S1x1x1x16, .f32⟩
  | 115 => ⟨S8x1024x4x16, .f32⟩
  | 116 => ⟨S8x1024x4x16, .f32⟩
  | 117 => ⟨S_, .f32⟩
  | 118 => ⟨S8x1024x4, .f32⟩
  | 119 => ⟨S_, .f32⟩
  | 120 => ⟨S8x1024x4, .f32⟩
  | 121 => ⟨S8x1024x4, .f32⟩
  | 122 => ⟨S1024x1, .f32⟩
  | 123 => ⟨S1024, .f32⟩
  | 124 => ⟨S1x1024, .f32⟩
  | 125 => ⟨S1024x1, .f32⟩
  | 126 => ⟨S1024, .f32⟩
  | 127 => ⟨S1x1024, .f32⟩
  | _ => ⟨S8x144x64x64, .f32⟩

abbrev hbmTy0_1 (i : Nat) : BufTy := match i % 128 with
  | 0 => ⟨S8x1024x1, .f32⟩
  | 1 => ⟨S8x1024, .f32⟩
  | 2 => ⟨S8x1024, .f32⟩
  | 3 => ⟨S8x1024, .f32⟩
  | 4 => ⟨S8x1024x1, .f32⟩
  | 5 => ⟨S8x1024, .f32⟩
  | 6 => ⟨S8x1024, .f32⟩
  | 7 => ⟨S8x1024, .f32⟩
  | 8 => ⟨S8x1024x1, .f32⟩
  | 9 => ⟨S8x1024, .f32⟩
  | 10 => ⟨S8x1024, .f32⟩
  | 11 => ⟨S8x1024, .f32⟩
  | 12 => ⟨S8x1024x1, .f32⟩
  | 13 => ⟨S8x1024, .f32⟩
  | 14 => ⟨S8x1024, .f32⟩
  | 15 => ⟨S8x1024, .f32⟩
  | 16 => ⟨S8x1024x1, .f32⟩
  | 17 => ⟨S8x1024x1, .f32⟩
  | 18 => ⟨S8x1024x1, .f32⟩
  | 19 => ⟨S8x1024x1, .f32⟩
  | 20 => ⟨S8x1024x4, .f32⟩
  | 21 => ⟨S8x32x32x80, .f32⟩
  | 22 => ⟨S8x1024x80, .f32⟩
  | 23 => ⟨S8x64x16x16, .f32⟩
  | 24 => ⟨S8x80x16x16, .f32⟩
  | 25 => ⟨S16, .f32⟩
  | 26 => ⟨S16, .f32⟩
  | 27 => ⟨S16x16, .f32⟩
  | 28 => ⟨S16x16, .f32⟩
  | 29 => ⟨S_, .f32⟩
  | 30 => ⟨S16x16, .f32⟩
  | 31 => ⟨S16x16, .f32⟩
  | 32 => ⟨S_, .f32⟩
  | 33 => ⟨S16x16, .f32⟩
  | 34 => ⟨S16x16, .f32⟩
  | 35 => ⟨S_, .f32⟩
  | 36 => ⟨S16x16, .f32⟩
  | 37 => ⟨S16x16, .f32⟩
  | 38 => ⟨S_, .f32⟩
  | 39 => ⟨S16x16, .f32⟩
  | 40 => ⟨S16x16, .f32⟩
  | 41 => ⟨S16x16x1, .f32⟩
  | 42 => ⟨S16x16x1, .f32⟩
  | 43 => ⟨S16x16x2, .f32⟩
  | 44 => ⟨S256x2, .f32⟩
  | 45 => ⟨S8x16x16x64, .f32⟩
  | 46 => ⟨S8x256x4x16, .f32⟩
  | 47 => ⟨S_, .f32⟩
  | 48 => ⟨S8x256x4, .f32⟩
  | 49 => ⟨S8x256x4x1, .f32⟩
  | 50 => ⟨S8x256x4x16, .f32⟩
  | 51 => ⟨S8x256x4x16, .f32⟩
  | 52 => ⟨S8x256x4x16, .f32⟩
  | 53 => ⟨S_, .f32⟩
  | 54 => ⟨S8x256x4, .f32⟩
  | 55 => ⟨S8x256x4x1, .f32⟩
  | 56 => ⟨S8x256x4x16, .f32⟩
  | 57 => ⟨S8x256x4x16, .f32⟩
  | 58 => ⟨S16, .f32⟩
  | 59 => ⟨S1x1x1x16, .f32⟩
  | 60 => ⟨S8x256x4x16, .f32⟩
  | 61 => ⟨S8x256x4x16, .f32⟩
  | 62 => ⟨S_, .f32⟩
  | 63 => ⟨S8x256x4, .f32⟩
  | 64 => ⟨S_, .f32⟩
  | 65 => ⟨S8x256x4, .f32⟩
  | 66 => ⟨S8x256x4, .f32⟩
  | 67 => ⟨S256x1, .f32⟩
  | 68 => ⟨S256, .f32⟩
  | 69 => ⟨S1x256, .f32⟩
  | 70 => ⟨S256x1, .f32⟩
  | 71 => ⟨S256, .f32⟩
  | 72 => ⟨S1x256, .f32⟩
  | 73 => ⟨S8x256x1, .f32⟩
  | 74 => ⟨S8x256, .f32⟩
  | 75 => ⟨S8x256, .f32⟩
  | 76 => ⟨S8x256, .f32⟩
  | 77 => ⟨S8x256x1, .f32⟩
  | 78 => ⟨S8x256, .f32⟩
  | 79 => ⟨S8x256, .f32⟩
  | 80 => ⟨S8x256, .f32⟩
  | 81 => ⟨S8x256x1, .f32⟩
  | 82 => ⟨S8x256, .f32⟩
  | 83 => ⟨S8x256, .f32⟩
  | 84 => ⟨S8x256, .f32⟩
  | 85 => ⟨S8x256x1, .f32⟩
  | 86 => ⟨S8x256, .f32⟩
  | 87 => ⟨S8x256, .f32⟩
  | 88 => ⟨S8x256, .f32⟩
  | 89 => ⟨S8x256x1, .f32⟩
  | 90 => ⟨S8x256x1, .f32⟩
  | 91 => ⟨S8x256x1, .f32⟩
  | 92 => ⟨S8x256x1, .f32⟩
  | 93 => ⟨S8x256x4, .f32⟩
  | 94 => ⟨S8x16x16x80, .f32⟩
  | 95 => ⟨S8x256x80, .f32⟩
  | 96 => ⟨S8x5376x80, .f32⟩
  | 97 => ⟨S8x5376x4x16, .f32⟩
  | 98 => ⟨S8x5376x4, .f32⟩
  | 99 => ⟨S5376x2, .f32⟩
  | 100 => ⟨S8x20x1, .f32⟩
  | 101 => ⟨S8x20, .f32⟩
  | 102 => ⟨S8x20x1, .f32⟩
  | 103 => ⟨S8x20, .f32⟩
  | 104 => ⟨S8x20, .f32⟩
  | 105 => ⟨S_, .f32⟩
  | 106 => ⟨S8x20, .f32⟩
  | 107 => ⟨S8x20, .i1⟩
  | 108 => ⟨S8x20x1, .f32⟩
  | 109 => ⟨S8x20, .f32⟩
  | 110 => ⟨S8x20x1, .f32⟩
  | 111 => ⟨S8x20, .f32⟩
  | 112 => ⟨S8x20, .f32⟩
  | 113 => ⟨S_, .f32⟩
  | 114 => ⟨S8x20, .f32⟩
  | 115 => ⟨S8x20, .i1⟩
  | 116 => ⟨S8x20, .i1⟩
  | 117 => ⟨S8x20x1, .f32⟩
  | 118 => ⟨S8x20, .f32⟩
  | 119 => ⟨S8x20x1, .f32⟩
  | 120 => ⟨S8x5376x1, .f32⟩
  | 121 => ⟨S8x5376, .f32⟩
  | 122 => ⟨S8x1x5376, .f32⟩
  | 123 => ⟨S8x20x5376, .f32⟩
  | 124 => ⟨S8x20x5376, .f32⟩
  | 125 => ⟨S8x20x5376, .f32⟩
  | 126 => ⟨S8x20x1, .f32⟩
  | 127 => ⟨S8x20, .f32⟩
  | _ => ⟨S8x144x64x64, .f32⟩

abbrev hbmTy0_2 (i : Nat) : BufTy := match i % 128 with
  | 0 => ⟨S8x20x1, .f32⟩
  | 1 => ⟨S8x5376x1, .f32⟩
  | 2 => ⟨S8x5376, .f32⟩
  | 3 => ⟨S8x1x5376, .f32⟩
  | 4 => ⟨S8x20x5376, .f32⟩
  | 5 => ⟨S8x20x5376, .f32⟩
  | 6 => ⟨S8x20x5376, .f32⟩
  | 7 => ⟨S8x20x1, .f32⟩
  | 8 => ⟨S8x20, .f32⟩
  | 9 => ⟨S8x20x1, .f32⟩
  | 10 => ⟨S8x5376x1, .f32⟩
  | 11 => ⟨S8x5376, .f32⟩
  | 12 => ⟨S8x1x5376, .f32⟩
  | 13 => ⟨S8x20x5376, .f32⟩
  | 14 => ⟨S8x20x5376, .f32⟩
  | 15 => ⟨S8x20x5376, .f32⟩
  | 16 => ⟨S8x20x1, .f32⟩
  | 17 => ⟨S8x20, .f32⟩
  | 18 => ⟨S8x20x1, .f32⟩
  | 19 => ⟨S8x5376x1, .f32⟩
  | 20 => ⟨S8x5376, .f32⟩
  | 21 => ⟨S8x1x5376, .f32⟩
  | 22 => ⟨S8x20x5376, .f32⟩
  | 23 => ⟨S8x20x5376, .f32⟩
  | 24 => ⟨S8x20x5376, .f32⟩
  | 25 => ⟨S8x20x5376, .f32⟩
  | 26 => ⟨S_, .f32⟩
  | 27 => ⟨S8x20x5376, .f32⟩
  | 28 => ⟨S8x20x5376, .f32⟩
  | 29 => ⟨S8x20x5376, .f32⟩
  | 30 => ⟨S_, .f32⟩
  | 31 => ⟨S8x20x5376, .f32⟩
  | 32 => ⟨S8x20x5376, .f32⟩
  | 33 => ⟨S8x20x5376, .f32⟩
  | 34 => ⟨S8x20x1, .f32⟩
  | 35 => ⟨S8x20, .f32⟩
  | 36 => ⟨S8x20x1, .f32⟩
  | 37 => ⟨S8x20, .f32⟩
  | 38 => ⟨S8x20, .f32⟩
  | 39 => ⟨S8x20x1, .f32⟩
  | 40 => ⟨S8x20, .f32⟩
  | 41 => ⟨S8x20x1, .f32⟩
  | 42 => ⟨S8x20, .f32⟩
  | 43 => ⟨S8x20, .f32⟩
  | 44 => ⟨S8x20, .f32⟩
  | 45 => ⟨S8x5376x1, .f32⟩
  | 46 => ⟨S8x5376, .f32⟩
  | 47 => ⟨S8x5376x1, .f32⟩
  | 48 => ⟨S8x5376, .f32⟩
  | 49 => ⟨S8x5376, .f32⟩
  | 50 => ⟨S8x5376x1, .f32⟩
  | 51 => ⟨S8x5376, .f32⟩
  | 52 => ⟨S8x5376x1, .f32⟩
  | 53 => ⟨S8x5376, .f32⟩
  | 54 => ⟨S8x5376, .f32⟩
  | 55 => ⟨S8x5376, .f32⟩
  | 56 => ⟨S8x20x1, .f32⟩
  | 57 => ⟨S8x1x5376, .f32⟩
  | 58 => ⟨S8x20x5376, .f32⟩
  | 59 => ⟨S8x20x5376, .f32⟩
  | 60 => ⟨S8x20x5376, .f32⟩
  | 61 => ⟨S8x20x5376, .f32⟩
  | 62 => ⟨S_, .f32⟩
  | 63 => ⟨S8x20x5376, .f32⟩
  | 64 => ⟨S8x20x5376, .f32⟩
  | 65 => ⟨S8x20x5376, .f32⟩
  | 66 => ⟨S8x5376x80, .f32⟩
  | 67 => ⟨S8x5376x80, .f32⟩
  | 68 => ⟨S_, .f32⟩
  | 69 => ⟨S8x5376x80, .f32⟩
  | 70 => ⟨S8x5376x80, .f32⟩
  | 71 => ⟨S_, .f32⟩
  | 72 => ⟨S8x5376x80, .f32⟩
  | 73 => ⟨S8x5376x80, .f32⟩
  | 74 => ⟨S_, .i32⟩
  | 75 => ⟨S8x20, .i32⟩
  | 76 => ⟨S8x20, .i32⟩
  | 77 => ⟨S_, .i32⟩
  | 78 => ⟨S8x20, .i32⟩
  | 79 => ⟨S8x20, .i32⟩
  | 80 => ⟨S8x1x20, .i32⟩
  | 81 => ⟨S_, .i32⟩
  | 82 => ⟨S8x1x20, .i32⟩
  | 83 => ⟨S8x1x20, .i1⟩
  | 84 => ⟨S_, .i32⟩
  | 85 => ⟨S8x1x20, .i32⟩
  | 86 => ⟨S8x1x20, .i32⟩
  | 87 => ⟨S8x1x20, .i32⟩
  | 88 => ⟨S8x20x1, .i32⟩
  | 89 => ⟨S8x5376x20, .f32⟩
  | 90 => ⟨S8x20x5376, .f32⟩
  | 91 => ⟨S_, .f32⟩
  | 92 => ⟨S8x20x5376, .f32⟩
  | 93 => ⟨S8x20x5376, .f32⟩
  | 94 => ⟨S_, .f32⟩
  | 95 => ⟨S8x20x5376, .f32⟩
  | 96 => ⟨S8x20x5376, .f32⟩
  | 97 => ⟨S8x20x5376, .f32⟩
  | 98 => ⟨S8x5376x1, .f32⟩
  | 99 => ⟨S8x5376, .f32⟩
  | 100 => ⟨S8x5376x1, .f32⟩
  | 101 => ⟨S8x5376, .f32⟩
  | 102 => ⟨S8x5376, .f32⟩
  | 103 => ⟨S_, .f32⟩
  | 104 => ⟨S8x5376, .f32⟩
  | 105 => ⟨S8x5376, .f32⟩
  | 106 => ⟨S8x5376x1, .f32⟩
  | 107 => ⟨S8x5376, .f32⟩
  | 108 => ⟨S8x5376x1, .f32⟩
  | 109 => ⟨S8x5376, .f32⟩
  | 110 => ⟨S8x5376, .f32⟩
  | 111 => ⟨S_, .f32⟩
  | 112 => ⟨S8x5376, .f32⟩
  | 113 => ⟨S8x5376, .f32⟩
  | 114 => ⟨S8x1x5376, .f32⟩
  | 115 => ⟨S8x20x1, .f32⟩
  | 116 => ⟨S8x20x5376, .f32⟩
  | 117 => ⟨S8x20x5376, .f32⟩
  | 118 => ⟨S8x20x5376, .i1⟩
  | 119 => ⟨S8x1x5376, .f32⟩
  | 120 => ⟨S8x20x1, .f32⟩
  | 121 => ⟨S8x20x5376, .f32⟩
  | 122 => ⟨S8x20x5376, .f32⟩
  | 123 => ⟨S8x20x5376, .i1⟩
  | 124 => ⟨S8x20x5376, .i1⟩
  | 125 => ⟨S8x1x5376, .f32⟩
  | 126 => ⟨S8x20x1, .f32⟩
  | 127 => ⟨S8x20x5376, .f32⟩
  | _ => ⟨S8x144x64x64, .f32⟩

abbrev hbmTy0_3 (i : Nat) : BufTy := match i % 128 with
  | 0 => ⟨S8x20x5376, .f32⟩
  | 1 => ⟨S8x20x5376, .i1⟩
  | 2 => ⟨S8x20x5376, .i1⟩
  | 3 => ⟨S8x1x5376, .f32⟩
  | 4 => ⟨S8x20x1, .f32⟩
  | 5 => ⟨S8x20x5376, .f32⟩
  | 6 => ⟨S8x20x5376, .f32⟩
  | 7 => ⟨S8x20x5376, .i1⟩
  | 8 => ⟨S8x20x5376, .i1⟩
  | 9 => ⟨S8x20x1, .i1⟩
  | 10 => ⟨S8x20x5376, .i1⟩
  | 11 => ⟨S8x20x5376, .i1⟩
  | 12 => ⟨S_, .f32⟩
  | 13 => ⟨S8x20x5376, .f32⟩
  | 14 => ⟨S8x20x5376, .f32⟩
  | 15 => ⟨S8x20x10, .f32⟩
  | 16 => ⟨S8x20x10, .i32⟩
  | 17 => ⟨S8x20x10x1, .i32⟩
  | 18 => ⟨S1x1x1x5376, .i32⟩
  | 19 => ⟨S8x20x10x5376, .i32⟩
  | 20 => ⟨S8x20x10x5376, .i32⟩
  | 21 => ⟨S8x20x10x5376, .i1⟩
  | 22 => ⟨S8x20x10x5376, .f32⟩
  | 23 => ⟨S_, .f32⟩
  | 24 => ⟨S8x20x10, .f32⟩
  | 25 => ⟨S8x20x10, .i1⟩
  | 26 => ⟨S8x20x10x1, .i1⟩
  | 27 => ⟨S8x20x10x1, .f32⟩
  | 28 => ⟨S8x20x10x5376, .f32⟩
  | 29 => ⟨S8x20x10x5376, .f32⟩
  | 30 => ⟨S_, .f32⟩
  | 31 => ⟨S8x20x5376, .f32⟩
  | 32 => ⟨S_, .f32⟩
  | 33 => ⟨S8x20x5376, .f32⟩
  | 34 => ⟨S8x20x5376, .i1⟩
  | 35 => ⟨S8x20x5376, .i1⟩
  | 36 => ⟨S8x20x5376, .f32⟩
  | 37 => ⟨S_, .f32⟩
  | 38 => ⟨S8x5376, .f32⟩
  | 39 => ⟨S_, .f32⟩
  | 40 => ⟨S8x20x5376, .f32⟩
  | 41 => ⟨S8x20x5376, .i1⟩
  | 42 => ⟨S_, .f32⟩
  | 43 => ⟨S_, .f32⟩
  | 44 => ⟨S8x20x5376, .f32⟩
  | 45 => ⟨S8x20x5376, .f32⟩
  | 46 => ⟨S8x20x5376, .i32⟩
  | 47 => ⟨S_, .f32⟩
  | 48 => ⟨S8x5376, .f32⟩
  | 49 => ⟨S8x1x5376, .f32⟩
  | 50 => ⟨S8x20x5376, .f32⟩
  | 51 => ⟨S8x20x5376, .i1⟩
  | 52 => ⟨S_, .i32⟩
  | 53 => ⟨S_, .i32⟩
  | 54 => ⟨S8x20x5376, .i32⟩
  | 55 => ⟨S8x20x5376, .i32⟩
  | 56 => ⟨S_, .i32⟩
  | 57 => ⟨S8x5376, .i32⟩
  | 58 => ⟨S8x5376x1, .i32⟩
  | 59 => ⟨S1x1x20, .i32⟩
  | 60 => ⟨S8x5376x20, .i32⟩
  | 61 => ⟨S8x5376x20, .i32⟩
  | 62 => ⟨S8x5376x20, .i1⟩
  | 63 => ⟨S8x5376x20, .f32⟩
  | 64 => ⟨S8x20x5376, .f32⟩
  | 65 => ⟨S8x1x5376, .f32⟩
  | 66 => ⟨S_, .f32⟩
  | 67 => ⟨S8x1x5376, .f32⟩
  | 68 => ⟨S8x1x5376, .i1⟩
  | 69 => ⟨S8x20x5376, .f32⟩
  | 70 => ⟨S8x20x5376, .i1⟩
  | 71 => ⟨S8x20x5376, .f32⟩
  | 72 => ⟨S_, .f32⟩
  | 73 => ⟨S8x5376, .f32⟩
  | 74 => ⟨S_, .f32⟩
  | 75 => ⟨S8x5376, .f32⟩
  | 76 => ⟨S8x5376, .i1⟩
  | 77 => ⟨S8x20x5376, .i32⟩
  | 78 => ⟨S_, .f32⟩
  | 79 => ⟨S8x5376, .f32⟩
  | 80 => ⟨S8x1x5376, .f32⟩
  | 81 => ⟨S8x20x5376, .f32⟩
  | 82 => ⟨S8x20x5376, .i1⟩
  | 83 => ⟨S_, .i32⟩
  | 84 => ⟨S_, .i32⟩
  | 85 => ⟨S8x20x5376, .i32⟩
  | 86 => ⟨S8x20x5376, .i32⟩
  | 87 => ⟨S_, .i32⟩
  | 88 => ⟨S8x5376, .i32⟩
  | 89 => ⟨S8x5376x1, .i32⟩
  | 90 => ⟨S_, .i32⟩
  | 91 => ⟨S8x5376x1, .i32⟩
  | 92 => ⟨S8x5376x1, .i1⟩
  | 93 => ⟨S_, .i32⟩
  | 94 => ⟨S8x5376x1, .i32⟩
  | 95 => ⟨S8x5376x1, .i32⟩
  | 96 => ⟨S8x5376x1, .i32⟩
  | 97 => ⟨S8x5376x4, .f32⟩
  | 98 => ⟨S_, .i32⟩
  | 99 => ⟨S8x5376, .i32⟩
  | 100 => ⟨S8x5376, .i1⟩
  | 101 => ⟨S_, .i32⟩
  | 102 => ⟨S8x5376, .i32⟩
  | 103 => ⟨S8x5376, .i32⟩
  | 104 => ⟨S8x5376, .i32⟩
  | 105 => ⟨S8x5376x1, .i32⟩
  | 106 => ⟨S8x5376, .i32⟩
  | 107 => ⟨S8x20x5376, .f32⟩
  | 108 => ⟨S_, .f32⟩
  | 109 => ⟨S8x20, .f32⟩
  | 110 => ⟨S8x20x1, .f32⟩
  | 111 => ⟨S8x20x5376, .f32⟩
  | 112 => ⟨S_, .f32⟩
  | 113 => ⟨S8x20, .f32⟩
  | 114 => ⟨S8x20x1, .f32⟩
  | 115 => ⟨S8x20x5376, .f32⟩
  | 116 => ⟨S8x20x5376, .f32⟩
  | 117 => ⟨S_, .f32⟩
  | 118 => ⟨S8x20x1, .f32⟩
  | 119 => ⟨S8x20x1, .f32⟩
  | 120 => ⟨S8x20x5376, .f32⟩
  | 121 => ⟨S8x20x5376, .f32⟩
  | 122 => ⟨S_, .f32⟩
  | 123 => ⟨S8x5376, .f32⟩
  | 124 => ⟨S8x5376x1, .i32⟩
  | 125 => ⟨S1x1x80, .i32⟩
  | 126 => ⟨S8x5376x80, .i32⟩
  | 127 => ⟨S8x5376x80, .i32⟩
  | _ => ⟨S8x144x64x64, .f32⟩

abbrev hbmTy0_4 (i : Nat) : BufTy := match i % 128 with
  | 0 => ⟨S8x5376x80, .i1⟩
  | 1 => ⟨S8x5376x80, .f32⟩
  | 2 => ⟨S8x5376x1, .f32⟩
  | 3 => ⟨S8x5376x80, .f32⟩
  | 4 => ⟨S8x5376x80, .f32⟩
  | 5 => ⟨S8x5376x1, .i1⟩
  | 6 => ⟨S8x5376x1, .f32⟩
  | 7 => ⟨S8x5376x80, .f32⟩
  | 8 => ⟨S8x5376x80, .f32⟩
  | 9 => ⟨S8x5376, .i32⟩
  | 10 => ⟨S_, .i32⟩
  | 11 => ⟨S_, .i32⟩
  | 12 => ⟨S_, .f32⟩
  | 13 => ⟨S_, .f32⟩
  | 14 => ⟨S_, .f32⟩
  | 15 => ⟨S_, .i32⟩
  | 16 => ⟨S_, .f32⟩
  | 17 => ⟨S8x5376x80, .f32⟩
  | 18 => ⟨S8x5376x80, .f32⟩
  | 19 => ⟨S8x5376x80, .f32⟩
  | 20 => ⟨S8x5376x80, .f32⟩
  | 21 => ⟨S8x5376x80, .f32⟩
  | 22 => ⟨S8x5376x80, .f32⟩
  | 23 => ⟨S8x5376x80, .f32⟩
  | 24 => ⟨S8x5376x80, .f32⟩
  | 25 => ⟨S8x5376x80, .f32⟩
  | 26 => ⟨S_, .f32⟩
  | 27 => ⟨S_, .f32⟩
  | 28 => ⟨S_, .f32⟩
  | 29 => ⟨S8x5376x1, .f32⟩
  | 30 => ⟨S8x5376, .f32⟩
  | 31 => ⟨S8x5376x1, .f32⟩
  | 32 => ⟨S8x5376, .f32⟩
  | 33 => ⟨S8x5376, .f32⟩
  | 34 => ⟨S8x5376x1, .f32⟩
  | 35 => ⟨S8x5376, .f32⟩
  | 36 => ⟨S8x5376x1, .f32⟩
  | 37 => ⟨S8x5376, .f32⟩
  | 38 => ⟨S8x5376, .f32⟩
  | 39 => ⟨S8x5376x1, .f32⟩
  | 40 => ⟨S8x5376, .f32⟩
  | 41 => ⟨S8x5376x1, .f32⟩
  | 42 => ⟨S8x5376, .f32⟩
  | 43 => ⟨S8x5376, .f32⟩
  | 44 => ⟨S8x5376x1, .f32⟩
  | 45 => ⟨S8x5376, .f32⟩
  | 46 => ⟨S8x5376x1, .f32⟩
  | 47 => ⟨S8x5376, .f32⟩
  | 48 => ⟨S8x5376, .f32⟩
  | 49 => ⟨S8x5376, .f32⟩
  | 50 => ⟨S_, .i32⟩
  | 51 => ⟨S_, .f32⟩
  | 52 => ⟨S8x5376, .f32⟩
  | 53 => ⟨S8x5376, .f32⟩
  | 54 => ⟨S8x5376, .f32⟩
  | 55 => ⟨S_, .i32⟩
  | 56 => ⟨S_, .f32⟩
  | 57 => ⟨S8x5376, .f32⟩
  | 58 => ⟨S8x5376, .f32⟩
  | 59 => ⟨S8x5376, .f32⟩
  | 60 => ⟨S8x5376x1, .f32⟩
  | 61 => ⟨S8x5376, .f32⟩
  | 62 => ⟨S8x5376x1, .f32⟩
  | 63 => ⟨S8x5376, .f32⟩
  | 64 => ⟨S8x5376, .f32⟩
  | 65 => ⟨S8x5376x1, .f32⟩
  | 66 => ⟨S8x5376, .f32⟩
  | 67 => ⟨S8x5376x1, .f32⟩
  | 68 => ⟨S8x5376, .f32⟩
  | 69 => ⟨S8x5376, .f32⟩
  | 70 => ⟨S8x5376, .f32⟩
  | 71 => ⟨S8x5376x1, .f32⟩
  | 72 => ⟨S8x5376, .f32⟩
  | 73 => ⟨S8x5376x1, .f32⟩
  | 74 => ⟨S8x5376, .f32⟩
  | 75 => ⟨S8x5376, .f32⟩
  | 76 => ⟨S8x5376x1, .f32⟩
  | 77 => ⟨S8x5376, .f32⟩
  | 78 => ⟨S8x5376x1, .f32⟩
  | 79 => ⟨S8x5376, .f32⟩
  | 80 => ⟨S8x5376, .f32⟩
  | 81 => ⟨S8x5376, .f32⟩
  | 82 => ⟨S8x5376, .f32⟩
  | 83 => ⟨S8x5376, .f32⟩
  | 84 => ⟨S_, .f32⟩
  | 85 => ⟨S8x5376, .f32⟩
  | 86 => ⟨S8x5376, .f32⟩
  | 87 => ⟨S8x5376, .f32⟩
  | 88 => ⟨S8x5376x1, .f32⟩
  | 89 => ⟨S8x5376, .f32⟩
  | 90 => ⟨S8x5376x1, .f32⟩
  | 91 => ⟨S8x5376, .f32⟩
  | 92 => ⟨S8x5376, .f32⟩
  | 93 => ⟨S8x5376x1, .f32⟩
  | 94 => ⟨S8x5376, .f32⟩
  | 95 => ⟨S8x5376x1, .f32⟩
  | 96 => ⟨S8x5376, .f32⟩
  | 97 => ⟨S8x5376, .f32⟩
  | 98 => ⟨S8x5376x1, .f32⟩
  | 99 => ⟨S8x5376, .f32⟩
  | 100 => ⟨S8x5376x1, .f32⟩
  | 101 => ⟨S8x5376, .f32⟩
  | 102 => ⟨S8x5376, .f32⟩
  | 103 => ⟨S8x5376x1, .f32⟩
  | 104 => ⟨S8x5376, .f32⟩
  | 105 => ⟨S8x5376x1, .f32⟩
  | 106 => ⟨S8x5376, .f32⟩
  | 107 => ⟨S8x5376, .f32⟩
  | 108 => ⟨S8x5376, .f32⟩
  | 109 => ⟨S8x5376, .f32⟩
  | 110 => ⟨S8x5376, .f32⟩
  | 111 => ⟨S8x5376, .f32⟩
  | 112 => ⟨S8x5376, .f32⟩
  | 113 => ⟨S_, .f32⟩
  | 114 => ⟨S8x5376, .f32⟩
  | 115 => ⟨S8x5376, .f32⟩
  | 116 => ⟨S8x5376x1, .f32⟩
  | 117 => ⟨S8x5376, .f32⟩
  | 118 => ⟨S8x5376x1, .f32⟩
  | 119 => ⟨S8x5376, .f32⟩
  | 120 => ⟨S8x5376, .f32⟩
  | 121 => ⟨S8x5376x1, .f32⟩
  | 122 => ⟨S8x5376, .f32⟩
  | 123 => ⟨S8x5376, .f32⟩
  | 124 => ⟨S8x5376x1, .f32⟩
  | 125 => ⟨S8x5376, .f32⟩
  | 126 => ⟨S8x5376, .f32⟩
  | 127 => ⟨S8x5376, .f32⟩
  | _ => ⟨S8x144x64x64, .f32⟩

abbrev hbmTy0_5 (i : Nat) : BufTy := match i % 128 with
  | 0 => ⟨S8x5376x1, .f32⟩
  | 1 => ⟨S8x5376, .f32⟩
  | 2 => ⟨S8x5376x1, .f32⟩
  | 3 => ⟨S8x5376, .f32⟩
  | 4 => ⟨S8x5376, .f32⟩
  | 5 => ⟨S8x5376x1, .f32⟩
  | 6 => ⟨S8x5376, .f32⟩
  | 7 => ⟨S8x5376, .f32⟩
  | 8 => ⟨S8x5376x1, .f32⟩
  | 9 => ⟨S8x5376, .f32⟩
  | 10 => ⟨S8x5376, .f32⟩
  | 11 => ⟨S8x5376, .f32⟩
  | 12 => ⟨S8x5376, .f32⟩
  | 13 => ⟨S_, .f32⟩
  | 14 => ⟨S8x5376, .f32⟩
  | 15 => ⟨S8x5376, .f32⟩
  | 16 => ⟨S8x5376x1, .f32⟩
  | 17 => ⟨S8x5376, .f32⟩
  | 18 => ⟨S8x5376x1, .f32⟩
  | 19 => ⟨S8x5376, .f32⟩
  | 20 => ⟨S8x5376, .f32⟩
  | 21 => ⟨S8x5376x1, .f32⟩
  | 22 => ⟨S8x5376, .f32⟩
  | 23 => ⟨S8x5376x1, .f32⟩
  | 24 => ⟨S8x5376, .f32⟩
  | 25 => ⟨S8x5376, .f32⟩
  | 26 => ⟨S_, .f32⟩
  | 27 => ⟨S8x5376, .f32⟩
  | 28 => ⟨S8x5376, .f32⟩
  | 29 => ⟨S8x5376x1, .f32⟩
  | 30 => ⟨S8x5376, .f32⟩
  | 31 => ⟨S8x5376x1, .f32⟩
  | 32 => ⟨S8x5376, .f32⟩
  | 33 => ⟨S8x5376, .f32⟩
  | 34 => ⟨S8x5376x1, .f32⟩
  | 35 => ⟨S8x5376, .f32⟩
  | 36 => ⟨S8x5376x1, .f32⟩
  | 37 => ⟨S8x5376, .f32⟩
  | 38 => ⟨S8x5376, .f32⟩
  | 39 => ⟨S_, .f32⟩
  | 40 => ⟨S8x5376, .f32⟩
  | 41 => ⟨S8x5376, .f32⟩
  | 42 => ⟨S8x5376, .f32⟩
  | 43 => ⟨S8x5376, .f32⟩
  | 44 => ⟨S_, .f32⟩
  | 45 => ⟨S8x5376, .f32⟩
  | 46 => ⟨S8x5376, .i1⟩
  | 47 => ⟨S8x5376, .f32⟩
  | 48 => ⟨S_, .f32⟩
  | 49 => ⟨S8x5376, .f32⟩
  | 50 => ⟨S8x5376, .f32⟩
  | 51 => ⟨S_, .f32⟩
  | 52 => ⟨S8x5376, .f32⟩
  | 53 => ⟨S8x5376, .f32⟩
  | 54 => ⟨S8x5376, .f32⟩
  | 55 => ⟨S8x5376, .f32⟩
  | 56 => ⟨S8x5376, .f32⟩
  | 57 => ⟨S_, .f32⟩
  | 58 => ⟨S8x5376, .f32⟩
  | 59 => ⟨S8x5376, .f32⟩
  | 60 => ⟨S_, .f32⟩
  | 61 => ⟨S8x5376, .f32⟩
  | 62 => ⟨S8x5376, .f32⟩
  | 63 => ⟨S8x5376, .f32⟩
  | 64 => ⟨S8x5376, .f32⟩
  | 65 => ⟨S_, .f32⟩
  | 66 => ⟨S8x5376, .f32⟩
  | 67 => ⟨S8x5376, .f32⟩
  | 68 => ⟨S8x5376, .f32⟩
  | 69 => ⟨S8x5376, .f32⟩
  | 70 => ⟨S_, .f32⟩
  | 71 => ⟨S8x5376, .f32⟩
  | 72 => ⟨S8x5376, .f32⟩
  | 73 => ⟨S8x5376, .f32⟩
  | 74 => ⟨S8x5376, .f32⟩
  | 75 => ⟨S_, .f32⟩
  | 76 => ⟨S8x5376, .f32⟩
  | 77 => ⟨S8x5376, .f32⟩
  | 78 => ⟨S8x5376, .f32⟩
  | 79 => ⟨S8x5376, .f32⟩
  | 80 => ⟨S_, .f32⟩
  | 81 => ⟨S8x5376, .f32⟩
  | 82 => ⟨S8x5376, .f32⟩
  | 83 => ⟨S8x5376, .f32⟩
  | 84 => ⟨S8x5376, .f32⟩
  | 85 => ⟨S_, .f32⟩
  | 86 => ⟨S8x5376, .f32⟩
  | 87 => ⟨S8x5376, .f32⟩
  | 88 => ⟨S8x5376, .f32⟩
  | 89 => ⟨S8x5376, .f32⟩
  | 90 => ⟨S_, .f32⟩
  | 91 => ⟨S8x5376, .f32⟩
  | 92 => ⟨S8x5376, .f32⟩
  | 93 => ⟨S8x5376, .f32⟩
  | 94 => ⟨S8x5376, .f32⟩
  | 95 => ⟨S_, .f32⟩
  | 96 => ⟨S8x5376, .f32⟩
  | 97 => ⟨S8x5376, .f32⟩
  | 98 => ⟨S8x5376, .f32⟩
  | 99 => ⟨S_, .f32⟩
  | 100 => ⟨S8x5376, .f32⟩
  | 101 => ⟨S8x5376, .f32⟩
  | 102 => ⟨S8x5376, .f32⟩
  | 103 => ⟨S_, .f32⟩
  | 104 => ⟨S8x5376, .f32⟩
  | 105 => ⟨S8x5376, .i1⟩
  | 106 => ⟨S8x5376, .f32⟩
  | 107 => ⟨S8x5376, .f32⟩
  | 108 => ⟨S8x5376, .f32⟩
  | 109 => ⟨S8x5376, .f32⟩
  | 110 => ⟨S_, .f32⟩
  | 111 => ⟨S8x5376, .f32⟩
  | 112 => ⟨S8x5376, .i1⟩
  | 113 => ⟨S8x5376, .f32⟩
  | 114 => ⟨S_, .f32⟩
  | 115 => ⟨S8x5376, .f32⟩
  | 116 => ⟨S8x5376, .f32⟩
  | 117 => ⟨S_, .f32⟩
  | 118 => ⟨S8x5376, .f32⟩
  | 119 => ⟨S8x5376, .f32⟩
  | 120 => ⟨S8x5376, .f32⟩
  | 121 => ⟨S8x5376, .f32⟩
  | 122 => ⟨S8x5376, .f32⟩
  | 123 => ⟨S_, .f32⟩
  | 124 => ⟨S8x5376, .f32⟩
  | 125 => ⟨S8x5376, .f32⟩
  | 126 => ⟨S_, .f32⟩
  | 127 => ⟨S8x5376, .f32⟩
  | _ => ⟨S8x144x64x64, .f32⟩

abbrev hbmTy0_6 (i : Nat) : BufTy := match i % 128 with
  | 0 => ⟨S8x5376, .f32⟩
  | 1 => ⟨S8x5376, .f32⟩
  | 2 => ⟨S8x5376, .f32⟩
  | 3 => ⟨S_, .f32⟩
  | 4 => ⟨S8x5376, .f32⟩
  | 5 => ⟨S8x5376, .f32⟩
  | 6 => ⟨S8x5376, .f32⟩
  | 7 => ⟨S8x5376, .f32⟩
  | 8 => ⟨S_, .f32⟩
  | 9 => ⟨S8x5376, .f32⟩
  | 10 => ⟨S8x5376, .f32⟩
  | 11 => ⟨S8x5376, .f32⟩
  | 12 => ⟨S8x5376, .f32⟩
  | 13 => ⟨S_, .f32⟩
  | 14 => ⟨S8x5376, .f32⟩
  | 15 => ⟨S8x5376, .f32⟩
  | 16 => ⟨S8x5376, .f32⟩
  | 17 => ⟨S8x5376, .f32⟩
  | 18 => ⟨S_, .f32⟩
  | 19 => ⟨S8x5376, .f32⟩
  | 20 => ⟨S8x5376, .f32⟩
  | 21 => ⟨S8x5376, .f32⟩
  | 22 => ⟨S8x5376, .f32⟩
  | 23 => ⟨S_, .f32⟩
  | 24 => ⟨S8x5376, .f32⟩
  | 25 => ⟨S8x5376, .f32⟩
  | 26 => ⟨S8x5376, .f32⟩
  | 27 => ⟨S8x5376, .f32⟩
  | 28 => ⟨S_, .f32⟩
  | 29 => ⟨S8x5376, .f32⟩
  | 30 => ⟨S8x5376, .f32⟩
  | 31 => ⟨S8x5376, .f32⟩
  | 32 => ⟨S8x5376, .f32⟩
  | 33 => ⟨S_, .f32⟩
  | 34 => ⟨S8x5376, .f32⟩
  | 35 => ⟨S8x5376, .f32⟩
  | 36 => ⟨S8x5376, .f32⟩
  | 37 => ⟨S_, .f32⟩
  | 38 => ⟨S8x5376, .f32⟩
  | 39 => ⟨S8x5376, .f32⟩
  | 40 => ⟨S8x5376, .f32⟩
  | 41 => ⟨S_, .f32⟩
  | 42 => ⟨S8x5376, .f32⟩
  | 43 => ⟨S8x5376, .i1⟩
  | 44 => ⟨S8x5376, .f32⟩
  | 45 => ⟨S8x5376, .f32⟩
  | 46 => ⟨S8x5376, .f32⟩
  | 47 => ⟨S8x5376, .f32⟩
  | 48 => ⟨S_, .f32⟩
  | 49 => ⟨S8x5376, .f32⟩
  | 50 => ⟨S8x5376, .f32⟩
  | 51 => ⟨S8x5376, .f32⟩
  | 52 => ⟨S_, .f32⟩
  | 53 => ⟨S8x5376, .f32⟩
  | 54 => ⟨S8x5376, .f32⟩
  | 55 => ⟨S_, .f32⟩
  | 56 => ⟨S8x5376, .f32⟩
  | 57 => ⟨S8x5376, .f32⟩
  | 58 => ⟨S8x5376, .f32⟩
  | 59 => ⟨S8x5376, .f32⟩
  | 60 => ⟨S8x5376, .f32⟩
  | 61 => ⟨S8x5376, .f32⟩
  | 62 => ⟨S8x5376, .f32⟩
  | 63 => ⟨S_, .f32⟩
  | 64 => ⟨S8x5376, .f32⟩
  | 65 => ⟨S8x5376, .f32⟩
  | 66 => ⟨S8x5376, .f32⟩
  | 67 => ⟨S8x5376, .f32⟩
  | 68 => ⟨S_, .f32⟩
  | 69 => ⟨S_, .f32⟩
  | 70 => ⟨S_, .f32⟩
  | 71 => ⟨S5376x1, .f32⟩
  | 72 => ⟨S5376, .f32⟩
  | 73 => ⟨S1x5376, .f32⟩
  | 74 => ⟨S5376x1, .f32⟩
  | 75 => ⟨S5376, .f32⟩
  | 76 => ⟨S1x5376, .f32⟩
  | 77 => ⟨S8x5376x1, .f32⟩
  | 78 => ⟨S8x5376, .f32⟩
  | 79 => ⟨S8x5376, .f32⟩
  | 80 => ⟨S8x5376, .f32⟩
  | 81 => ⟨S_, .i32⟩
  | 82 => ⟨S_, .f32⟩
  | 83 => ⟨S8x5376, .f32⟩
  | 84 => ⟨S8x5376, .f32⟩
  | 85 => ⟨S8x5376x1, .f32⟩
  | 86 => ⟨S8x5376, .f32⟩
  | 87 => ⟨S8x5376, .f32⟩
  | 88 => ⟨S8x5376, .f32⟩
  | 89 => ⟨S_, .i32⟩
  | 90 => ⟨S_, .f32⟩
  | 91 => ⟨S8x5376, .f32⟩
  | 92 => ⟨S8x5376, .f32⟩
  | 93 => ⟨S8x5376x1, .f32⟩
  | 94 => ⟨S8x5376, .f32⟩
  | 95 => ⟨S8x5376, .f32⟩
  | 96 => ⟨S8x5376, .f32⟩
  | 97 => ⟨S_, .i32⟩
  | 98 => ⟨S_, .f32⟩
  | 99 => ⟨S8x5376, .f32⟩
  | 100 => ⟨S8x5376, .f32⟩
  | 101 => ⟨S8x5376x1, .f32⟩
  | 102 => ⟨S8x5376, .f32⟩
  | 103 => ⟨S8x5376, .f32⟩
  | 104 => ⟨S8x5376, .f32⟩
  | 105 => ⟨S_, .i32⟩
  | 106 => ⟨S_, .f32⟩
  | 107 => ⟨S8x5376, .f32⟩
  | 108 => ⟨S8x5376, .f32⟩
  | 109 => ⟨S8x5376x1, .f32⟩
  | 110 => ⟨S8x5376x1, .f32⟩
  | 111 => ⟨S8x5376x1, .f32⟩
  | 112 => ⟨S8x5376x1, .f32⟩
  | 113 => ⟨S8x5376x4, .f32⟩
  | 114 => ⟨S_, .f32⟩
  | 115 => ⟨S8x5376x4, .f32⟩
  | 116 => ⟨S8x5376x4, .f32⟩
  | 117 => ⟨S_, .i32⟩
  | 118 => ⟨S_, .f32⟩
  | 119 => ⟨S_, .f32⟩
  | 120 => ⟨S8x5376x4, .f32⟩
  | 121 => ⟨S8x5376x4, .f32⟩
  | 122 => ⟨S_, .f32⟩
  | 123 => ⟨S8x5376x4, .f32⟩
  | 124 => ⟨S8x5376x4, .f32⟩
  | 125 => ⟨S8x5376x4, .f32⟩
  | 126 => ⟨S8x5376x4, .f32⟩
  | 127 => ⟨S8x5376x4, .i32⟩
  | _ => ⟨S8x144x64x64, .f32⟩

abbrev hbmTy0_7 (i : Nat) : BufTy := match i % 128 with
  | 0 => ⟨S_, .i32⟩
  | 1 => ⟨S8x5376x4, .i32⟩
  | 2 => ⟨S8x5376x4, .i32⟩
  | 3 => ⟨S_, .i32⟩
  | 4 => ⟨S_, .i32⟩
  | 5 => ⟨S_, .i32⟩
  | 6 => ⟨S8x5376x4, .i32⟩
  | 7 => ⟨S8x5376x4, .i32⟩
  | 8 => ⟨S_, .i32⟩
  | 9 => ⟨S8x5376x4, .i32⟩
  | 10 => ⟨S8x5376x4, .i32⟩
  | 11 => ⟨S8x5376x4x1, .i32⟩
  | 12 => ⟨S1x1x1x16, .i32⟩
  | 13 => ⟨S8x5376x4x16, .i32⟩
  | 14 => ⟨S8x5376x4x16, .i32⟩
  | 15 => ⟨S8x5376x4x16, .i1⟩
  | 16 => ⟨S8x5376x4x16, .f32⟩
  | 17 => ⟨S_, .f32⟩
  | 18 => ⟨S8x5376x4, .f32⟩
  | 19 => ⟨S8x5376x4, .f32⟩
  | 20 => ⟨S8x5376x4x1, .f32⟩
  | 21 => ⟨S8x5376x4x16, .f32⟩
  | 22 => ⟨S8x5376x4x16, .f32⟩
  | 23 => ⟨S8x5376x4x1, .i32⟩
  | 24 => ⟨S1x1x1x16, .i32⟩
  | 25 => ⟨S8x5376x4x16, .i32⟩
  | 26 => ⟨S8x5376x4x16, .i32⟩
  | 27 => ⟨S8x5376x4x16, .i1⟩
  | 28 => ⟨S8x5376x4x16, .f32⟩
  | 29 => ⟨S8x5376x4x1, .f32⟩
  | 30 => ⟨S8x5376x4x16, .f32⟩
  | 31 => ⟨S8x5376x4x16, .f32⟩
  | 32 => ⟨S8x5376x4x16, .f32⟩
  | 33 => ⟨S8x5376x1x1, .i1⟩
  | 34 => ⟨S8x5376x1x1, .f32⟩
  | 35 => ⟨S8x5376x4x16, .f32⟩
  | 36 => ⟨S8x5376x4x16, .f32⟩
  | 37 => ⟨S_, .f32⟩
  | 38 => ⟨S8x5376x4, .f32⟩
  | 39 => ⟨S_, .f32⟩
  | 40 => ⟨S8x5376x4, .f32⟩
  | 41 => ⟨S8x5376x4, .f32⟩
  | 42 => ⟨S8x5376x4x1, .f32⟩
  | 43 => ⟨S8x5376x4x16, .f32⟩
  | 44 => ⟨S8x5376x4x16, .f32⟩
  | 45 => ⟨S8x5376x4x16, .f32⟩
  | 46 => ⟨S_, .f32⟩
  | 47 => ⟨S8x5376x4, .f32⟩
  | 48 => ⟨S8x5376x4x1, .f32⟩
  | 49 => ⟨S8x5376x4x1, .f32⟩
  | 50 => ⟨S8x5376x4x16, .f32⟩
  | 51 => ⟨S8x5376x4x16, .f32⟩
  | 52 => ⟨S8x5376x4x16, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S1, .f32⟩
  | 64 => ⟨S1, .f32⟩
  | 65 => ⟨S1, .f32⟩
  | 66 => ⟨S3, .f32⟩
  | _ => ⟨S8x144x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S8x144x64x64, .f32⟩

abbrev bufTy : (tb : Table) → Fin (tcTables nBuf tb) → BufTy
  | .hbm, ⟨i, _⟩ => hbmTy i
  | _, _ => ⟨S8x144x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_cst_7 : Ref sig .tc := ⟨.hbm, 84, rfl⟩
abbrev main_v71 : Ref sig .tc := ⟨.hbm, 85, rfl⟩
abbrev main_v72 : Ref sig .tc := ⟨.hbm, 86, rfl⟩
abbrev main_cst_8 : Ref sig .tc := ⟨.hbm, 87, rfl⟩
abbrev main_v73 : Ref sig .tc := ⟨.hbm, 88, rfl⟩
abbrev main_v74 : Ref sig .tc := ⟨.hbm, 89, rfl⟩
abbrev main_cst_9 : Ref sig .tc := ⟨.hbm, 90, rfl⟩
abbrev main_v75 : Ref sig .tc := ⟨.hbm, 91, rfl⟩
abbrev main_v76 : Ref sig .tc := ⟨.hbm, 92, rfl⟩
abbrev main_cst_10 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_cst_11 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_cst_12 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_cst_13 : Ref sig .tc := ⟨.hbm, 117, rfl⟩
abbrev main_v98 : Ref sig .tc := ⟨.hbm, 118, rfl⟩
abbrev main_cst_14 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_cst_15 : Ref sig .tc := ⟨.hbm, 157, rfl⟩
abbrev main_v136 : Ref sig .tc := ⟨.hbm, 158, rfl⟩
abbrev main_v137 : Ref sig .tc := ⟨.hbm, 159, rfl⟩
abbrev main_cst_16 : Ref sig .tc := ⟨.hbm, 160, rfl⟩
abbrev main_v138 : Ref sig .tc := ⟨.hbm, 161, rfl⟩
abbrev main_v139 : Ref sig .tc := ⟨.hbm, 162, rfl⟩
abbrev main_cst_17 : Ref sig .tc := ⟨.hbm, 163, rfl⟩
abbrev main_v140 : Ref sig .tc := ⟨.hbm, 164, rfl⟩
abbrev main_v141 : Ref sig .tc := ⟨.hbm, 165, rfl⟩
abbrev main_cst_18 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_cst_19 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_cst_20 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_cst_21 : Ref sig .tc := ⟨.hbm, 190, rfl⟩
abbrev main_v163 : Ref sig .tc := ⟨.hbm, 191, rfl⟩
abbrev main_cst_22 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_cst_23 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_cst_24 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩
abbrev main_v214 : Ref sig .tc := ⟨.hbm, 245, rfl⟩
abbrev main_v215 : Ref sig .tc := ⟨.hbm, 246, rfl⟩
abbrev main_v216 : Ref sig .tc := ⟨.hbm, 247, rfl⟩
abbrev main_v217 : Ref sig .tc := ⟨.hbm, 248, rfl⟩
abbrev main_v218 : Ref sig .tc := ⟨.hbm, 249, rfl⟩
abbrev main_v219 : Ref sig .tc := ⟨.hbm, 250, rfl⟩
abbrev main_v220 : Ref sig .tc := ⟨.hbm, 251, rfl⟩
abbrev main_v221 : Ref sig .tc := ⟨.hbm, 252, rfl⟩
abbrev main_v222 : Ref sig .tc := ⟨.hbm, 253, rfl⟩
abbrev main_v223 : Ref sig .tc := ⟨.hbm, 254, rfl⟩
abbrev main_v224 : Ref sig .tc := ⟨.hbm, 255, rfl⟩
abbrev main_v225 : Ref sig .tc := ⟨.hbm, 256, rfl⟩
abbrev main_v226 : Ref sig .tc := ⟨.hbm, 257, rfl⟩
abbrev main_v227 : Ref sig .tc := ⟨.hbm, 258, rfl⟩
abbrev main_v228 : Ref sig .tc := ⟨.hbm, 259, rfl⟩
abbrev main_v229 : Ref sig .tc := ⟨.hbm, 260, rfl⟩
abbrev main_v230 : Ref sig .tc := ⟨.hbm, 261, rfl⟩
abbrev main_v231 : Ref sig .tc := ⟨.hbm, 262, rfl⟩
abbrev main_v232 : Ref sig .tc := ⟨.hbm, 263, rfl⟩
abbrev main_v233 : Ref sig .tc := ⟨.hbm, 264, rfl⟩
abbrev main_v234 : Ref sig .tc := ⟨.hbm, 265, rfl⟩
abbrev main_v235 : Ref sig .tc := ⟨.hbm, 266, rfl⟩
abbrev main_v236 : Ref sig .tc := ⟨.hbm, 267, rfl⟩
abbrev main_v237 : Ref sig .tc := ⟨.hbm, 268, rfl⟩
abbrev main_v238 : Ref sig .tc := ⟨.hbm, 269, rfl⟩
abbrev main_v239 : Ref sig .tc := ⟨.hbm, 270, rfl⟩
abbrev main_v240 : Ref sig .tc := ⟨.hbm, 271, rfl⟩
abbrev main_v241 : Ref sig .tc := ⟨.hbm, 272, rfl⟩
abbrev main_v242 : Ref sig .tc := ⟨.hbm, 273, rfl⟩
abbrev main_v243 : Ref sig .tc := ⟨.hbm, 274, rfl⟩
abbrev main_v244 : Ref sig .tc := ⟨.hbm, 275, rfl⟩
abbrev main_v245 : Ref sig .tc := ⟨.hbm, 276, rfl⟩
abbrev main_v246 : Ref sig .tc := ⟨.hbm, 277, rfl⟩
abbrev main_v247 : Ref sig .tc := ⟨.hbm, 278, rfl⟩
abbrev main_v248 : Ref sig .tc := ⟨.hbm, 279, rfl⟩
abbrev main_v249 : Ref sig .tc := ⟨.hbm, 280, rfl⟩
abbrev main_v250 : Ref sig .tc := ⟨.hbm, 281, rfl⟩
abbrev main_cst_25 : Ref sig .tc := ⟨.hbm, 282, rfl⟩
abbrev main_v251 : Ref sig .tc := ⟨.hbm, 283, rfl⟩
abbrev main_v252 : Ref sig .tc := ⟨.hbm, 284, rfl⟩
abbrev main_v253 : Ref sig .tc := ⟨.hbm, 285, rfl⟩
abbrev main_cst_26 : Ref sig .tc := ⟨.hbm, 286, rfl⟩
abbrev main_v254 : Ref sig .tc := ⟨.hbm, 287, rfl⟩
abbrev main_v255 : Ref sig .tc := ⟨.hbm, 288, rfl⟩
abbrev main_v256 : Ref sig .tc := ⟨.hbm, 289, rfl⟩
abbrev main_v257 : Ref sig .tc := ⟨.hbm, 290, rfl⟩
abbrev main_v258 : Ref sig .tc := ⟨.hbm, 291, rfl⟩
abbrev main_v259 : Ref sig .tc := ⟨.hbm, 292, rfl⟩
abbrev main_v260 : Ref sig .tc := ⟨.hbm, 293, rfl⟩
abbrev main_v261 : Ref sig .tc := ⟨.hbm, 294, rfl⟩
abbrev main_v262 : Ref sig .tc := ⟨.hbm, 295, rfl⟩
abbrev main_v263 : Ref sig .tc := ⟨.hbm, 296, rfl⟩
abbrev main_v264 : Ref sig .tc := ⟨.hbm, 297, rfl⟩
abbrev main_v265 : Ref sig .tc := ⟨.hbm, 298, rfl⟩
abbrev main_v266 : Ref sig .tc := ⟨.hbm, 299, rfl⟩
abbrev main_v267 : Ref sig .tc := ⟨.hbm, 300, rfl⟩
abbrev main_v268 : Ref sig .tc := ⟨.hbm, 301, rfl⟩
abbrev main_v269 : Ref sig .tc := ⟨.hbm, 302, rfl⟩
abbrev main_v270 : Ref sig .tc := ⟨.hbm, 303, rfl⟩
abbrev main_v271 : Ref sig .tc := ⟨.hbm, 304, rfl⟩
abbrev main_v272 : Ref sig .tc := ⟨.hbm, 305, rfl⟩
abbrev main_v273 : Ref sig .tc := ⟨.hbm, 306, rfl⟩
abbrev main_v274 : Ref sig .tc := ⟨.hbm, 307, rfl⟩
abbrev main_v275 : Ref sig .tc := ⟨.hbm, 308, rfl⟩
abbrev main_v276 : Ref sig .tc := ⟨.hbm, 309, rfl⟩
abbrev main_v277 : Ref sig .tc := ⟨.hbm, 310, rfl⟩
abbrev main_v278 : Ref sig .tc := ⟨.hbm, 311, rfl⟩
abbrev main_v279 : Ref sig .tc := ⟨.hbm, 312, rfl⟩
abbrev main_v280 : Ref sig .tc := ⟨.hbm, 313, rfl⟩
abbrev main_v281 : Ref sig .tc := ⟨.hbm, 314, rfl⟩
abbrev main_v282 : Ref sig .tc := ⟨.hbm, 315, rfl⟩
abbrev main_v283 : Ref sig .tc := ⟨.hbm, 316, rfl⟩
abbrev main_v284 : Ref sig .tc := ⟨.hbm, 317, rfl⟩
abbrev main_cst_27 : Ref sig .tc := ⟨.hbm, 318, rfl⟩
abbrev main_v285 : Ref sig .tc := ⟨.hbm, 319, rfl⟩
abbrev main_v286 : Ref sig .tc := ⟨.hbm, 320, rfl⟩
abbrev main_v287 : Ref sig .tc := ⟨.hbm, 321, rfl⟩
abbrev main_v288 : Ref sig .tc := ⟨.hbm, 322, rfl⟩
abbrev main_v289 : Ref sig .tc := ⟨.hbm, 323, rfl⟩
abbrev main_cst_28 : Ref sig .tc := ⟨.hbm, 324, rfl⟩
abbrev main_v290 : Ref sig .tc := ⟨.hbm, 325, rfl⟩
abbrev main_v291 : Ref sig .tc := ⟨.hbm, 326, rfl⟩
abbrev main_cst_29 : Ref sig .tc := ⟨.hbm, 327, rfl⟩
abbrev main_v292 : Ref sig .tc := ⟨.hbm, 328, rfl⟩
abbrev main_v293 : Ref sig .tc := ⟨.hbm, 329, rfl⟩
abbrev main_c : Ref sig .tc := ⟨.hbm, 330, rfl⟩
abbrev main_v294 : Ref sig .tc := ⟨.hbm, 331, rfl⟩
abbrev main_v295 : Ref sig .tc := ⟨.hbm, 332, rfl⟩
abbrev main_c_30 : Ref sig .tc := ⟨.hbm, 333, rfl⟩
abbrev main_v296 : Ref sig .tc := ⟨.hbm, 334, rfl⟩
abbrev main_v297 : Ref sig .tc := ⟨.hbm, 335, rfl⟩
abbrev main_v298 : Ref sig .tc := ⟨.hbm, 336, rfl⟩
abbrev main_call0_c : Ref sig .tc := ⟨.hbm, 337, rfl⟩
abbrev main_call0_v0 : Ref sig .tc := ⟨.hbm, 338, rfl⟩
abbrev main_call0_v1 : Ref sig .tc := ⟨.hbm, 339, rfl⟩
abbrev main_call0_c_0 : Ref sig .tc := ⟨.hbm, 340, rfl⟩
abbrev main_call0_v2 : Ref sig .tc := ⟨.hbm, 341, rfl⟩
abbrev main_call0_v3 : Ref sig .tc := ⟨.hbm, 342, rfl⟩
abbrev main_call0_v4 : Ref sig .tc := ⟨.hbm, 343, rfl⟩
abbrev main_call0_v5 : Ref sig .tc := ⟨.hbm, 344, rfl⟩
abbrev main_v299 : Ref sig .tc := ⟨.hbm, 345, rfl⟩
abbrev main_v300 : Ref sig .tc := ⟨.hbm, 346, rfl⟩
abbrev main_cst_31 : Ref sig .tc := ⟨.hbm, 347, rfl⟩
abbrev main_v301 : Ref sig .tc := ⟨.hbm, 348, rfl⟩
abbrev main_v302 : Ref sig .tc := ⟨.hbm, 349, rfl⟩
abbrev main_cst_32 : Ref sig .tc := ⟨.hbm, 350, rfl⟩
abbrev main_v303 : Ref sig .tc := ⟨.hbm, 351, rfl⟩
abbrev main_v304 : Ref sig .tc := ⟨.hbm, 352, rfl⟩
abbrev main_v305 : Ref sig .tc := ⟨.hbm, 353, rfl⟩
abbrev main_v306 : Ref sig .tc := ⟨.hbm, 354, rfl⟩
abbrev main_v307 : Ref sig .tc := ⟨.hbm, 355, rfl⟩
abbrev main_v308 : Ref sig .tc := ⟨.hbm, 356, rfl⟩
abbrev main_v309 : Ref sig .tc := ⟨.hbm, 357, rfl⟩
abbrev main_v310 : Ref sig .tc := ⟨.hbm, 358, rfl⟩
abbrev main_cst_33 : Ref sig .tc := ⟨.hbm, 359, rfl⟩
abbrev main_v311 : Ref sig .tc := ⟨.hbm, 360, rfl⟩
abbrev main_v312 : Ref sig .tc := ⟨.hbm, 361, rfl⟩
abbrev main_v313 : Ref sig .tc := ⟨.hbm, 362, rfl⟩
abbrev main_v314 : Ref sig .tc := ⟨.hbm, 363, rfl⟩
abbrev main_v315 : Ref sig .tc := ⟨.hbm, 364, rfl⟩
abbrev main_v316 : Ref sig .tc := ⟨.hbm, 365, rfl⟩
abbrev main_v317 : Ref sig .tc := ⟨.hbm, 366, rfl⟩
abbrev main_cst_34 : Ref sig .tc := ⟨.hbm, 367, rfl⟩
abbrev main_v318 : Ref sig .tc := ⟨.hbm, 368, rfl⟩
abbrev main_v319 : Ref sig .tc := ⟨.hbm, 369, rfl⟩
abbrev main_v320 : Ref sig .tc := ⟨.hbm, 370, rfl⟩
abbrev main_v321 : Ref sig .tc := ⟨.hbm, 371, rfl⟩
abbrev main_v322 : Ref sig .tc := ⟨.hbm, 372, rfl⟩
abbrev main_v323 : Ref sig .tc := ⟨.hbm, 373, rfl⟩
abbrev main_v324 : Ref sig .tc := ⟨.hbm, 374, rfl⟩
abbrev main_v325 : Ref sig .tc := ⟨.hbm, 375, rfl⟩
abbrev main_v326 : Ref sig .tc := ⟨.hbm, 376, rfl⟩
abbrev main_v327 : Ref sig .tc := ⟨.hbm, 377, rfl⟩
abbrev main_v328 : Ref sig .tc := ⟨.hbm, 378, rfl⟩
abbrev main_v329 : Ref sig .tc := ⟨.hbm, 379, rfl⟩
abbrev main_v330 : Ref sig .tc := ⟨.hbm, 380, rfl⟩
abbrev main_v331 : Ref sig .tc := ⟨.hbm, 381, rfl⟩
abbrev main_v332 : Ref sig .tc := ⟨.hbm, 382, rfl⟩
abbrev main_v333 : Ref sig .tc := ⟨.hbm, 383, rfl⟩
abbrev main_v334 : Ref sig .tc := ⟨.hbm, 384, rfl⟩
abbrev main_v335 : Ref sig .tc := ⟨.hbm, 385, rfl⟩
abbrev main_v336 : Ref sig .tc := ⟨.hbm, 386, rfl⟩
abbrev main_v337 : Ref sig .tc := ⟨.hbm, 387, rfl⟩
abbrev main_v338 : Ref sig .tc := ⟨.hbm, 388, rfl⟩
abbrev main_v339 : Ref sig .tc := ⟨.hbm, 389, rfl⟩
abbrev main_v340 : Ref sig .tc := ⟨.hbm, 390, rfl⟩
abbrev main_v341 : Ref sig .tc := ⟨.hbm, 391, rfl⟩
abbrev main_v342 : Ref sig .tc := ⟨.hbm, 392, rfl⟩
abbrev main_v343 : Ref sig .tc := ⟨.hbm, 393, rfl⟩
abbrev main_v344 : Ref sig .tc := ⟨.hbm, 394, rfl⟩
abbrev main_v345 : Ref sig .tc := ⟨.hbm, 395, rfl⟩
abbrev main_cst_35 : Ref sig .tc := ⟨.hbm, 396, rfl⟩
abbrev main_v346 : Ref sig .tc := ⟨.hbm, 397, rfl⟩
abbrev main_v347 : Ref sig .tc := ⟨.hbm, 398, rfl⟩
abbrev main_values : Ref sig .tc := ⟨.hbm, 399, rfl⟩
abbrev main_indices : Ref sig .tc := ⟨.hbm, 400, rfl⟩
abbrev main_call1_v0 : Ref sig .tc := ⟨.hbm, 401, rfl⟩
abbrev main_call1_v1 : Ref sig .tc := ⟨.hbm, 402, rfl⟩
abbrev main_call1_v2 : Ref sig .tc := ⟨.hbm, 403, rfl⟩
abbrev main_call1_v3 : Ref sig .tc := ⟨.hbm, 404, rfl⟩
abbrev main_call1_v4 : Ref sig .tc := ⟨.hbm, 405, rfl⟩
abbrev main_v348 : Ref sig .tc := ⟨.hbm, 406, rfl⟩
abbrev main_cst_36 : Ref sig .tc := ⟨.hbm, 407, rfl⟩
abbrev main_v349 : Ref sig .tc := ⟨.hbm, 408, rfl⟩
abbrev main_v350 : Ref sig .tc := ⟨.hbm, 409, rfl⟩
abbrev main_v351 : Ref sig .tc := ⟨.hbm, 410, rfl⟩
abbrev main_v352 : Ref sig .tc := ⟨.hbm, 411, rfl⟩
abbrev main_v353 : Ref sig .tc := ⟨.hbm, 412, rfl⟩
abbrev main_v354 : Ref sig .tc := ⟨.hbm, 413, rfl⟩
abbrev main_cst_37 : Ref sig .tc := ⟨.hbm, 414, rfl⟩
abbrev main_v355 : Ref sig .tc := ⟨.hbm, 415, rfl⟩
abbrev main_cst_38 : Ref sig .tc := ⟨.hbm, 416, rfl⟩
abbrev main_v356 : Ref sig .tc := ⟨.hbm, 417, rfl⟩
abbrev main_v357 : Ref sig .tc := ⟨.hbm, 418, rfl⟩
abbrev main_v358 : Ref sig .tc := ⟨.hbm, 419, rfl⟩
abbrev main_v359 : Ref sig .tc := ⟨.hbm, 420, rfl⟩
abbrev main_cst_39 : Ref sig .tc := ⟨.hbm, 421, rfl⟩
abbrev main_v360 : Ref sig .tc := ⟨.hbm, 422, rfl⟩
abbrev main_cst_40 : Ref sig .tc := ⟨.hbm, 423, rfl⟩
abbrev main_v361 : Ref sig .tc := ⟨.hbm, 424, rfl⟩
abbrev main_v362 : Ref sig .tc := ⟨.hbm, 425, rfl⟩
abbrev main_cst_41 : Ref sig .tc := ⟨.hbm, 426, rfl⟩
abbrev main_call2_v0 : Ref sig .tc := ⟨.hbm, 427, rfl⟩
abbrev main_call2_v1 : Ref sig .tc := ⟨.hbm, 428, rfl⟩
abbrev main_v363 : Ref sig .tc := ⟨.hbm, 429, rfl⟩
abbrev main_v364 : Ref sig .tc := ⟨.hbm, 430, rfl⟩
abbrev main_cst_42 : Ref sig .tc := ⟨.hbm, 431, rfl⟩
abbrev main_v365 : Ref sig .tc := ⟨.hbm, 432, rfl⟩
abbrev main_v366 : Ref sig .tc := ⟨.hbm, 433, rfl⟩
abbrev main_v367 : Ref sig .tc := ⟨.hbm, 434, rfl⟩
abbrev main_v368 : Ref sig .tc := ⟨.hbm, 435, rfl⟩
abbrev main_c_43 : Ref sig .tc := ⟨.hbm, 436, rfl⟩
abbrev main_call3_v0 : Ref sig .tc := ⟨.hbm, 437, rfl⟩
abbrev main_call3_v1 : Ref sig .tc := ⟨.hbm, 438, rfl⟩
abbrev main_v369 : Ref sig .tc := ⟨.hbm, 439, rfl⟩
abbrev main_c_44 : Ref sig .tc := ⟨.hbm, 440, rfl⟩
abbrev main_v370 : Ref sig .tc := ⟨.hbm, 441, rfl⟩
abbrev main_call4_v0 : Ref sig .tc := ⟨.hbm, 442, rfl⟩
abbrev main_call4_v1 : Ref sig .tc := ⟨.hbm, 443, rfl⟩
abbrev main_call4_v2 : Ref sig .tc := ⟨.hbm, 444, rfl⟩
abbrev main_call4_v3 : Ref sig .tc := ⟨.hbm, 445, rfl⟩
abbrev main_call4_v4 : Ref sig .tc := ⟨.hbm, 446, rfl⟩
abbrev main_v371 : Ref sig .tc := ⟨.hbm, 447, rfl⟩
abbrev main_v372 : Ref sig .tc := ⟨.hbm, 448, rfl⟩
abbrev main_v373 : Ref sig .tc := ⟨.hbm, 449, rfl⟩
abbrev main_cst_45 : Ref sig .tc := ⟨.hbm, 450, rfl⟩
abbrev main_v374 : Ref sig .tc := ⟨.hbm, 451, rfl⟩
abbrev main_v375 : Ref sig .tc := ⟨.hbm, 452, rfl⟩
abbrev main_v376 : Ref sig .tc := ⟨.hbm, 453, rfl⟩
abbrev main_call5_v0 : Ref sig .tc := ⟨.hbm, 454, rfl⟩
abbrev main_v377 : Ref sig .tc := ⟨.hbm, 455, rfl⟩
abbrev main_cst_46 : Ref sig .tc := ⟨.hbm, 456, rfl⟩
abbrev main_v378 : Ref sig .tc := ⟨.hbm, 457, rfl⟩
abbrev main_cst_47 : Ref sig .tc := ⟨.hbm, 458, rfl⟩
abbrev main_v379 : Ref sig .tc := ⟨.hbm, 459, rfl⟩
abbrev main_v380 : Ref sig .tc := ⟨.hbm, 460, rfl⟩
abbrev main_v381 : Ref sig .tc := ⟨.hbm, 461, rfl⟩
abbrev main_cst_48 : Ref sig .tc := ⟨.hbm, 462, rfl⟩
abbrev main_v382 : Ref sig .tc := ⟨.hbm, 463, rfl⟩
abbrev main_v383 : Ref sig .tc := ⟨.hbm, 464, rfl⟩
abbrev main_v384 : Ref sig .tc := ⟨.hbm, 465, rfl⟩
abbrev main_v385 : Ref sig .tc := ⟨.hbm, 466, rfl⟩
abbrev main_c_49 : Ref sig .tc := ⟨.hbm, 467, rfl⟩
abbrev main_call6_v0 : Ref sig .tc := ⟨.hbm, 468, rfl⟩
abbrev main_call6_v1 : Ref sig .tc := ⟨.hbm, 469, rfl⟩
abbrev main_v386 : Ref sig .tc := ⟨.hbm, 470, rfl⟩
abbrev main_c_50 : Ref sig .tc := ⟨.hbm, 471, rfl⟩
abbrev main_v387 : Ref sig .tc := ⟨.hbm, 472, rfl⟩
abbrev main_v388 : Ref sig .tc := ⟨.hbm, 473, rfl⟩
abbrev main_call7_c : Ref sig .tc := ⟨.hbm, 474, rfl⟩
abbrev main_call7_v0 : Ref sig .tc := ⟨.hbm, 475, rfl⟩
abbrev main_call7_v1 : Ref sig .tc := ⟨.hbm, 476, rfl⟩
abbrev main_call7_c_0 : Ref sig .tc := ⟨.hbm, 477, rfl⟩
abbrev main_call7_v2 : Ref sig .tc := ⟨.hbm, 478, rfl⟩
abbrev main_call7_v3 : Ref sig .tc := ⟨.hbm, 479, rfl⟩
abbrev main_call7_v4 : Ref sig .tc := ⟨.hbm, 480, rfl⟩
abbrev main_v389 : Ref sig .tc := ⟨.hbm, 481, rfl⟩
abbrev main_call8_c : Ref sig .tc := ⟨.hbm, 482, rfl⟩
abbrev main_call8_v0 : Ref sig .tc := ⟨.hbm, 483, rfl⟩
abbrev main_call8_v1 : Ref sig .tc := ⟨.hbm, 484, rfl⟩
abbrev main_call8_c_0 : Ref sig .tc := ⟨.hbm, 485, rfl⟩
abbrev main_call8_v2 : Ref sig .tc := ⟨.hbm, 486, rfl⟩
abbrev main_call8_v3 : Ref sig .tc := ⟨.hbm, 487, rfl⟩
abbrev main_call8_v4 : Ref sig .tc := ⟨.hbm, 488, rfl⟩
abbrev main_call8_v5 : Ref sig .tc := ⟨.hbm, 489, rfl⟩
abbrev main_v390 : Ref sig .tc := ⟨.hbm, 490, rfl⟩
abbrev main_v391 : Ref sig .tc := ⟨.hbm, 491, rfl⟩
abbrev main_cst_51 : Ref sig .tc := ⟨.hbm, 492, rfl⟩
abbrev main_v392 : Ref sig .tc := ⟨.hbm, 493, rfl⟩
abbrev main_v393 : Ref sig .tc := ⟨.hbm, 494, rfl⟩
abbrev main_v394 : Ref sig .tc := ⟨.hbm, 495, rfl⟩
abbrev main_cst_52 : Ref sig .tc := ⟨.hbm, 496, rfl⟩
abbrev main_v395 : Ref sig .tc := ⟨.hbm, 497, rfl⟩
abbrev main_v396 : Ref sig .tc := ⟨.hbm, 498, rfl⟩
abbrev main_v397 : Ref sig .tc := ⟨.hbm, 499, rfl⟩
abbrev main_v398 : Ref sig .tc := ⟨.hbm, 500, rfl⟩
abbrev main_cst_53 : Ref sig .tc := ⟨.hbm, 501, rfl⟩
abbrev main_v399 : Ref sig .tc := ⟨.hbm, 502, rfl⟩
abbrev main_v400 : Ref sig .tc := ⟨.hbm, 503, rfl⟩
abbrev main_v401 : Ref sig .tc := ⟨.hbm, 504, rfl⟩
abbrev main_v402 : Ref sig .tc := ⟨.hbm, 505, rfl⟩
abbrev main_cst_54 : Ref sig .tc := ⟨.hbm, 506, rfl⟩
abbrev main_v403 : Ref sig .tc := ⟨.hbm, 507, rfl⟩
abbrev main_call9_v0 : Ref sig .tc := ⟨.hbm, 508, rfl⟩
abbrev main_call9_v1 : Ref sig .tc := ⟨.hbm, 509, rfl⟩
abbrev main_call9_v2 : Ref sig .tc := ⟨.hbm, 510, rfl⟩
abbrev main_call9_v3 : Ref sig .tc := ⟨.hbm, 511, rfl⟩
abbrev main_call9_v4 : Ref sig .tc := ⟨.hbm, 512, rfl⟩
abbrev main_v404 : Ref sig .tc := ⟨.hbm, 513, rfl⟩
abbrev main_v405 : Ref sig .tc := ⟨.hbm, 514, rfl⟩
abbrev main_v406 : Ref sig .tc := ⟨.hbm, 515, rfl⟩
abbrev main_v407 : Ref sig .tc := ⟨.hbm, 516, rfl⟩
abbrev main_v408 : Ref sig .tc := ⟨.hbm, 517, rfl⟩
abbrev main_v409 : Ref sig .tc := ⟨.hbm, 518, rfl⟩
abbrev main_v410 : Ref sig .tc := ⟨.hbm, 519, rfl⟩
abbrev main_v411 : Ref sig .tc := ⟨.hbm, 520, rfl⟩
abbrev main_v412 : Ref sig .tc := ⟨.hbm, 521, rfl⟩
abbrev main_c_55 : Ref sig .tc := ⟨.hbm, 522, rfl⟩
abbrev main_v413 : Ref sig .tc := ⟨.hbm, 523, rfl⟩
abbrev main_v414 : Ref sig .tc := ⟨.hbm, 524, rfl⟩
abbrev main_cst_56 : Ref sig .tc := ⟨.hbm, 525, rfl⟩
abbrev main_v415 : Ref sig .tc := ⟨.hbm, 526, rfl⟩
abbrev main_c_57 : Ref sig .tc := ⟨.hbm, 527, rfl⟩
abbrev main_call10_v0 : Ref sig .tc := ⟨.hbm, 528, rfl⟩
abbrev main_call10_v1 : Ref sig .tc := ⟨.hbm, 529, rfl⟩
abbrev main_v416 : Ref sig .tc := ⟨.hbm, 530, rfl⟩
abbrev main_v417 : Ref sig .tc := ⟨.hbm, 531, rfl⟩
abbrev main_v418 : Ref sig .tc := ⟨.hbm, 532, rfl⟩
abbrev main_v419 : Ref sig .tc := ⟨.hbm, 533, rfl⟩
abbrev main_v420 : Ref sig .tc := ⟨.hbm, 534, rfl⟩
abbrev main_v421 : Ref sig .tc := ⟨.hbm, 535, rfl⟩
abbrev main_v422 : Ref sig .tc := ⟨.hbm, 536, rfl⟩
abbrev main_v423 : Ref sig .tc := ⟨.hbm, 537, rfl⟩
abbrev main_cst_58 : Ref sig .tc := ⟨.hbm, 538, rfl⟩
abbrev main_v424 : Ref sig .tc := ⟨.hbm, 539, rfl⟩
abbrev main_v425 : Ref sig .tc := ⟨.hbm, 540, rfl⟩
abbrev main_v426 : Ref sig .tc := ⟨.hbm, 541, rfl⟩
abbrev main_v427 : Ref sig .tc := ⟨.hbm, 542, rfl⟩
abbrev main_v428 : Ref sig .tc := ⟨.hbm, 543, rfl⟩
abbrev main_v429 : Ref sig .tc := ⟨.hbm, 544, rfl⟩
abbrev main_v430 : Ref sig .tc := ⟨.hbm, 545, rfl⟩
abbrev main_v431 : Ref sig .tc := ⟨.hbm, 546, rfl⟩
abbrev main_v432 : Ref sig .tc := ⟨.hbm, 547, rfl⟩
abbrev main_v433 : Ref sig .tc := ⟨.hbm, 548, rfl⟩
abbrev main_v434 : Ref sig .tc := ⟨.hbm, 549, rfl⟩
abbrev main_v435 : Ref sig .tc := ⟨.hbm, 550, rfl⟩
abbrev main_v436 : Ref sig .tc := ⟨.hbm, 551, rfl⟩
abbrev main_v437 : Ref sig .tc := ⟨.hbm, 552, rfl⟩
abbrev main_v438 : Ref sig .tc := ⟨.hbm, 553, rfl⟩
abbrev main_v439 : Ref sig .tc := ⟨.hbm, 554, rfl⟩
abbrev main_v440 : Ref sig .tc := ⟨.hbm, 555, rfl⟩
abbrev main_v441 : Ref sig .tc := ⟨.hbm, 556, rfl⟩
abbrev main_v442 : Ref sig .tc := ⟨.hbm, 557, rfl⟩
abbrev main_v443 : Ref sig .tc := ⟨.hbm, 558, rfl⟩
abbrev main_v444 : Ref sig .tc := ⟨.hbm, 559, rfl⟩
abbrev main_v445 : Ref sig .tc := ⟨.hbm, 560, rfl⟩
abbrev main_v446 : Ref sig .tc := ⟨.hbm, 561, rfl⟩
abbrev main_c_59 : Ref sig .tc := ⟨.hbm, 562, rfl⟩
abbrev main_call11_v0 : Ref sig .tc := ⟨.hbm, 563, rfl⟩
abbrev main_call11_v1 : Ref sig .tc := ⟨.hbm, 564, rfl⟩
abbrev main_v447 : Ref sig .tc := ⟨.hbm, 565, rfl⟩
abbrev main_v448 : Ref sig .tc := ⟨.hbm, 566, rfl⟩
abbrev main_c_60 : Ref sig .tc := ⟨.hbm, 567, rfl⟩
abbrev main_call12_v0 : Ref sig .tc := ⟨.hbm, 568, rfl⟩
abbrev main_call12_v1 : Ref sig .tc := ⟨.hbm, 569, rfl⟩
abbrev main_v449 : Ref sig .tc := ⟨.hbm, 570, rfl⟩
abbrev main_v450 : Ref sig .tc := ⟨.hbm, 571, rfl⟩
abbrev main_v451 : Ref sig .tc := ⟨.hbm, 572, rfl⟩
abbrev main_v452 : Ref sig .tc := ⟨.hbm, 573, rfl⟩
abbrev main_v453 : Ref sig .tc := ⟨.hbm, 574, rfl⟩
abbrev main_v454 : Ref sig .tc := ⟨.hbm, 575, rfl⟩
abbrev main_v455 : Ref sig .tc := ⟨.hbm, 576, rfl⟩
abbrev main_v456 : Ref sig .tc := ⟨.hbm, 577, rfl⟩
abbrev main_v457 : Ref sig .tc := ⟨.hbm, 578, rfl⟩
abbrev main_v458 : Ref sig .tc := ⟨.hbm, 579, rfl⟩
abbrev main_v459 : Ref sig .tc := ⟨.hbm, 580, rfl⟩
abbrev main_v460 : Ref sig .tc := ⟨.hbm, 581, rfl⟩
abbrev main_v461 : Ref sig .tc := ⟨.hbm, 582, rfl⟩
abbrev main_v462 : Ref sig .tc := ⟨.hbm, 583, rfl⟩
abbrev main_v463 : Ref sig .tc := ⟨.hbm, 584, rfl⟩
abbrev main_v464 : Ref sig .tc := ⟨.hbm, 585, rfl⟩
abbrev main_v465 : Ref sig .tc := ⟨.hbm, 586, rfl⟩
abbrev main_v466 : Ref sig .tc := ⟨.hbm, 587, rfl⟩
abbrev main_v467 : Ref sig .tc := ⟨.hbm, 588, rfl⟩
abbrev main_v468 : Ref sig .tc := ⟨.hbm, 589, rfl⟩
abbrev main_v469 : Ref sig .tc := ⟨.hbm, 590, rfl⟩
abbrev main_v470 : Ref sig .tc := ⟨.hbm, 591, rfl⟩
abbrev main_v471 : Ref sig .tc := ⟨.hbm, 592, rfl⟩
abbrev main_v472 : Ref sig .tc := ⟨.hbm, 593, rfl⟩
abbrev main_v473 : Ref sig .tc := ⟨.hbm, 594, rfl⟩
abbrev main_v474 : Ref sig .tc := ⟨.hbm, 595, rfl⟩
abbrev main_cst_61 : Ref sig .tc := ⟨.hbm, 596, rfl⟩
abbrev main_v475 : Ref sig .tc := ⟨.hbm, 597, rfl⟩
abbrev main_v476 : Ref sig .tc := ⟨.hbm, 598, rfl⟩
abbrev main_v477 : Ref sig .tc := ⟨.hbm, 599, rfl⟩
abbrev main_v478 : Ref sig .tc := ⟨.hbm, 600, rfl⟩
abbrev main_v479 : Ref sig .tc := ⟨.hbm, 601, rfl⟩
abbrev main_v480 : Ref sig .tc := ⟨.hbm, 602, rfl⟩
abbrev main_v481 : Ref sig .tc := ⟨.hbm, 603, rfl⟩
abbrev main_v482 : Ref sig .tc := ⟨.hbm, 604, rfl⟩
abbrev main_v483 : Ref sig .tc := ⟨.hbm, 605, rfl⟩
abbrev main_v484 : Ref sig .tc := ⟨.hbm, 606, rfl⟩
abbrev main_v485 : Ref sig .tc := ⟨.hbm, 607, rfl⟩
abbrev main_v486 : Ref sig .tc := ⟨.hbm, 608, rfl⟩
abbrev main_v487 : Ref sig .tc := ⟨.hbm, 609, rfl⟩
abbrev main_v488 : Ref sig .tc := ⟨.hbm, 610, rfl⟩
abbrev main_v489 : Ref sig .tc := ⟨.hbm, 611, rfl⟩
abbrev main_v490 : Ref sig .tc := ⟨.hbm, 612, rfl⟩
abbrev main_v491 : Ref sig .tc := ⟨.hbm, 613, rfl⟩
abbrev main_v492 : Ref sig .tc := ⟨.hbm, 614, rfl⟩
abbrev main_v493 : Ref sig .tc := ⟨.hbm, 615, rfl⟩
abbrev main_v494 : Ref sig .tc := ⟨.hbm, 616, rfl⟩
abbrev main_v495 : Ref sig .tc := ⟨.hbm, 617, rfl⟩
abbrev main_v496 : Ref sig .tc := ⟨.hbm, 618, rfl⟩
abbrev main_v497 : Ref sig .tc := ⟨.hbm, 619, rfl⟩
abbrev main_v498 : Ref sig .tc := ⟨.hbm, 620, rfl⟩
abbrev main_v499 : Ref sig .tc := ⟨.hbm, 621, rfl⟩
abbrev main_v500 : Ref sig .tc := ⟨.hbm, 622, rfl⟩
abbrev main_v501 : Ref sig .tc := ⟨.hbm, 623, rfl⟩
abbrev main_v502 : Ref sig .tc := ⟨.hbm, 624, rfl⟩
abbrev main_cst_62 : Ref sig .tc := ⟨.hbm, 625, rfl⟩
abbrev main_v503 : Ref sig .tc := ⟨.hbm, 626, rfl⟩
abbrev main_v504 : Ref sig .tc := ⟨.hbm, 627, rfl⟩
abbrev main_v505 : Ref sig .tc := ⟨.hbm, 628, rfl⟩
abbrev main_v506 : Ref sig .tc := ⟨.hbm, 629, rfl⟩
abbrev main_v507 : Ref sig .tc := ⟨.hbm, 630, rfl⟩
abbrev main_v508 : Ref sig .tc := ⟨.hbm, 631, rfl⟩
abbrev main_v509 : Ref sig .tc := ⟨.hbm, 632, rfl⟩
abbrev main_v510 : Ref sig .tc := ⟨.hbm, 633, rfl⟩
abbrev main_v511 : Ref sig .tc := ⟨.hbm, 634, rfl⟩
abbrev main_v512 : Ref sig .tc := ⟨.hbm, 635, rfl⟩
abbrev main_v513 : Ref sig .tc := ⟨.hbm, 636, rfl⟩
abbrev main_v514 : Ref sig .tc := ⟨.hbm, 637, rfl⟩
abbrev main_v515 : Ref sig .tc := ⟨.hbm, 638, rfl⟩
abbrev main_v516 : Ref sig .tc := ⟨.hbm, 639, rfl⟩
abbrev main_v517 : Ref sig .tc := ⟨.hbm, 640, rfl⟩
abbrev main_v518 : Ref sig .tc := ⟨.hbm, 641, rfl⟩
abbrev main_v519 : Ref sig .tc := ⟨.hbm, 642, rfl⟩
abbrev main_v520 : Ref sig .tc := ⟨.hbm, 643, rfl⟩
abbrev main_v521 : Ref sig .tc := ⟨.hbm, 644, rfl⟩
abbrev main_v522 : Ref sig .tc := ⟨.hbm, 645, rfl⟩
abbrev main_v523 : Ref sig .tc := ⟨.hbm, 646, rfl⟩
abbrev main_v524 : Ref sig .tc := ⟨.hbm, 647, rfl⟩
abbrev main_v525 : Ref sig .tc := ⟨.hbm, 648, rfl⟩
abbrev main_v526 : Ref sig .tc := ⟨.hbm, 649, rfl⟩
abbrev main_v527 : Ref sig .tc := ⟨.hbm, 650, rfl⟩
abbrev main_v528 : Ref sig .tc := ⟨.hbm, 651, rfl⟩
abbrev main_v529 : Ref sig .tc := ⟨.hbm, 652, rfl⟩
abbrev main_cst_63 : Ref sig .tc := ⟨.hbm, 653, rfl⟩
abbrev main_v530 : Ref sig .tc := ⟨.hbm, 654, rfl⟩
abbrev main_v531 : Ref sig .tc := ⟨.hbm, 655, rfl⟩
abbrev main_v532 : Ref sig .tc := ⟨.hbm, 656, rfl⟩
abbrev main_v533 : Ref sig .tc := ⟨.hbm, 657, rfl⟩
abbrev main_v534 : Ref sig .tc := ⟨.hbm, 658, rfl⟩
abbrev main_v535 : Ref sig .tc := ⟨.hbm, 659, rfl⟩
abbrev main_v536 : Ref sig .tc := ⟨.hbm, 660, rfl⟩
abbrev main_v537 : Ref sig .tc := ⟨.hbm, 661, rfl⟩
abbrev main_v538 : Ref sig .tc := ⟨.hbm, 662, rfl⟩
abbrev main_v539 : Ref sig .tc := ⟨.hbm, 663, rfl⟩
abbrev main_v540 : Ref sig .tc := ⟨.hbm, 664, rfl⟩
abbrev main_v541 : Ref sig .tc := ⟨.hbm, 665, rfl⟩
abbrev main_cst_64 : Ref sig .tc := ⟨.hbm, 666, rfl⟩
abbrev main_v542 : Ref sig .tc := ⟨.hbm, 667, rfl⟩
abbrev main_v543 : Ref sig .tc := ⟨.hbm, 668, rfl⟩
abbrev main_v544 : Ref sig .tc := ⟨.hbm, 669, rfl⟩
abbrev main_v545 : Ref sig .tc := ⟨.hbm, 670, rfl⟩
abbrev main_v546 : Ref sig .tc := ⟨.hbm, 671, rfl⟩
abbrev main_v547 : Ref sig .tc := ⟨.hbm, 672, rfl⟩
abbrev main_v548 : Ref sig .tc := ⟨.hbm, 673, rfl⟩
abbrev main_v549 : Ref sig .tc := ⟨.hbm, 674, rfl⟩
abbrev main_v550 : Ref sig .tc := ⟨.hbm, 675, rfl⟩
abbrev main_v551 : Ref sig .tc := ⟨.hbm, 676, rfl⟩
abbrev main_v552 : Ref sig .tc := ⟨.hbm, 677, rfl⟩
abbrev main_v553 : Ref sig .tc := ⟨.hbm, 678, rfl⟩
abbrev main_cst_65 : Ref sig .tc := ⟨.hbm, 679, rfl⟩
abbrev main_v554 : Ref sig .tc := ⟨.hbm, 680, rfl⟩
abbrev main_v555 : Ref sig .tc := ⟨.hbm, 681, rfl⟩
abbrev main_v556 : Ref sig .tc := ⟨.hbm, 682, rfl⟩
abbrev main_v557 : Ref sig .tc := ⟨.hbm, 683, rfl⟩
abbrev main_cst_66 : Ref sig .tc := ⟨.hbm, 684, rfl⟩
abbrev main_v558 : Ref sig .tc := ⟨.hbm, 685, rfl⟩
abbrev main_v559 : Ref sig .tc := ⟨.hbm, 686, rfl⟩
abbrev main_v560 : Ref sig .tc := ⟨.hbm, 687, rfl⟩
abbrev main_cst_67 : Ref sig .tc := ⟨.hbm, 688, rfl⟩
abbrev main_v561 : Ref sig .tc := ⟨.hbm, 689, rfl⟩
abbrev main_v562 : Ref sig .tc := ⟨.hbm, 690, rfl⟩
abbrev main_cst_68 : Ref sig .tc := ⟨.hbm, 691, rfl⟩
abbrev main_v563 : Ref sig .tc := ⟨.hbm, 692, rfl⟩
abbrev main_v564 : Ref sig .tc := ⟨.hbm, 693, rfl⟩
abbrev main_v565 : Ref sig .tc := ⟨.hbm, 694, rfl⟩
abbrev main_v566 : Ref sig .tc := ⟨.hbm, 695, rfl⟩
abbrev main_v567 : Ref sig .tc := ⟨.hbm, 696, rfl⟩
abbrev main_cst_69 : Ref sig .tc := ⟨.hbm, 697, rfl⟩
abbrev main_v568 : Ref sig .tc := ⟨.hbm, 698, rfl⟩
abbrev main_v569 : Ref sig .tc := ⟨.hbm, 699, rfl⟩
abbrev main_cst_70 : Ref sig .tc := ⟨.hbm, 700, rfl⟩
abbrev main_v570 : Ref sig .tc := ⟨.hbm, 701, rfl⟩
abbrev main_v571 : Ref sig .tc := ⟨.hbm, 702, rfl⟩
abbrev main_v572 : Ref sig .tc := ⟨.hbm, 703, rfl⟩
abbrev main_v573 : Ref sig .tc := ⟨.hbm, 704, rfl⟩
abbrev main_cst_71 : Ref sig .tc := ⟨.hbm, 705, rfl⟩
abbrev main_v574 : Ref sig .tc := ⟨.hbm, 706, rfl⟩
abbrev main_v575 : Ref sig .tc := ⟨.hbm, 707, rfl⟩
abbrev main_v576 : Ref sig .tc := ⟨.hbm, 708, rfl⟩
abbrev main_v577 : Ref sig .tc := ⟨.hbm, 709, rfl⟩
abbrev main_cst_72 : Ref sig .tc := ⟨.hbm, 710, rfl⟩
abbrev main_v578 : Ref sig .tc := ⟨.hbm, 711, rfl⟩
abbrev main_v579 : Ref sig .tc := ⟨.hbm, 712, rfl⟩
abbrev main_v580 : Ref sig .tc := ⟨.hbm, 713, rfl⟩
abbrev main_v581 : Ref sig .tc := ⟨.hbm, 714, rfl⟩
abbrev main_cst_73 : Ref sig .tc := ⟨.hbm, 715, rfl⟩
abbrev main_v582 : Ref sig .tc := ⟨.hbm, 716, rfl⟩
abbrev main_v583 : Ref sig .tc := ⟨.hbm, 717, rfl⟩
abbrev main_v584 : Ref sig .tc := ⟨.hbm, 718, rfl⟩
abbrev main_v585 : Ref sig .tc := ⟨.hbm, 719, rfl⟩
abbrev main_cst_74 : Ref sig .tc := ⟨.hbm, 720, rfl⟩
abbrev main_v586 : Ref sig .tc := ⟨.hbm, 721, rfl⟩
abbrev main_v587 : Ref sig .tc := ⟨.hbm, 722, rfl⟩
abbrev main_v588 : Ref sig .tc := ⟨.hbm, 723, rfl⟩
abbrev main_v589 : Ref sig .tc := ⟨.hbm, 724, rfl⟩
abbrev main_cst_75 : Ref sig .tc := ⟨.hbm, 725, rfl⟩
abbrev main_v590 : Ref sig .tc := ⟨.hbm, 726, rfl⟩
abbrev main_v591 : Ref sig .tc := ⟨.hbm, 727, rfl⟩
abbrev main_v592 : Ref sig .tc := ⟨.hbm, 728, rfl⟩
abbrev main_v593 : Ref sig .tc := ⟨.hbm, 729, rfl⟩
abbrev main_cst_76 : Ref sig .tc := ⟨.hbm, 730, rfl⟩
abbrev main_v594 : Ref sig .tc := ⟨.hbm, 731, rfl⟩
abbrev main_v595 : Ref sig .tc := ⟨.hbm, 732, rfl⟩
abbrev main_v596 : Ref sig .tc := ⟨.hbm, 733, rfl⟩
abbrev main_v597 : Ref sig .tc := ⟨.hbm, 734, rfl⟩
abbrev main_cst_77 : Ref sig .tc := ⟨.hbm, 735, rfl⟩
abbrev main_v598 : Ref sig .tc := ⟨.hbm, 736, rfl⟩
abbrev main_v599 : Ref sig .tc := ⟨.hbm, 737, rfl⟩
abbrev main_v600 : Ref sig .tc := ⟨.hbm, 738, rfl⟩
abbrev main_cst_78 : Ref sig .tc := ⟨.hbm, 739, rfl⟩
abbrev main_v601 : Ref sig .tc := ⟨.hbm, 740, rfl⟩
abbrev main_v602 : Ref sig .tc := ⟨.hbm, 741, rfl⟩
abbrev main_v603 : Ref sig .tc := ⟨.hbm, 742, rfl⟩
abbrev main_cst_79 : Ref sig .tc := ⟨.hbm, 743, rfl⟩
abbrev main_v604 : Ref sig .tc := ⟨.hbm, 744, rfl⟩
abbrev main_v605 : Ref sig .tc := ⟨.hbm, 745, rfl⟩
abbrev main_v606 : Ref sig .tc := ⟨.hbm, 746, rfl⟩
abbrev main_v607 : Ref sig .tc := ⟨.hbm, 747, rfl⟩
abbrev main_v608 : Ref sig .tc := ⟨.hbm, 748, rfl⟩
abbrev main_v609 : Ref sig .tc := ⟨.hbm, 749, rfl⟩
abbrev main_cst_80 : Ref sig .tc := ⟨.hbm, 750, rfl⟩
abbrev main_v610 : Ref sig .tc := ⟨.hbm, 751, rfl⟩
abbrev main_v611 : Ref sig .tc := ⟨.hbm, 752, rfl⟩
abbrev main_v612 : Ref sig .tc := ⟨.hbm, 753, rfl⟩
abbrev main_cst_81 : Ref sig .tc := ⟨.hbm, 754, rfl⟩
abbrev main_v613 : Ref sig .tc := ⟨.hbm, 755, rfl⟩
abbrev main_v614 : Ref sig .tc := ⟨.hbm, 756, rfl⟩
abbrev main_cst_82 : Ref sig .tc := ⟨.hbm, 757, rfl⟩
abbrev main_v615 : Ref sig .tc := ⟨.hbm, 758, rfl⟩
abbrev main_v616 : Ref sig .tc := ⟨.hbm, 759, rfl⟩
abbrev main_v617 : Ref sig .tc := ⟨.hbm, 760, rfl⟩
abbrev main_v618 : Ref sig .tc := ⟨.hbm, 761, rfl⟩
abbrev main_v619 : Ref sig .tc := ⟨.hbm, 762, rfl⟩
abbrev main_cst_83 : Ref sig .tc := ⟨.hbm, 763, rfl⟩
abbrev main_v620 : Ref sig .tc := ⟨.hbm, 764, rfl⟩
abbrev main_v621 : Ref sig .tc := ⟨.hbm, 765, rfl⟩
abbrev main_cst_84 : Ref sig .tc := ⟨.hbm, 766, rfl⟩
abbrev main_v622 : Ref sig .tc := ⟨.hbm, 767, rfl⟩
abbrev main_v623 : Ref sig .tc := ⟨.hbm, 768, rfl⟩
abbrev main_v624 : Ref sig .tc := ⟨.hbm, 769, rfl⟩
abbrev main_v625 : Ref sig .tc := ⟨.hbm, 770, rfl⟩
abbrev main_cst_85 : Ref sig .tc := ⟨.hbm, 771, rfl⟩
abbrev main_v626 : Ref sig .tc := ⟨.hbm, 772, rfl⟩
abbrev main_v627 : Ref sig .tc := ⟨.hbm, 773, rfl⟩
abbrev main_v628 : Ref sig .tc := ⟨.hbm, 774, rfl⟩
abbrev main_v629 : Ref sig .tc := ⟨.hbm, 775, rfl⟩
abbrev main_cst_86 : Ref sig .tc := ⟨.hbm, 776, rfl⟩
abbrev main_v630 : Ref sig .tc := ⟨.hbm, 777, rfl⟩
abbrev main_v631 : Ref sig .tc := ⟨.hbm, 778, rfl⟩
abbrev main_v632 : Ref sig .tc := ⟨.hbm, 779, rfl⟩
abbrev main_v633 : Ref sig .tc := ⟨.hbm, 780, rfl⟩
abbrev main_cst_87 : Ref sig .tc := ⟨.hbm, 781, rfl⟩
abbrev main_v634 : Ref sig .tc := ⟨.hbm, 782, rfl⟩
abbrev main_v635 : Ref sig .tc := ⟨.hbm, 783, rfl⟩
abbrev main_v636 : Ref sig .tc := ⟨.hbm, 784, rfl⟩
abbrev main_v637 : Ref sig .tc := ⟨.hbm, 785, rfl⟩
abbrev main_cst_88 : Ref sig .tc := ⟨.hbm, 786, rfl⟩
abbrev main_v638 : Ref sig .tc := ⟨.hbm, 787, rfl⟩
abbrev main_v639 : Ref sig .tc := ⟨.hbm, 788, rfl⟩
abbrev main_v640 : Ref sig .tc := ⟨.hbm, 789, rfl⟩
abbrev main_v641 : Ref sig .tc := ⟨.hbm, 790, rfl⟩
abbrev main_cst_89 : Ref sig .tc := ⟨.hbm, 791, rfl⟩
abbrev main_v642 : Ref sig .tc := ⟨.hbm, 792, rfl⟩
abbrev main_v643 : Ref sig .tc := ⟨.hbm, 793, rfl⟩
abbrev main_v644 : Ref sig .tc := ⟨.hbm, 794, rfl⟩
abbrev main_v645 : Ref sig .tc := ⟨.hbm, 795, rfl⟩
abbrev main_cst_90 : Ref sig .tc := ⟨.hbm, 796, rfl⟩
abbrev main_v646 : Ref sig .tc := ⟨.hbm, 797, rfl⟩
abbrev main_v647 : Ref sig .tc := ⟨.hbm, 798, rfl⟩
abbrev main_v648 : Ref sig .tc := ⟨.hbm, 799, rfl⟩
abbrev main_v649 : Ref sig .tc := ⟨.hbm, 800, rfl⟩
abbrev main_cst_91 : Ref sig .tc := ⟨.hbm, 801, rfl⟩
abbrev main_v650 : Ref sig .tc := ⟨.hbm, 802, rfl⟩
abbrev main_v651 : Ref sig .tc := ⟨.hbm, 803, rfl⟩
abbrev main_v652 : Ref sig .tc := ⟨.hbm, 804, rfl⟩
abbrev main_cst_92 : Ref sig .tc := ⟨.hbm, 805, rfl⟩
abbrev main_v653 : Ref sig .tc := ⟨.hbm, 806, rfl⟩
abbrev main_v654 : Ref sig .tc := ⟨.hbm, 807, rfl⟩
abbrev main_v655 : Ref sig .tc := ⟨.hbm, 808, rfl⟩
abbrev main_cst_93 : Ref sig .tc := ⟨.hbm, 809, rfl⟩
abbrev main_v656 : Ref sig .tc := ⟨.hbm, 810, rfl⟩
abbrev main_v657 : Ref sig .tc := ⟨.hbm, 811, rfl⟩
abbrev main_v658 : Ref sig .tc := ⟨.hbm, 812, rfl⟩
abbrev main_v659 : Ref sig .tc := ⟨.hbm, 813, rfl⟩
abbrev main_v660 : Ref sig .tc := ⟨.hbm, 814, rfl⟩
abbrev main_v661 : Ref sig .tc := ⟨.hbm, 815, rfl⟩
abbrev main_cst_94 : Ref sig .tc := ⟨.hbm, 816, rfl⟩
abbrev main_v662 : Ref sig .tc := ⟨.hbm, 817, rfl⟩
abbrev main_v663 : Ref sig .tc := ⟨.hbm, 818, rfl⟩
abbrev main_v664 : Ref sig .tc := ⟨.hbm, 819, rfl⟩
abbrev main_cst_95 : Ref sig .tc := ⟨.hbm, 820, rfl⟩
abbrev main_v665 : Ref sig .tc := ⟨.hbm, 821, rfl⟩
abbrev main_v666 : Ref sig .tc := ⟨.hbm, 822, rfl⟩
abbrev main_cst_96 : Ref sig .tc := ⟨.hbm, 823, rfl⟩
abbrev main_v667 : Ref sig .tc := ⟨.hbm, 824, rfl⟩
abbrev main_v668 : Ref sig .tc := ⟨.hbm, 825, rfl⟩
abbrev main_v669 : Ref sig .tc := ⟨.hbm, 826, rfl⟩
abbrev main_v670 : Ref sig .tc := ⟨.hbm, 827, rfl⟩
abbrev main_v671 : Ref sig .tc := ⟨.hbm, 828, rfl⟩
abbrev main_v672 : Ref sig .tc := ⟨.hbm, 829, rfl⟩
abbrev main_v673 : Ref sig .tc := ⟨.hbm, 830, rfl⟩
abbrev main_cst_97 : Ref sig .tc := ⟨.hbm, 831, rfl⟩
abbrev main_v674 : Ref sig .tc := ⟨.hbm, 832, rfl⟩
abbrev main_v675 : Ref sig .tc := ⟨.hbm, 833, rfl⟩
abbrev main_v676 : Ref sig .tc := ⟨.hbm, 834, rfl⟩
abbrev main_v677 : Ref sig .tc := ⟨.hbm, 835, rfl⟩
abbrev main_cst_98 : Ref sig .tc := ⟨.hbm, 836, rfl⟩
abbrev main_v678 : Ref sig .tc := ⟨.hbm, 837, rfl⟩
abbrev main_v679 : Ref sig .tc := ⟨.hbm, 838, rfl⟩
abbrev main_v680 : Ref sig .tc := ⟨.hbm, 839, rfl⟩
abbrev main_v681 : Ref sig .tc := ⟨.hbm, 840, rfl⟩
abbrev main_v682 : Ref sig .tc := ⟨.hbm, 841, rfl⟩
abbrev main_v683 : Ref sig .tc := ⟨.hbm, 842, rfl⟩
abbrev main_v684 : Ref sig .tc := ⟨.hbm, 843, rfl⟩
abbrev main_v685 : Ref sig .tc := ⟨.hbm, 844, rfl⟩
abbrev main_v686 : Ref sig .tc := ⟨.hbm, 845, rfl⟩
abbrev main_v687 : Ref sig .tc := ⟨.hbm, 846, rfl⟩
abbrev main_v688 : Ref sig .tc := ⟨.hbm, 847, rfl⟩
abbrev main_v689 : Ref sig .tc := ⟨.hbm, 848, rfl⟩
abbrev main_c_99 : Ref sig .tc := ⟨.hbm, 849, rfl⟩
abbrev main_call19_v0 : Ref sig .tc := ⟨.hbm, 850, rfl⟩
abbrev main_call19_v1 : Ref sig .tc := ⟨.hbm, 851, rfl⟩
abbrev main_v690 : Ref sig .tc := ⟨.hbm, 852, rfl⟩
abbrev main_v691 : Ref sig .tc := ⟨.hbm, 853, rfl⟩
abbrev main_v692 : Ref sig .tc := ⟨.hbm, 854, rfl⟩
abbrev main_v693 : Ref sig .tc := ⟨.hbm, 855, rfl⟩
abbrev main_v694 : Ref sig .tc := ⟨.hbm, 856, rfl⟩
abbrev main_c_100 : Ref sig .tc := ⟨.hbm, 857, rfl⟩
abbrev main_call20_v0 : Ref sig .tc := ⟨.hbm, 858, rfl⟩
abbrev main_call20_v1 : Ref sig .tc := ⟨.hbm, 859, rfl⟩
abbrev main_v695 : Ref sig .tc := ⟨.hbm, 860, rfl⟩
abbrev main_v696 : Ref sig .tc := ⟨.hbm, 861, rfl⟩
abbrev main_v697 : Ref sig .tc := ⟨.hbm, 862, rfl⟩
abbrev main_v698 : Ref sig .tc := ⟨.hbm, 863, rfl⟩
abbrev main_v699 : Ref sig .tc := ⟨.hbm, 864, rfl⟩
abbrev main_c_101 : Ref sig .tc := ⟨.hbm, 865, rfl⟩
abbrev main_call21_v0 : Ref sig .tc := ⟨.hbm, 866, rfl⟩
abbrev main_call21_v1 : Ref sig .tc := ⟨.hbm, 867, rfl⟩
abbrev main_v700 : Ref sig .tc := ⟨.hbm, 868, rfl⟩
abbrev main_v701 : Ref sig .tc := ⟨.hbm, 869, rfl⟩
abbrev main_v702 : Ref sig .tc := ⟨.hbm, 870, rfl⟩
abbrev main_v703 : Ref sig .tc := ⟨.hbm, 871, rfl⟩
abbrev main_v704 : Ref sig .tc := ⟨.hbm, 872, rfl⟩
abbrev main_c_102 : Ref sig .tc := ⟨.hbm, 873, rfl⟩
abbrev main_call22_v0 : Ref sig .tc := ⟨.hbm, 874, rfl⟩
abbrev main_call22_v1 : Ref sig .tc := ⟨.hbm, 875, rfl⟩
abbrev main_v705 : Ref sig .tc := ⟨.hbm, 876, rfl⟩
abbrev main_v706 : Ref sig .tc := ⟨.hbm, 877, rfl⟩
abbrev main_v707 : Ref sig .tc := ⟨.hbm, 878, rfl⟩
abbrev main_v708 : Ref sig .tc := ⟨.hbm, 879, rfl⟩
abbrev main_v709 : Ref sig .tc := ⟨.hbm, 880, rfl⟩
abbrev main_v710 : Ref sig .tc := ⟨.hbm, 881, rfl⟩
abbrev main_cst_103 : Ref sig .tc := ⟨.hbm, 882, rfl⟩
abbrev main_v711 : Ref sig .tc := ⟨.hbm, 883, rfl⟩
abbrev main_v712 : Ref sig .tc := ⟨.hbm, 884, rfl⟩
abbrev main_c_104 : Ref sig .tc := ⟨.hbm, 885, rfl⟩
abbrev main_cst_105 : Ref sig .tc := ⟨.hbm, 886, rfl⟩
abbrev main_call23_v0 : Ref sig .tc := ⟨.hbm, 887, rfl⟩
abbrev main_call23_v1 : Ref sig .tc := ⟨.hbm, 888, rfl⟩
abbrev main_call23_v2 : Ref sig .tc := ⟨.hbm, 889, rfl⟩
abbrev main_call23_v3 : Ref sig .tc := ⟨.hbm, 890, rfl⟩
abbrev main_call23_v4 : Ref sig .tc := ⟨.hbm, 891, rfl⟩
abbrev main_v713 : Ref sig .tc := ⟨.hbm, 892, rfl⟩
abbrev main_v714 : Ref sig .tc := ⟨.hbm, 893, rfl⟩
abbrev main_v715 : Ref sig .tc := ⟨.hbm, 894, rfl⟩
abbrev main_v716 : Ref sig .tc := ⟨.hbm, 895, rfl⟩
abbrev main_c_106 : Ref sig .tc := ⟨.hbm, 896, rfl⟩
abbrev main_v717 : Ref sig .tc := ⟨.hbm, 897, rfl⟩
abbrev main_v718 : Ref sig .tc := ⟨.hbm, 898, rfl⟩
abbrev main_c_107 : Ref sig .tc := ⟨.hbm, 899, rfl⟩
abbrev main_c_108 : Ref sig .tc := ⟨.hbm, 900, rfl⟩
abbrev main_call24_v0 : Ref sig .tc := ⟨.hbm, 901, rfl⟩
abbrev main_call24_v1 : Ref sig .tc := ⟨.hbm, 902, rfl⟩
abbrev main_call24_v2 : Ref sig .tc := ⟨.hbm, 903, rfl⟩
abbrev main_call24_v3 : Ref sig .tc := ⟨.hbm, 904, rfl⟩
abbrev main_call24_v4 : Ref sig .tc := ⟨.hbm, 905, rfl⟩
abbrev main_v719 : Ref sig .tc := ⟨.hbm, 906, rfl⟩
abbrev main_call25_v0 : Ref sig .tc := ⟨.hbm, 907, rfl⟩
abbrev main_call25_v1 : Ref sig .tc := ⟨.hbm, 908, rfl⟩
abbrev main_call25_v2 : Ref sig .tc := ⟨.hbm, 909, rfl⟩
abbrev main_call25_v3 : Ref sig .tc := ⟨.hbm, 910, rfl⟩
abbrev main_call25_v4 : Ref sig .tc := ⟨.hbm, 911, rfl⟩
abbrev main_v720 : Ref sig .tc := ⟨.hbm, 912, rfl⟩
abbrev main_cst_109 : Ref sig .tc := ⟨.hbm, 913, rfl⟩
abbrev main_v721 : Ref sig .tc := ⟨.hbm, 914, rfl⟩
abbrev main_v722 : Ref sig .tc := ⟨.hbm, 915, rfl⟩
abbrev main_v723 : Ref sig .tc := ⟨.hbm, 916, rfl⟩
abbrev main_v724 : Ref sig .tc := ⟨.hbm, 917, rfl⟩
abbrev main_v725 : Ref sig .tc := ⟨.hbm, 918, rfl⟩
abbrev main_call26_v0 : Ref sig .tc := ⟨.hbm, 919, rfl⟩
abbrev main_call26_v1 : Ref sig .tc := ⟨.hbm, 920, rfl⟩
abbrev main_call26_v2 : Ref sig .tc := ⟨.hbm, 921, rfl⟩
abbrev main_call26_v3 : Ref sig .tc := ⟨.hbm, 922, rfl⟩
abbrev main_call26_v4 : Ref sig .tc := ⟨.hbm, 923, rfl⟩
abbrev main_v726 : Ref sig .tc := ⟨.hbm, 924, rfl⟩
abbrev main_v727 : Ref sig .tc := ⟨.hbm, 925, rfl⟩
abbrev main_v728 : Ref sig .tc := ⟨.hbm, 926, rfl⟩
abbrev main_v729 : Ref sig .tc := ⟨.hbm, 927, rfl⟩
abbrev main_v730 : Ref sig .tc := ⟨.hbm, 928, rfl⟩
abbrev main_v731 : Ref sig .tc := ⟨.hbm, 929, rfl⟩
abbrev main_v732 : Ref sig .tc := ⟨.hbm, 930, rfl⟩
abbrev main_v733 : Ref sig .tc := ⟨.hbm, 931, rfl⟩
abbrev main_v734 : Ref sig .tc := ⟨.hbm, 932, rfl⟩
abbrev main_call27_cst : Ref sig .tc := ⟨.hbm, 933, rfl⟩
abbrev main_call27_v0 : Ref sig .tc := ⟨.hbm, 934, rfl⟩
abbrev main_call27_cst_0 : Ref sig .tc := ⟨.hbm, 935, rfl⟩
abbrev main_call27_v1 : Ref sig .tc := ⟨.hbm, 936, rfl⟩
abbrev main_call27_v2 : Ref sig .tc := ⟨.hbm, 937, rfl⟩
abbrev main_call27_v3 : Ref sig .tc := ⟨.hbm, 938, rfl⟩
abbrev main_call27_v4 : Ref sig .tc := ⟨.hbm, 939, rfl⟩
abbrev main_call27_v5 : Ref sig .tc := ⟨.hbm, 940, rfl⟩
abbrev main_call27_v6 : Ref sig .tc := ⟨.hbm, 941, rfl⟩
abbrev main_call27_cst_1 : Ref sig .tc := ⟨.hbm, 942, rfl⟩
abbrev main_call27_v7 : Ref sig .tc := ⟨.hbm, 943, rfl⟩
abbrev main_call27_v8 : Ref sig .tc := ⟨.hbm, 944, rfl⟩
abbrev main_call27_v9 : Ref sig .tc := ⟨.hbm, 945, rfl⟩
abbrev main_call27_v10 : Ref sig .tc := ⟨.hbm, 946, rfl⟩
abbrev main_v735 : Ref sig .tc := ⟨.hbm, 947, rfl⟩
abbrev main_v736 : Ref sig .tc := ⟨.hbm, 948, rfl⟩
abbrev main_cst_110 : Ref sig .tc := ⟨.hbm, 949, rfl⟩
abbrev main_v737 : Ref sig .tc := ⟨.hbm, 950, rfl⟩
abbrev main_v738 : Ref sig .tc := ⟨.hbm, 951, rfl⟩
abbrev main_v739 : Ref sig .tc := ⟨.hbm, 952, rfl⟩
abbrev main_cst_111 : Ref sig .tc := ⟨.hbm, 953, rfl⟩
abbrev main_v740 : Ref sig .tc := ⟨.hbm, 954, rfl⟩
abbrev main_cst_112 : Ref sig .tc := ⟨.hbm, 955, rfl⟩
abbrev main_v741 : Ref sig .tc := ⟨.hbm, 956, rfl⟩
abbrev main_cst_113 : Ref sig .tc := ⟨.hbm, 957, rfl⟩
abbrev main_v742 : Ref sig .tc := ⟨.hbm, 958, rfl⟩
abbrev main_v743 : Ref sig .tc := ⟨.hbm, 959, rfl⟩
abbrev main_v744 : Ref sig .tc := ⟨.hbm, 960, rfl⟩
abbrev main_v745 : Ref sig .tc := ⟨.hbm, 961, rfl⟩
abbrev main_v746 : Ref sig .tc := ⟨.hbm, 962, rfl⟩

abbrev nD : Nat := 1
abbrev τ : Topo := Topo.v7x

variable {F : FTy → Type} [FloatOps F]
-- ==== Proof.TopTen.lean ====
/- The ten largest of a line, two ways: by ten rounds of "the maximum, then every entry equal to it struck out", and by the
   first ten positions of a stable sort, greater first. They pick the same entries above a positive bound when at most ten
   exceed the bound, or when the first eleven of the sorted line are distinct. -/
module

public import Idealize.ShloMosaic.Lib.SortFacts
public import Mathlib.Data.EReal.Basic
public import Mathlib.Data.Finset.Card
public import Mathlib.Data.Finset.Fold
public import Mathlib.Data.Finset.Lattice.Fold
public import Mathlib.Data.Fintype.Card

@[expose] public section

noncomputable section

namespace Cert.TopTen

open Idealize.ShloMosaic

variable {n : ℕ}

/-- The greatest entry of a line (`⊥` of an empty one). -/
def top (w : Fin n → EReal) : EReal := Finset.univ.fold max ⊥ w

theorem le_top (w : Fin n → EReal) (i : Fin n) : w i ≤ top w :=
  (Finset.le_fold_max _).2 (.inr ⟨i, Finset.mem_univ i, le_rfl⟩)

theorem top_le {w : Fin n → EReal} {x : EReal} (h : ∀ i, w i ≤ x) : top w ≤ x :=
  (Finset.fold_max_le _).2 ⟨bot_le, fun i _ => h i⟩

theorem top_eq {w : Fin n → EReal} {x : EReal} (i : Fin n) (hi : w i = x) (h : ∀ i, w i ≤ x) : top w = x :=
  le_antisymm (top_le h) (hi ▸ le_top w i)

/-- One round: every entry that equals the maximum becomes `c`. -/
def strike (c : EReal) (w : Fin n → EReal) : Fin n → EReal := fun j => if w j = top w then c else w j

/-- The line after `r` rounds. -/
def work (c : EReal) (f : Fin n → EReal) : ℕ → Fin n → EReal
  | 0 => f
  | r + 1 => strike c (work c f r)

/-- How many distinct values of the line exceed its entry at `i`. -/
def above (f : Fin n → EReal) (i : Fin n) : ℕ := ((Finset.univ.filter fun k => f i < f k).image f).card

theorem above_le {f : Fin n → EReal} {i j : Fin n} (h : f i ≤ f j) : above f j ≤ above f i :=
  Finset.card_le_card (Finset.image_subset_image fun k hk => by
    simp only [Finset.mem_filter, Finset.mem_univ, true_and] at hk ⊢
    exact h.trans_lt hk)

theorem above_lt {f : Fin n → EReal} {i j : Fin n} (h : f i < f j) : above f j < above f i := by
  refine Finset.card_lt_card ⟨Finset.image_subset_image fun k hk => ?_, fun hsub => ?_⟩
  · simp only [Finset.mem_filter, Finset.mem_univ, true_and] at hk ⊢
    exact h.trans hk
  · have hm : f j ∈ (Finset.univ.filter fun k => f i < f k).image f :=
      Finset.mem_image_of_mem f (by simpa using h)
    obtain ⟨k, hk, hkj⟩ := Finset.mem_image.1 (hsub hm)
    simp only [Finset.mem_filter, Finset.mem_univ, true_and] at hk
    exact absurd hkj hk.ne'

theorem le_iff_above {f : Fin n → EReal} {i j : Fin n} : f i ≤ f j ↔ above f j ≤ above f i :=
  ⟨above_le, fun h => not_lt.1 fun hlt => absurd (above_lt hlt) (not_lt.2 h)⟩

/-- If some entry has at least `r` values above it, some entry has exactly `r`, and it is the greatest such. -/
theorem exists_above_eq {f : Fin n → EReal} {r : ℕ} (h : ∃ i, r ≤ above f i) :
    ∃ i, above f i = r ∧ ∀ j, r ≤ above f j → f j ≤ f i := by
  obtain ⟨i, hi, hmax⟩ := Finset.exists_max_image (Finset.univ.filter fun i => r ≤ above f i) f
    (by obtain ⟨i, hi⟩ := h; exact ⟨i, by simpa using hi⟩)
  simp only [Finset.mem_filter, Finset.mem_univ, true_and] at hi hmax
  refine ⟨i, le_antisymm (not_lt.1 fun hlt => ?_) hi, hmax⟩
  set V := (Finset.univ.filter fun k => f i < f k).image f with hV
  have hne : V.Nonempty := Finset.card_pos.1 (lt_of_le_of_lt (Nat.zero_le _) hlt)
  obtain ⟨v, hv, hmin⟩ := Finset.exists_min_image V id hne
  obtain ⟨k, hk, rfl⟩ := Finset.mem_image.1 hv
  simp only [Finset.mem_filter, Finset.mem_univ, true_and] at hk
  have hsub : V.erase (f k) ⊆ (Finset.univ.filter fun l => f k < f l).image f := by
    intro x hx
    obtain ⟨hxk, hxV⟩ := Finset.mem_erase.1 hx
    obtain ⟨l, hl, rfl⟩ := Finset.mem_image.1 hxV
    refine Finset.mem_image_of_mem f ?_
    simp only [Finset.mem_filter, Finset.mem_univ, true_and]
    exact lt_of_le_of_ne (hmin _ hxV) (Ne.symm hxk)
  have hcard := Finset.card_le_card hsub
  rw [Finset.card_erase_of_mem hv] at hcard
  have : r ≤ above f k := by
    unfold above
    have : r < V.card := hlt
    omega
  exact absurd (hmax k this) (not_le.2 hk)

/-- After `r` rounds exactly the entries with fewer than `r` values above them are struck out. -/
theorem work_eq {c : EReal} (hc : c < 0) {f : Fin n → EReal} (h0 : ∀ i, 0 ≤ f i) (r : ℕ) :
    work c f r = fun i => if above f i < r then c else f i := by
  have hneg : ∀ i, c < f i := fun i => hc.trans_le (h0 i)
  induction r with
  | zero => funext i; simp [work]
  | succ r ih =>
    funext i
    simp only [work, strike, ih]
    by_cases hex : ∃ i, r ≤ above f i
    · obtain ⟨m, hm, hmax⟩ := exists_above_eq hex
      have htop : top (fun i => if above f i < r then c else f i) = f m := by
        refine top_eq m (by simp [hm]) fun j => ?_
        by_cases hj : above f j < r
        · simp only [hj, if_true]; exact (hneg m).le
        · simp only [hj, if_false]; exact hmax j (not_lt.1 hj)
      rw [htop]
      by_cases hi : above f i < r
      · simp only [hi, if_true, (hneg m).ne, if_false, Nat.lt_succ_of_lt hi]
      · simp only [hi, if_false]
        by_cases he : f i = f m
        · have : above f i = r := hm ▸ le_antisymm (above_le he.ge) (above_le he.le)
          simp [he, this]
        · have hlt : f i < f m := lt_of_le_of_ne (hmax i (not_lt.1 hi)) he
          have := above_lt hlt
          rw [if_neg he, if_neg (by omega)]
    · have hall : ∀ i, above f i < r := fun i => not_le.1 fun h => hex ⟨i, h⟩
      simp only [hall, if_true]
      have : above f i < r + 1 := Nat.lt_succ_of_lt (hall i)
      simp only [this, if_true, ite_self]

/-- An entry reaches the maximum of round `r` exactly when at most `r` distinct values exceed it. -/
theorem top_work_le {c : EReal} (hc : c < 0) {f : Fin n → EReal} (h0 : ∀ i, 0 ≤ f i) (r : ℕ) (j : Fin n) :
    top (work c f r) ≤ f j ↔ above f j ≤ r := by
  have hneg : ∀ i, c < f i := fun i => hc.trans_le (h0 i)
  rw [work_eq hc h0]
  by_cases hex : ∃ i, r ≤ above f i
  · obtain ⟨m, hm, hmax⟩ := exists_above_eq hex
    have htop : top (fun i => if above f i < r then c else f i) = f m := by
      refine top_eq m (by simp [hm]) fun j => ?_
      by_cases hj : above f j < r
      · simp only [hj, if_true]; exact (hneg m).le
      · simp only [hj, if_false]; exact hmax j (not_lt.1 hj)
    rw [htop, le_iff_above, hm]
  · have hall : ∀ i, above f i < r := fun i => not_le.1 fun h => hex ⟨i, h⟩
    simp only [hall, if_true]
    exact ⟨fun _ => (hall j).le, fun _ => top_le fun _ => (hneg j).le⟩

/-- The position that a stable sort of a line, greater first, puts at `r`. -/
def order (f : Fin n → EReal) : Fin n → Fin n := sortedFrom fun k k' => decide (f k' < f k)

theorem order_antitone (f : Fin n → EReal) {r s : Fin n} (h : r ≤ s) : f (order f s) ≤ f (order f r) := by
  rcases h.eq_or_lt with rfl | h
  · exact le_rfl
  · have := sortedFrom_noInversion (fun k k' => decide (f k' < f k)) (fun k k' => decide (f k' < f k))
      (fun a b hab => by simp only [decide_eq_true_eq, decide_eq_false_iff_not, not_lt] at hab ⊢; exact hab.le)
      (fun _ _ h => h)
      (fun a b c hab hbc => by
        simp only [decide_eq_false_iff_not, not_lt] at hab hbc ⊢
        first | exact hab.trans hbc | exact hbc.trans hab) r s h
    simpa [order] using this

/-- Ten rounds of striking out and the first ten of the sorted line pick the same entries above a bound, when the eleventh
    of the sorted line is within the bound or its first eleven strictly descend. -/
theorem rounds_iff_order {c : EReal} (hc : c < 0) {f : Fin n → EReal} (h0 : ∀ i, 0 ≤ f i) {eps : EReal} (h10 : 10 < n)
    (hpre : f (order f ⟨10, h10⟩) ≤ eps ∨ ∀ r : Fin 10, f (order f ⟨r.val + 1, by omega⟩) < f (order f ⟨r.val, by omega⟩))
    (j : Fin n) : (top (work c f 9) ≤ f j ∧ eps < f j) ↔ ∃ r : Fin 10, order f ⟨r.val, by omega⟩ = j ∧ eps < f j := by
  rw [top_work_le hc h0]
  obtain ⟨s, rfl⟩ := sortedFrom_surjective (fun k k' => decide (f k' < f k)) j
  change (above f (order f s) ≤ 9 ∧ eps < f (order f s)) ↔ ∃ r : Fin 10, order f ⟨r.val, by omega⟩ = order f s ∧ eps < f (order f s)
  constructor
  · rintro ⟨hab, heps⟩
    by_cases hs : s.val < 10
    · exact ⟨⟨s.val, hs⟩, rfl, heps⟩
    · exfalso
      have hle : f (order f s) ≤ f (order f ⟨10, h10⟩) := order_antitone f (by rw [Fin.le_def]; simp; omega)
      rcases hpre with hA | hB
      · exact absurd (heps.trans_le (hle.trans hA)) (lt_irrefl _)
      · have hstrict : ∀ k : ℕ, ∀ i : ℕ, (h : i + k + 1 ≤ 10) →
            f (order f ⟨i + k + 1, by omega⟩) < f (order f ⟨i, by omega⟩) := by
          intro k
          induction k with
          | zero => intro i h; exact hB ⟨i, by omega⟩
          | succ k ih => intro i h; exact (hB ⟨i + k + 1, by omega⟩).trans (ih i (by omega))
        have hinj : Function.Injective fun r : Fin 10 => f (order f ⟨r.val, by omega⟩) := by
          intro a b hEq
          by_contra hne
          rcases lt_or_gt_of_ne (fun h : a.val = b.val => hne (Fin.ext h)) with hlt | hlt
          · have := hstrict (b.val - a.val - 1) a.val (by omega)
            simp only [show a.val + (b.val - a.val - 1) + 1 = b.val by omega] at this
            exact absurd hEq this.ne'
          · have := hstrict (a.val - b.val - 1) b.val (by omega)
            simp only [show b.val + (a.val - b.val - 1) + 1 = a.val by omega] at this
            exact absurd hEq this.ne
        have hsub : (Finset.univ.image fun r : Fin 10 => f (order f ⟨r.val, by omega⟩))
            ⊆ (Finset.univ.filter fun k => f (order f s) < f k).image f := by
          intro x hx
          obtain ⟨r, -, rfl⟩ := Finset.mem_image.1 hx
          refine Finset.mem_image_of_mem f ?_
          simp only [Finset.mem_filter, Finset.mem_univ, true_and]
          refine hle.trans_lt ?_
          have := hstrict (9 - r.val) r.val (by omega)
          simpa only [show r.val + (9 - r.val) + 1 = 10 by omega] using this
        have := Finset.card_le_card hsub
        rw [Finset.card_image_of_injective _ hinj, Finset.card_univ, Fintype.card_fin] at this
        unfold above at hab
        omega
  · rintro ⟨r, hr, heps⟩
    refine ⟨?_, heps⟩
    rw [← hr]
    have hsub : (Finset.univ.filter fun k => f (order f ⟨r.val, by omega⟩) < f k).image f
        ⊆ Finset.univ.image fun i : Fin r.val => f (order f ⟨i.val, by omega⟩) := by
      intro x hx
      obtain ⟨k, hk, rfl⟩ := Finset.mem_image.1 hx
      simp only [Finset.mem_filter, Finset.mem_univ, true_and] at hk
      obtain ⟨t, rfl⟩ := sortedFrom_surjective (fun k k' => decide (f k' < f k)) k
      have ht : t.val < r.val := by
        by_contra hge
        exact absurd hk (not_lt.2 (order_antitone f (r := ⟨r.val, by omega⟩) (s := t) (by rw [Fin.le_def]; simpa using hge)))
      exact Finset.mem_image.2 ⟨⟨t.val, ht⟩, Finset.mem_univ _, rfl⟩
    have := (Finset.card_le_card hsub).trans Finset.card_image_le
    rw [Finset.card_univ, Fintype.card_fin] at this
    unfold above
    omega

end Cert.TopTen

end
-- ==== Proof.Spec.lean ====
/- The loss of one image, cell by cell, in extended reals: what both programs are read to. The predictions are real, the boxes
   and labels are whatever the arguments hold. -/
module

public import Idealize.ShloMosaic.PureOps.Ideal
public import proofs.«01_k».proof.Proof.TopTen

@[expose] public section

noncomputable section

namespace Cert.Loss

open Idealize.ShloMosaic Cert.TopTen

/-- 1 where the statement holds, 0 where it does not. -/
def ind (p : Prop) : EReal := @ite _ p (Classical.dec p) 1 0

theorem ind_pos {p : Prop} (h : p) : ind p = 1 := by unfold ind; rw [if_pos h]
theorem ind_neg {p : Prop} (h : ¬p) : ind p = 0 := by unfold ind; rw [if_neg h]
theorem ind_congr {p q : Prop} (h : p ↔ q) : ind p = ind q := by rw [propext h]
theorem ite_ind (p : Prop) [Decidable p] : (if p then (1 : EReal) else 0) = ind p := by
  by_cases h : p
  · rw [if_pos h, ind_pos h]
  · rw [if_neg h, ind_neg h]

/-- The constants, as the words that both programs print. -/
def eps : EReal := Ideal.ofBits .f32 0x3089705F#32
def half : EReal := Ideal.ofBits .f32 0x3F000000#32
def four : EReal := Ideal.ofBits .f32 0x40800000#32
def invSq : EReal := Ideal.ofBits .f32 0x3ECF817B#32
def lastBin : EReal := Ideal.ofBits .f32 0x416FFFFF#32

/-- What one image's loss is computed from: class logits and bin logits (side, bin) of every cell, the cells' centres and
    strides, and the boxes with their labels. -/
structure Img where
  X : Fin 5376 → Fin 80 → ℝ
  D : Fin 5376 → Fin 4 → Fin 16 → ℝ
  cx : Fin 5376 → ℝ
  cy : Fin 5376 → ℝ
  st : Fin 5376 → ℝ
  G : Fin 20 → Fin 4 → EReal
  L : Fin 20 → Fin 80

/-- The alignment's polynomial for arctan. -/
def arctanPoly (x : EReal) : EReal :=
  let u : EReal := max x (-x)
  let t : EReal := if 1 < u then Ideal.div 1 (max u (Ideal.ofBits .f32 0x0DA24260#32)) else u
  let s : EReal := t * t
  let v : EReal := t * ((((((((Ideal.ofBits .f32 0x3B403395#32 * s + Ideal.ofBits .f32 0xBC8674F4#32) * s
    + Ideal.ofBits .f32 0x3D314487#32) * s + Ideal.ofBits .f32 0xBD9AC3EC#32) * s
    + Ideal.ofBits .f32 0x3DDA785B#32) * s + Ideal.ofBits .f32 0xBE118590#32) * s
    + Ideal.ofBits .f32 0x3E4CBC45#32) * s + Ideal.ofBits .f32 0xBEAAAA69#32) * s + 1)
  let w : EReal := if 1 < u then Ideal.ofBits .f32 0x3FC90FDB#32 - v else v
  if x < 0 then -w else w

/-- The complete-IoU loss of a predicted box `p` and a target box `q`. -/
def ciou (p0 p1 p2 p3 q0 q1 q2 q3 : EReal) : EReal :=
  let inter : EReal := max 0 (min p2 q2 - max p0 q0) * max 0 (min p3 q3 - max p1 q1)
  let iou : EReal := Ideal.div inter ((p2 - p0) * (p3 - p1) + (q2 - q0) * (q3 - q1) - inter + eps)
  let c2 : EReal := (max p2 q2 - min p0 q0) * (max p2 q2 - min p0 q0) + (max p3 q3 - min p1 q1) * (max p3 q3 - min p1 q1) + eps
  let rho2 : EReal := Ideal.div ((p0 + p2 - q0 - q2) * (p0 + p2 - q0 - q2) + (p1 + p3 - q1 - q3) * (p1 + p3 - q1 - q3)) four
  let d : EReal := arctanPoly (Ideal.div (q2 - q0) (q3 - q1 + eps)) - arctanPoly (Ideal.div (p2 - p0) (p3 - p1 + eps))
  let v : EReal := invSq * (d * d)
  1 - (iou - Ideal.div rho2 c2 - Ideal.div v (v - iou + 1 + eps) * v)

namespace Img

variable (I : Img)

/-- The sum of a side's exponentials, and the side's distance in pixels. -/
def se (a : Fin 5376) (s : Fin 4) : ℝ := ∑ b, Real.exp (I.D a s b)
def dist (a : Fin 5376) (s : Fin 4) : ℝ := (∑ b : Fin 16, (b : ℝ) * Real.exp (I.D a s b)) / I.se a s * I.st a

/-- The decoded box. -/
def x1 (a : Fin 5376) : ℝ := I.cx a - I.dist a 0
def y1 (a : Fin 5376) : ℝ := I.cy a - I.dist a 1
def x2 (a : Fin 5376) : ℝ := I.cx a + I.dist a 2
def y2 (a : Fin 5376) : ℝ := I.cy a + I.dist a 3

def inter (g : Fin 20) (a : Fin 5376) : EReal :=
  max 0 (min (I.G g 2) (I.x2 a) - max (I.G g 0) (I.x1 a)) * max 0 (min (I.G g 3) (I.y2 a) - max (I.G g 1) (I.y1 a))

def iou (g : Fin 20) (a : Fin 5376) : EReal :=
  Ideal.div (I.inter g a) ((I.G g 2 - I.G g 0) * (I.G g 3 - I.G g 1)
    + ((I.x2 a : EReal) - I.x1 a) * ((I.y2 a : EReal) - I.y1 a) - I.inter g a + eps)

/-- The score of the box's class in a cell. -/
def cls (g : Fin 20) (a : Fin 5376) : ℝ := (1 + Real.exp (-I.X a (I.L g)))⁻¹

def align (g : Fin 20) (a : Fin 5376) : EReal :=
  Ideal.sqrt (I.cls g a) * (I.iou g a * I.iou g a * (I.iou g a * I.iou g a) * (I.iou g a * I.iou g a))

def pcx (a : Fin 5376) : EReal := ((I.x1 a : EReal) + I.x2 a) * half
def pcy (a : Fin 5376) : EReal := ((I.y1 a : EReal) + I.y2 a) * half

/-- The cell's predicted centre lies in the box, and the box is not empty. -/
def mask (g : Fin 20) (a : Fin 5376) : Prop :=
  (I.G g 0 ≤ I.pcx a ∧ I.pcx a < I.G g 2 ∧ I.G g 1 ≤ I.pcy a ∧ I.pcy a < I.G g 3)
    ∧ 0 < I.G g 2 - I.G g 0 ∧ 0 < I.G g 3 - I.G g 1

def metric (g : Fin 20) (a : Fin 5376) : EReal := @ite _ (I.mask g a) (Classical.dec _) (I.align g a) 0

/-- The cell is a candidate of the box: among its ten largest metrics, and above the bound. -/
def cand (g : Fin 20) (a : Fin 5376) : Prop :=
  top (work (-1) (I.metric g) 9) ≤ I.metric g a ∧ eps < I.metric g a

/-- The number of boxes the cell is a candidate of. -/
def count (a : Fin 5376) : EReal := ∑ g, ind (I.cand g a)

def candIou (g : Fin 20) (a : Fin 5376) : EReal := @ite _ (I.cand g a) (Classical.dec _) (I.iou g a) (-1)

/-- The first of the boxes whose candidate IoU is greatest in the cell. -/
def best (g : Fin 20) (a : Fin 5376) : Prop :=
  I.candIou g a = top (I.candIou · a) ∧ ∀ k < g, I.candIou k a ≠ top (I.candIou · a)

/-- The cell is assigned to the box. -/
def pos (g : Fin 20) (a : Fin 5376) : Prop := I.cand g a ∧ (1 < I.count a → I.best g a)

def fg (a : Fin 5376) : Prop := ∃ g, I.pos g a

/-- The box a cell is assigned to (the first box if there is none). -/
def sel (a : Fin 5376) : Fin 20 := @dite _ (I.fg a) (Classical.dec _) (fun h => h.choose) fun _ => 0

def alignPos (g : Fin 20) (a : Fin 5376) : EReal := I.align g a * ind (I.pos g a)
def iouPos (g : Fin 20) (a : Fin 5376) : EReal := I.iou g a * ind (I.pos g a)

/-- The normalised alignment of a cell. -/
def norm (a : Fin 5376) : EReal :=
  top fun g => Ideal.div (I.alignPos g a * top (I.iouPos g)) (top (I.alignPos g) + eps)

/-- The three sums of an image and its number of assigned cells, as the kernel writes them. -/
def clsSum : EReal :=
  half * (∑ a, ∑ c, ((I.X a c : EReal) + max (I.X a c : EReal) (-I.X a c)))
    + (∑ a, ∑ c, Ideal.log1p (Ideal.exp (-max (I.X a c : EReal) (-I.X a c))))
    - ∑ a, I.norm a * ind (I.fg a) * (I.X a (I.L (I.sel a)) : EReal)

def boxSum : EReal :=
  ∑ a, ciou (I.x1 a) (I.y1 a) (I.x2 a) (I.y2 a) (I.G (I.sel a) 0) (I.G (I.sel a) 1) (I.G (I.sel a) 2) (I.G (I.sel a) 3)
    * ind (I.fg a)

/-- The distance of a side of the target box from the cell's centre, and the same held to the bins' range. -/
def side (a : Fin 5376) (s : Fin 4) : EReal :=
  max 0 (match s with
    | 0 => (I.cx a : EReal) - I.G (I.sel a) 0
    | 1 => (I.cy a : EReal) - I.G (I.sel a) 1
    | 2 => I.G (I.sel a) 2 - (I.cx a : EReal)
    | 3 => I.G (I.sel a) 3 - (I.cy a : EReal))

def bin (a : Fin 5376) (s : Fin 4) : EReal := min lastBin (max 0 (I.side a s))

/-- The side's bin logits, averaged with triangle weights about the target. -/
def near (a : Fin 5376) (s : Fin 4) : EReal :=
  ∑ b : Fin 16, max (1 - max (I.bin a s - ((b : ℝ) : EReal)) (-(I.bin a s - ((b : ℝ) : EReal)))) 0 * (I.D a s b : EReal)

def dflSum : EReal :=
  ∑ a, ind (I.fg a) * (Ideal.log (I.se a 0) + Ideal.log (I.se a 1) + Ideal.log (I.se a 2) + Ideal.log (I.se a 3)
    - (I.near a 0 + I.near a 1 + I.near a 2 + I.near a 3))

def fgSum : EReal := ∑ a, ind (I.fg a)

end Img

end Cert.Loss
-- ==== Proof.Geo.lean ====
/- The image of a batch that the arguments hold, and the kernel's table of the cells' centres and strides. -/
module

public import proofs.«01_k».proof.KernelIdeal
public import proofs.«01_k».proof.Proof.Spec

@[expose] public section

set_option maxRecDepth 16384

noncomputable section

namespace Cert.Loss

open Idealize.ShloMosaic

/-! ## The cells: 64×64 of stride 8, then 32×32 of stride 16, then 16×16 of stride 32 -/

def cxN (a : ℕ) : ℕ := if a < 4096 then 8 * (a % 64) + 4 else if a < 5120 then 16 * ((a - 4096) % 32) + 8 else 32 * ((a - 5120) % 16) + 16
def cyN (a : ℕ) : ℕ := if a < 4096 then 8 * (a / 64) + 4 else if a < 5120 then 16 * ((a - 4096) / 32) + 8 else 32 * ((a - 5120) / 16) + 16
def stN (a : ℕ) : ℕ := if a < 4096 then 8 else if a < 5120 then 16 else 32

/-- A cell's channel, in the array of its level. -/
def chan (p0 : Fin 144 → Fin 64 → Fin 64 → EReal) (p1 : Fin 144 → Fin 32 → Fin 32 → EReal) (p2 : Fin 144 → Fin 16 → Fin 16 → EReal)
    (k : Fin 144) (a : Fin 5376) : EReal :=
  if h : a.val < 4096 then p0 k ⟨a.val / 64, by omega⟩ ⟨a.val % 64, by omega⟩
  else if h' : a.val - 4096 < 1024 then p1 k ⟨(a.val - 4096) / 32, by omega⟩ ⟨(a.val - 4096) % 32, by omega⟩
  else p2 k ⟨(a.val - 4096 - 1024) / 16, by omega⟩ ⟨(a.val - 4096 - 1024) % 16, by omega⟩

/-- The image that the arguments hold. -/
def img (p0 : Fin 144 → Fin 64 → Fin 64 → EReal) (p1 : Fin 144 → Fin 32 → Fin 32 → EReal) (p2 : Fin 144 → Fin 16 → Fin 16 → EReal)
    (gt : Fin 20 → Fin 4 → EReal) (lab : Fin 20 → BitVec 32) : Img where
  X a c := (chan p0 p1 p2 ⟨64 + c.val, by omega⟩ a).toReal
  D a s b := (chan p0 p1 p2 ⟨16 * s.val + b.val, by omega⟩ a).toReal
  cx a := cxN a.val
  cy a := cyN a.val
  st a := stN a.val
  G := gt
  L g := ⟨(lab g).toNat % 80, Nat.mod_lt _ (by decide)⟩

/-- A real number, as an extended one. -/
def IsReal (x : EReal) : Prop := x ≠ ⊤ ∧ x ≠ ⊥

theorem IsReal.coe {x : EReal} (h : IsReal x) : ((x.toReal : ℝ) : EReal) = x := EReal.coe_toReal h.1 h.2

theorem chan_real {p0 : Fin 144 → Fin 64 → Fin 64 → EReal} {p1 : Fin 144 → Fin 32 → Fin 32 → EReal} {p2 : Fin 144 → Fin 16 → Fin 16 → EReal}
    (h0 : ∀ k y x, IsReal (p0 k y x)) (h1 : ∀ k y x, IsReal (p1 k y x)) (h2 : ∀ k y x, IsReal (p2 k y x)) (k : Fin 144) (a : Fin 5376) :
    IsReal (chan p0 p1 p2 k a) := by
  unfold chan
  split
  · exact h0 _ _ _
  · split
    · exact h1 _ _ _
    · exact h2 _ _ _

/-! ## The table -/

/-- The word `w` is that of the natural number `v`. -/
def isWord (w v : ℕ) : Bool :=
  decide (127 * 2 ^ 23 ≤ w) && decide (w < 151 * 2 ^ 23) && (2 ^ 23 + w % 2 ^ 23 == v * 2 ^ (150 - w / 2 ^ 23))

theorem ofBits_of_isWord {w : BitVec 32} {v : ℕ} (h : isWord w.toNat v = true) : Ideal.ofBits .f32 w = ((v : ℝ) : EReal) := by
  simp only [isWord, Bool.and_eq_true, decide_eq_true_eq, beq_iff_eq] at h
  obtain ⟨⟨h1, h2⟩, h3⟩ := h
  have hneg : (w.extractLsb' (8 + 23) 1 == 1#1) = false := by
    have : w.toNat / 2 ^ 31 = 0 := by omega
    rw [beq_eq_false_iff_ne]
    intro hc
    have := congrArg BitVec.toNat hc
    rw [BitVec.extractLsb'_toNat, Nat.shiftRight_eq_div_pow] at this
    simp at this
    omega
  have hex : (w.extractLsb' 23 8).toNat = w.toNat / 2 ^ 23 := by
    rw [BitVec.extractLsb'_toNat, Nat.shiftRight_eq_div_pow]
    exact Nat.mod_eq_of_lt (by omega)
  have hfr : (w.extractLsb' 0 23).toNat = w.toNat % 2 ^ 23 := by
    rw [BitVec.extractLsb'_toNat, Nat.shiftRight_eq_div_pow]
    simp
  show Ideal.ieee 8 23 w = _
  unfold Ideal.ieee
  simp only [hneg, hex, hfr]
  have hlo : 127 ≤ w.toNat / 2 ^ 23 := by omega
  have hhi : w.toNat / 2 ^ 23 ≤ 150 := by omega
  rw [if_neg (by omega), if_neg (by omega)]
  congr 1
  rw [h3]
  have he : ((w.toNat / 2 ^ 23 : ℕ) : ℤ) - (2 ^ (8 - 1) - 1) - (23 : ℕ) = -((150 - w.toNat / 2 ^ 23 : ℕ) : ℤ) := by
    push_cast [hhi]
    omega
  rw [he, zpow_neg, zpow_natCast]
  push_cast
  simp

theorem table_words : ((List.range 5376).all fun a => isWord (Cert.KernelIdeal.lit0t a).toNat (cxN a)
    && isWord (Cert.KernelIdeal.lit0t (5376 + a)).toNat (cyN a) && isWord (Cert.KernelIdeal.lit0t (10752 + a)).toNat (stN a)) = true := by
  decide +kernel

theorem table_cx (a : Fin 5376) : Ideal.ofBits .f32 (Cert.KernelIdeal.lit0t a.val) = ((cxN a.val : ℝ) : EReal) := by
  have h := List.all_eq_true.1 table_words a.val (List.mem_range.2 a.isLt)
  simp only [Bool.and_eq_true] at h
  exact ofBits_of_isWord h.1.1

theorem table_cy (a : Fin 5376) : Ideal.ofBits .f32 (Cert.KernelIdeal.lit0t (5376 + a.val)) = ((cyN a.val : ℝ) : EReal) := by
  have h := List.all_eq_true.1 table_words a.val (List.mem_range.2 a.isLt)
  simp only [Bool.and_eq_true] at h
  exact ofBits_of_isWord h.1.2

theorem table_st (a : Fin 5376) : Ideal.ofBits .f32 (Cert.KernelIdeal.lit0t (10752 + a.val)) = ((stN a.val : ℝ) : EReal) := by
  have h := List.all_eq_true.1 table_words a.val (List.mem_range.2 a.isLt)
  simp only [Bool.and_eq_true] at h
  exact ofBits_of_isWord h.2

end Cert.Loss
-- ==== Proof.Assign.lean ====
/- Which box a cell is assigned to: at most one, and how the two programs count it out. -/
module

public import proofs.«01_k».proof.Proof.Spec

@[expose] public section

noncomputable section

namespace Cert.Loss

open Idealize.ShloMosaic Cert.TopTen

/-- A sum of reals, taken in the extended reals. -/
theorem sum_coe {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

theorem ind_coe (p : Prop) : ind p = ((@ite _ p (Classical.dec p) (1 : ℝ) 0 : ℝ) : EReal) := by
  by_cases h : p
  · rw [ind_pos h, if_pos h, EReal.coe_one]
  · rw [ind_neg h, if_neg h, EReal.coe_zero]

theorem ind_mul (p q : Prop) : ind p * ind q = ind (p ∧ q) := by
  by_cases hp : p
  · rw [ind_pos hp, one_mul]; exact ind_congr (by simp [hp])
  · rw [ind_neg hp, zero_mul, ind_neg fun h => hp h.1]

theorem ind_nonneg (p : Prop) : 0 ≤ ind p := by
  by_cases h : p
  · rw [ind_pos h]; exact zero_le_one
  · rw [ind_neg h]

theorem ind_le_one (p : Prop) : ind p ≤ 1 := by
  by_cases h : p
  · rw [ind_pos h]
  · rw [ind_neg h]; exact zero_le_one

theorem zero_lt_ind {p : Prop} : 0 < ind p ↔ p := by
  by_cases h : p
  · rw [ind_pos h]; exact ⟨fun _ => h, fun _ => zero_lt_one⟩
  · rw [ind_neg h]; exact ⟨fun h' => absurd h' (lt_irrefl 0), fun h' => absurd h' h⟩

/-- How many hold, as a sum. -/
theorem sum_ind {ι : Type} [Fintype ι] (P : ι → Prop) [DecidablePred P] :
    ∑ i, ind (P i) = (((Finset.univ.filter P).card : ℝ) : EReal) := by
  classical
  simp only [ind_coe]
  rw [sum_coe, EReal.coe_eq_coe_iff, Finset.card_filter, Nat.cast_sum]
  refine Finset.sum_congr rfl fun i _ => ?_
  by_cases h : P i
  · rw [if_pos h, if_pos h, Nat.cast_one]
  · rw [if_neg h, if_neg h, Nat.cast_zero]

/-- A sum of which at most the term at `i` counts. -/
theorem sum_ind_eq {n : ℕ} (f : Fin n → EReal) (i : Fin n) : ∑ k, f k * ind (k = i) = f i := by
  rw [Finset.sum_eq_single i (fun k _ hk => by rw [ind_neg hk, mul_zero])
    (fun h => absurd (Finset.mem_univ i) h), ind_pos rfl, mul_one]

/-- Counting the hits up to and with `g` says whether a hit at `g` is the first. -/
theorem first_iff {n : ℕ} (P : Fin n → Prop) (g : Fin n) :
    (P g ∧ ∑ k, ind (k ≤ g) * ind (P k) = 1) ↔ (P g ∧ ∀ k < g, ¬P k) := by
  classical
  refine and_congr_right fun hg => ?_
  simp only [ind_mul]
  rw [sum_ind (fun k => k ≤ g ∧ P k), ← EReal.coe_one, EReal.coe_eq_coe_iff, ← Nat.cast_one, Nat.cast_inj,
    Finset.card_eq_one]
  constructor
  · rintro ⟨x, hx⟩ k hk hP
    have hx' : ∀ y, (y ≤ g ∧ P y) ↔ y = x := fun y => by
      have := congrArg (y ∈ ·) hx
      simpa using this
    have h1 := (hx' g).1 ⟨le_rfl, hg⟩
    have h2 := (hx' k).1 ⟨hk.le, hP⟩
    exact absurd (h2.trans h1.symm) hk.ne
  · intro h
    refine ⟨g, Finset.ext fun y => ?_⟩
    simp only [Finset.mem_filter, Finset.mem_univ, true_and, Finset.mem_singleton]
    constructor
    · rintro ⟨h1, h2⟩
      by_contra h3
      exact h y (lt_of_le_of_ne h1 h3) h2
    · rintro rfl; exact ⟨le_rfl, hg⟩

/-- A hit has a first one. -/
theorem exists_first {n : ℕ} {P : Fin n → Prop} (h : ∃ g, P g) : ∃ g, P g ∧ ∀ k < g, ¬P k := by
  classical
  exact ⟨_, Fin.find_spec h, fun k hk => Fin.find_min h hk⟩

theorem top_mem {n : ℕ} (w : Fin (n + 1) → EReal) : ∃ i, w i = top w := by
  obtain ⟨i, _, hi⟩ := Finset.exists_max_image (Finset.univ : Finset (Fin (n + 1))) w ⟨0, Finset.mem_univ _⟩
  exact ⟨i, (top_eq i rfl fun k => hi k (Finset.mem_univ k)).symm⟩

namespace Img

variable {I : Img} {a : Fin 5376}

theorem exists_best (I : Img) (a : Fin 5376) : ∃ g, I.best g a := exists_first (top_mem (I.candIou · a))

theorem best_unique {g g' : Fin 20} (h : I.best g a) (h' : I.best g' a) : g = g' := by
  rcases lt_trichotomy g g' with hlt | he | hlt
  · exact absurd h.1 (h'.2 g hlt)
  · exact he
  · exact absurd h'.1 (h.2 g' hlt)

theorem count_le_one (h : ¬1 < I.count a) {g g' : Fin 20} (hg : I.cand g a) (hg' : I.cand g' a) : g = g' := by
  classical
  by_contra hne
  apply h
  unfold count
  rw [sum_ind (fun g => I.cand g a), ← EReal.coe_one, EReal.coe_lt_coe_iff, ← Nat.cast_one, Nat.cast_lt]
  exact Finset.one_lt_card.2 ⟨g, by simpa using hg, g', by simpa using hg', hne⟩

theorem pos_unique {g g' : Fin 20} (h : I.pos g a) (h' : I.pos g' a) : g = g' := by
  by_cases hc : 1 < I.count a
  · exact best_unique (h.2 hc) (h'.2 hc)
  · exact count_le_one hc h.1 h'.1

theorem sel_eq {g : Fin 20} (h : I.pos g a) : I.sel a = g := by
  have hf : I.fg a := ⟨g, h⟩
  unfold sel
  rw [dif_pos hf]
  exact pos_unique hf.choose_spec h

theorem sel_pos (h : I.fg a) : I.pos (I.sel a) a := by
  obtain ⟨g, hg⟩ := h
  rw [sel_eq hg]; exact hg

theorem sel_zero (h : ¬I.fg a) : I.sel a = 0 := by
  unfold sel; rw [dif_neg h]

theorem pos_iff {g : Fin 20} : I.pos g a ↔ I.fg a ∧ g = I.sel a :=
  ⟨fun h => ⟨⟨g, h⟩, (sel_eq h).symm⟩, fun h => h.2 ▸ sel_pos h.1⟩

/-- The assignment of a cell, summed over the boxes. -/
theorem sum_pos (I : Img) (a : Fin 5376) : ∑ g, ind (I.pos g a) = ind (I.fg a) := by
  by_cases h : I.fg a
  · have : ∀ g, ind (I.pos g a) = 1 * ind (g = I.sel a) := fun g => by
      rw [one_mul]; exact ind_congr (pos_iff.trans (and_iff_right h))
    simp only [this]
    rw [sum_ind_eq (fun _ => 1), ind_pos h]
  · have : ∀ g, ind (I.pos g a) = 0 := fun g => ind_neg fun hg => h ⟨g, hg⟩
    simp only [this]
    rw [Finset.sum_const_zero, ind_neg h]

/-- The kernel's one-hot row of the box a cell is assigned to: the first hit, or the first box when there is none. -/
theorem one_hot (I : Img) (g : Fin 20) (a : Fin 5376) :
    ind (I.pos g a ∧ ∑ k, ind (k ≤ g) * ind (I.pos k a) = 1) + (1 - ind (I.fg a)) * ind (g = 0) = ind (g = I.sel a) := by
  rw [ind_congr (first_iff (fun g => I.pos g a) g)]
  by_cases h : I.fg a
  · rw [ind_pos h, show (1 : EReal) - 1 = 0 from by rw [← EReal.coe_one, ← EReal.coe_sub, sub_self, EReal.coe_zero], zero_mul,
      add_zero]
    refine ind_congr ⟨fun hg => (pos_iff.1 hg.1).2, fun hg => ?_⟩
    have hp := pos_iff.2 ⟨h, hg⟩
    exact ⟨hp, fun k hk hk' => absurd (pos_unique hk' hp) hk.ne⟩
  · rw [ind_neg h, ind_neg (fun hg => h ⟨g, hg.1⟩), sub_zero, zero_add, one_mul, sel_zero h]

end Img

end Cert.Loss
-- ==== Proof.KernelWords.lean ====
/- The kernel's integer words and 0/1 words, as numbers. -/
module

public import proofs.«01_k».proof.Proof.Gen.KernelIdeal.Skeleton
public import proofs.«01_k».proof.Proof.Assign
public import Idealize.ShloMosaic.Lib.Pointwise

@[expose] public section

set_option maxRecDepth 16384

noncomputable section

namespace Cert.Loss

open Idealize.ShloMosaic

/-- The row of a side's bin. -/
theorem row_lt (s : Fin 4) (b : Fin 16) : 16 * s.val + b.val < 64 := by omega

theorem select_bool {α : Type} (b : Bool) (x y : α) : Scalar.select (BitVec.ofBool b) x y = if b then x else y := by
  cases b <;> rfl

theorem andi_bool (a b : Bool) : IntOp.andi (BitVec.ofBool a) (BitVec.ofBool b) = BitVec.ofBool (a && b) := by
  cases a <;> cases b <;> rfl

theorem sitofp_bool (b : Bool) :
    FloatOps.sitofp (F := Ideal) .f32 (BitVec.setWidth 32 (BitVec.ofBool b)) = ind (b = true) := by
  cases b
  · rw [ind_neg (by decide)]
    show ((((0 : ℤ) : ℝ) : EReal)) = 0
    norm_num
  · rw [ind_pos rfl]
    show ((((1 : ℤ) : ℝ) : EReal)) = 1
    norm_num

theorem sitofp_decide (p : Prop) [Decidable p] :
    FloatOps.sitofp (F := Ideal) .f32 (BitVec.setWidth 32 (BitVec.ofBool (decide p))) = ind p := by
  rw [sitofp_bool]; exact ind_congr (by simp)

theorem select_decide {α : Type} (p : Prop) [Decidable p] (x y : α) :
    Scalar.select (BitVec.ofBool (decide p)) x y = @ite _ p (Classical.dec p) x y := by
  rw [select_bool]
  by_cases h : p
  · rw [if_pos (decide_eq_true h), if_pos h]
  · rw [if_neg (by simpa using h), if_neg h]

theorem bot_word : Ideal.ofBits FTy.f32 0xFF800000#32 = ⊥ := by
  simp [Ideal.ofBits, Ideal.ieee]

theorem neg_one_word : Ideal.ofBits FTy.f32 0xBF800000#32 = -1 := by
  simp [Ideal.ofBits, Ideal.ieee, -EReal.coe_mul]; norm_num

theorem sitofp_ofNat (n : ℕ) (h : n < 2 ^ 31) :
    FloatOps.sitofp (F := Ideal) .f32 (BitVec.ofNat 32 n) = ((n : ℝ) : EReal) := by
  show (((BitVec.ofNat 32 n).toInt : ℝ) : EReal) = _
  have hn : (BitVec.ofNat 32 n).toNat = n := by rw [BitVec.toNat_ofNat]; exact Nat.mod_eq_of_lt (by omega)
  rw [BitVec.toInt_eq_toNat_of_lt (by rw [hn]; omega), hn, Int.cast_natCast]

end Cert.Loss

namespace Cert.KernelIdeal.Read

open Idealize.ShloMosaic Cert.KernelIdeal.Gen Cert.Loss

/-- The words of the matrix that sums the bins of a side (rows 0 to 3 plainly, rows 4 to 7 weighted by the bin). -/
theorem side_word (s : Fin 8) (x : Fin 64) :
    IntOp.cmpi .eq
      (Scalar.select
        (IntOp.andi
          (IntOp.xori (IntOp.cmpi .slt (k0_pay8 (iota .tc S8x64 32 [0] iota_S8x64_d0_w32) (ix2 s x)) 0#32)
            (Scalar.cmpi .slt 4#32 0#32))
          (IntOp.cmpi .ne (k0_pay8 (iota .tc S8x64 32 [0] iota_S8x64_d0_w32) (ix2 s x)) 0#32))
        (IntOp.addi (k0_pay8 (iota .tc S8x64 32 [0] iota_S8x64_d0_w32) (ix2 s x)) 4#32)
        (k0_pay8 (iota .tc S8x64 32 [0] iota_S8x64_d0_w32) (ix2 s x)))
      (k0_pay6 (iota .tc S8x64 32 [1] iota_S8x64_d1_w32) 16#32 (ix2 s x))
      = BitVec.ofBool (decide (s.val % 4 = x.val / 16)) := by
  pointwise [k0_pay6, k0_pay8]
  revert s x
  decide +kernel

theorem low_word (s : Fin 8) : IntOp.cmpi .slt (BitVec.ofNat 32 s.val) 4#32 = BitVec.ofBool (decide (s.val < 4)) := by
  revert s; decide +kernel

theorem bin_word (s : Fin 8) (x : Fin 64) :
    k0_pay7 (F := Ideal) (iota .tc S8x64 32 [1] iota_S8x64_d1_w32) (ix2 s x) = (((x.val % 16 : ℕ) : ℝ) : EReal) := by
  pointwise [k0_pay7]
  rw [← sitofp_ofNat (x.val % 16) (by omega)]
  congr 1
  revert x
  decide +kernel

theorem tril_word (x g : Fin 20) :
    IntOp.cmpi .sle (BitVec.ofNat 32 x.val) (BitVec.ofNat 32 g.val) = BitVec.ofBool (decide (x ≤ g)) := by
  revert x g; decide +kernel

theorem zero_word (g : Fin 20) : IntOp.cmpi .eq (BitVec.ofNat 32 g.val) 0#32 = BitVec.ofBool (decide (g = 0)) := by
  revert g; decide +kernel

theorem label_word (l c : Fin 80) :
    IntOp.cmpi .eq (IntOp.minsi 79#32 (IntOp.maxsi 0#32 (BitVec.ofNat 32 l.val))) (BitVec.ofNat 32 c.val)
      = BitVec.ofBool (decide (c = l)) := by
  revert l c; decide +kernel

end Cert.KernelIdeal.Read
-- ==== Proof.KernelRead.lean ====
/- The kernel's values, read at a cell: the decoded boxes, the overlaps, the metric and the candidates. -/
module

public import proofs.«01_k».proof.Proof.KernelWords

@[expose] public section

set_option maxRecDepth 16384

noncomputable section

namespace Cert.KernelIdeal.Read

open Idealize.ShloMosaic Cert.KernelIdeal.Gen Cert.Loss Cert.TopTen

variable {I : Img}

/-- A sum over the sixty-four rows, side by side. -/
theorem sum_rows (f : Fin 64 → EReal) :
    ∑ x, f x = ∑ s : Fin 4, ∑ b : Fin 16, f ⟨16 * s.val + b.val, by omega⟩ := by
  rw [← Fintype.sum_prod_type']
  refine (Fintype.sum_equiv (finProdFinEquiv (m := 4) (n := 16)) _ _ fun p => ?_).symm
  congr 1
  exact Fin.ext (Nat.add_comm _ _)

/-- The four sums of exponentials (rows 0 to 3), and the four weighted ones (rows 4 to 7). -/
theorem pay9_eq {v16 : FVec Ideal S64x5376 .f32}
    (hD : ∀ a s b, v16 (ix2 ⟨16 * (s : Fin 4).val + (b : Fin 16).val, row_lt s b⟩ a) = (I.D a s b : EReal)) (s : Fin 8) (a : Fin 5376) :
    k0_pay9 v16 (iota .tc S8x64 32 [0] iota_S8x64_d0_w32) (k0_pay6 (iota .tc S8x64 32 [1] iota_S8x64_d1_w32) 16#32)
        (k0_pay7 (iota .tc S8x64 32 [1] iota_S8x64_d1_w32)) 4#32 (k0_pay8 (iota .tc S8x64 32 [0] iota_S8x64_d0_w32)) (ix2 s a)
      = ((∑ b : Fin 16, (if s.val < 4 then 1 else (b : ℝ)) * Real.exp (I.D a ⟨s.val % 4, by omega⟩ b) : ℝ) : EReal) := by
  pointwise [k0_pay9]
  refine (Finset.sum_congr rfl fun x _ => (congrArg₂ (fun w y => Scalar.select w (Scalar.select (IntOp.cmpi .slt (BitVec.ofNat 32 s.val) 4#32) 1 y
    * Ideal.exp (v16 (ix2 x a))) 0) (side_word s x) (bin_word s x))).trans ?_
  simp only [select_bool, low_word]
  rw [sum_rows, Finset.sum_eq_single (⟨s.val % 4, by omega⟩ : Fin 4)]
  · rw [← sum_coe]
    refine Finset.sum_congr rfl fun b _ => ?_
    have h1 : s.val % 4 = (16 * (s.val % 4) + b.val) / 16 := by omega
    have h2 : (16 * (s.val % 4) + b.val) % 16 = b.val := by omega
    rw [hD a ⟨s.val % 4, by omega⟩ b, Ideal.exp_coe, EReal.coe_mul]
    simp only [← h1, h2, decide_true, if_true, decide_eq_true_eq]
    congr 1
    by_cases h : s.val < 4 <;> simp [h]
  · intro k _ hk
    refine Finset.sum_eq_zero fun b _ => ?_
    have h1 : ¬s.val % 4 = (16 * k.val + b.val) / 16 := fun h => hk (Fin.ext (by
      show k.val = s.val % 4
      omega))
    simp only [h1, decide_false, Bool.false_eq_true, if_false, zero_mul]
  · intro h; exact absurd (Finset.mem_univ _) h

/-- A side's sum of exponentials. -/
theorem pay10_eq {v16 : FVec Ideal S64x5376 .f32}
    (hD : ∀ a s b, v16 (ix2 ⟨16 * (s : Fin 4).val + (b : Fin 16).val, row_lt s b⟩ a) = (I.D a s b : EReal)) (s : Fin 4) (a : Fin 5376) :
    k0_pay10 v16 (iota .tc S8x64 32 [0] iota_S8x64_d0_w32) (k0_pay6 (iota .tc S8x64 32 [1] iota_S8x64_d1_w32) 16#32)
        (k0_pay7 (iota .tc S8x64 32 [1] iota_S8x64_d1_w32)) 4#32 (k0_pay8 (iota .tc S8x64 32 [0] iota_S8x64_d0_w32)) (ix2 s a)
      = (I.se a s : EReal) := by
  pointwise [k0_pay10]
  rw [pay9_eq hD]
  have h : s.val % 4 = s.val := Nat.mod_eq_of_lt s.isLt
  simp only [s.isLt, if_true, one_mul, h]
  rfl

theorem se_pos (I : Img) (a : Fin 5376) (s : Fin 4) : 0 < I.se a s :=
  Finset.sum_pos (fun b _ => Real.exp_pos _) ⟨0, Finset.mem_univ _⟩

/-- A side's distance. -/
theorem pay11_eq {v2 : FVec Ideal S1x5376 .f32} {v16 : FVec Ideal S64x5376 .f32}
    (hst : ∀ a, v2 (ix2 0 a) = (I.st a : EReal))
    (hD : ∀ a s b, v16 (ix2 ⟨16 * (s : Fin 4).val + (b : Fin 16).val, row_lt s b⟩ a) = (I.D a s b : EReal)) (s : Fin 4) (a : Fin 5376) :
    k0_pay11 v2 v16 (iota .tc S8x64 32 [0] iota_S8x64_d0_w32) (k0_pay6 (iota .tc S8x64 32 [1] iota_S8x64_d1_w32) 16#32)
        (k0_pay7 (iota .tc S8x64 32 [1] iota_S8x64_d1_w32)) 4#32 (k0_pay8 (iota .tc S8x64 32 [0] iota_S8x64_d0_w32)) (ix2 s a)
      = (I.dist a s : EReal) := by
  pointwise [k0_pay11]
  rw [pay9_eq hD, pay10_eq hD, hst, Ideal.div_coe (se_pos I a s).ne']
  have h : (4 + s.val) % 4 = s.val := by omega
  have h' : ¬(4 + s.val < 4) := by omega
  simp only [h, h', if_false]
  rw [← EReal.coe_mul, ← EReal.coe_mul]
  unfold Img.dist
  rw [mul_one_div]

theorem zero_int : ((((0#32 : BitVec 32).toInt : ℝ)) : EReal) = 0 := by
  norm_num

section Boxes

variable {v98 v100 v102 v104 : FVec Ideal S1x5376 .f32} {v105 v106 v107 v108 : FVec Ideal S20x1 .f32}
  (h98 : ∀ a, v98 (ix2 0 a) = (I.x1 a : EReal)) (h100 : ∀ a, v100 (ix2 0 a) = (I.y1 a : EReal))
  (h102 : ∀ a, v102 (ix2 0 a) = (I.x2 a : EReal)) (h104 : ∀ a, v104 (ix2 0 a) = (I.y2 a : EReal))
  (h105 : ∀ g, v105 (ix2 g 0) = I.G g 0) (h106 : ∀ g, v106 (ix2 g 0) = I.G g 1)
  (h107 : ∀ g, v107 (ix2 g 0) = I.G g 2) (h108 : ∀ g, v108 (ix2 g 0) = I.G g 3)

include h98 h100 h102 h104 in
theorem pay23_eq (a : Fin 5376) :
    k0_pay23 v98 v100 v102 v104 (ix2 0 a) = ((I.x2 a : EReal) - I.x1 a) * ((I.y2 a : EReal) - I.y1 a) := by
  pointwise [k0_pay23]
  rw [h98, h100, h102, h104]

include h98 h100 h102 h104 h105 h106 h107 h108 in
theorem pay24_eq (g : Fin 20) (a : Fin 5376) :
    k0_pay24 v98 v100 v102 v104 v105 v106 v107 v108 (ix2 g a) = I.iou g a := by
  pointwise [k0_pay24]
  rw [pay23_eq h98 h100 h102 h104, h98, h100, h102, h104, h105, h106, h107, h108, zero_int]
  rfl

include h98 h100 h102 h104 h105 h106 h107 h108 in
theorem pay25_eq {v119 : FVec Ideal S20x5376 .f32} (h119 : ∀ g a, v119 (ix2 g a) = (I.cls g a : EReal)) (g : Fin 20) (a : Fin 5376) :
    k0_pay25 v98 v100 v102 v104 v105 v106 v107 v108 v119 (ix2 g a) = I.align g a := by
  pointwise [k0_pay25]
  rw [pay24_eq h98 h100 h102 h104 h105 h106 h107 h108, h119]
  rfl

include h100 h104 in
theorem pay26_eq (a : Fin 5376) : k0_pay26 v100 v104 (ix2 0 a) = I.pcy a := by
  pointwise [k0_pay26]
  rw [h100, h104]
  rfl

include h98 h100 h102 h104 h105 h106 h107 h108 in
theorem pay29_eq {v158 : FVec Ideal S20x5376 .f32} (h158 : ∀ g a, v158 (ix2 g a) = I.align g a) (g : Fin 20) (a : Fin 5376) :
    k0_pay29 v105 v106 v107 v108 v158 (k0_pay26 v100 v104) (k0_pay27 v98 v102 v105 v107) (k0_pay28 v100 v104 v106) (ix2 g a)
      = I.metric g a := by
  pointwise [k0_pay29, k0_pay27, k0_pay28]
  rw [pay26_eq h100 h104, h98, h102, h105, h106, h107, h108, h158]
  simp only [andi_bool, select_bool, Bool.and_eq_true, decide_eq_true_eq]
  unfold Img.metric
  by_cases h : I.mask g a
  · rw [if_pos h, if_pos]
    obtain ⟨⟨h1, h2, h3, h4⟩, h5, h6⟩ := h
    exact ⟨⟨⟨⟨h1, h2⟩, h3⟩, h4⟩, h5, h6⟩
  · rw [if_neg h, if_neg]
    rintro ⟨⟨⟨⟨h1, h2⟩, h3⟩, h4⟩, h5, h6⟩
    exact h ⟨⟨h1, h2, h3, h4⟩, h5, h6⟩

end Boxes

theorem pay21_eq {v9 : FVec Ideal S80x5376 .f32} {v22 : IVec S20x1 32} (hX : ∀ c a, v9 (ix2 c a) = (I.X a c : EReal))
    (hL : ∀ g, v22 (ix2 g 0) = BitVec.ofNat 32 (I.L g).val) (g : Fin 20) (a : Fin 5376) :
    k0_pay21 v9 v22 (ix2 g a) = (I.X a (I.L g) : EReal) := by
  pointwise [k0_pay21]
  simp only [hX, hL, label_word, sitofp_decide]
  rw [Finset.sum_congr rfl fun x _ => mul_comm (ind (x = I.L g)) _, sum_ind_eq]

theorem pay22_eq {v9 : FVec Ideal S80x5376 .f32} {v22 : IVec S20x1 32} (hX : ∀ c a, v9 (ix2 c a) = (I.X a c : EReal))
    (hL : ∀ g, v22 (ix2 g 0) = BitVec.ofNat 32 (I.L g).val) (g : Fin 20) (a : Fin 5376) :
    k0_pay22 v9 v22 (ix2 g a) = (I.cls g a : EReal) := by
  pointwise [k0_pay22]
  rw [pay21_eq hX hL, Ideal.logistic_coe]
  rfl

theorem round_eq (f : Fin 5376 → EReal) (r : ℕ) (x : Fin 5376)
    [d : Decidable (work (-1) f r x = Finset.univ.fold max ⊥ fun x => work (-1) f r x)] :
    (if work (-1) f r x = Finset.univ.fold max ⊥ fun x => work (-1) f r x then -1 else work (-1) f r x) = work (-1) f (r + 1) x := by
  show _ = if work (-1) f r x = top (work (-1) f r) then -1 else work (-1) f r x
  by_cases h : work (-1) f r x = top (work (-1) f r)
  · rw [if_pos h]; exact if_pos h
  · rw [if_neg h]; exact if_neg h

theorem pay30_eq {v105 v106 v107 v108 : FVec Ideal S20x1 .f32} {v158 : FVec Ideal S20x5376 .f32} {v164 : FVec Ideal S1x5376 .f32}
    {v171 v174 : IVec S20x5376 1}
    (h : ∀ g a, k0_pay29 v105 v106 v107 v108 v158 v164 v171 v174 (ix2 g a) = I.metric g a) (g : Fin 20) (a : Fin 5376) :
    k0_pay30 v105 v106 v107 v108 v158 v164 v171 v174 (ix2 g a) = work (-1) (I.metric g) 5 a := by
  pointwise [k0_pay30]
  have h' : ∀ g a, k0_pay29 v105 v106 v107 v108 v158 v164 v171 v174 (ix2 g a) = work (-1) (I.metric g) 0 a := h
  simp only [h', bot_word, neg_one_word, round_eq]

theorem pay31_eq {v190 v220 : FVec Ideal S20x5376 .f32} (h190 : ∀ g a, v190 (ix2 g a) = I.metric g a)
    (h220 : ∀ g a, v220 (ix2 g a) = work (-1) (I.metric g) 5 a) (g : Fin 20) (a : Fin 5376) :
    k0_pay31 v190 v220 (ix2 g a) = ind (I.cand g a) := by
  pointwise [k0_pay31]
  simp only [h190, h220, bot_word, neg_one_word, round_eq, andi_bool, sitofp_bool]
  refine ind_congr ?_
  rw [Bool.and_eq_true, decide_eq_true_eq, decide_eq_true_eq]
  exact Iff.rfl

theorem pay33_eq (g x : Fin 20) : k0_pay33 (F := Ideal) (ix2 g x) = ind (x ≤ g) := by
  pointwise [k0_pay33]
  rw [tril_word, sitofp_decide]

theorem pay32_eq (g : Fin 20) : k0_pay32 (F := Ideal) (ix2 0 g) = 1 := by
  pointwise [k0_pay32]

theorem pay34_eq {v190 v220 : FVec Ideal S20x5376 .f32} (h : ∀ g a, k0_pay31 v190 v220 (ix2 g a) = ind (I.cand g a))
    (a : Fin 5376) : k0_pay34 v190 v220 (ix2 0 a) = I.count a := by
  pointwise [k0_pay34, k0_pay32]
  simp only [h]
  rfl

theorem pay35_eq {v153 v190 v220 : FVec Ideal S20x5376 .f32} (h : ∀ g a, k0_pay31 v190 v220 (ix2 g a) = ind (I.cand g a))
    (h153 : ∀ g a, v153 (ix2 g a) = I.iou g a) (g : Fin 20) (a : Fin 5376) :
    k0_pay35 v153 v190 v220 (ix2 g a) = I.candIou g a := by
  pointwise [k0_pay35]
  simp only [h, h153, neg_one_word]
  unfold Img.candIou
  by_cases hc : I.cand g a
  · rw [if_pos hc, if_pos (zero_lt_ind.2 hc)]
  · rw [if_neg hc, if_neg (fun h' => hc (zero_lt_ind.1 h'))]

theorem pay36_eq {v153 v190 v220 : FVec Ideal S20x5376 .f32} (h : ∀ g a, k0_pay35 v153 v190 v220 (ix2 g a) = I.candIou g a)
    (a : Fin 5376) : k0_pay36 v153 v190 v220 (ix1 a) = top (I.candIou · a) := by
  pointwise [k0_pay36]
  simp only [h, bot_word]
  rfl

section Assigned

variable {v253 v265 : FVec Ideal S20x5376 .f32} {v261 : FVec Ideal S1x5376 .f32} {v266 : FVec Ideal S5376 .f32}
  {v254 : FVec Ideal S1x20 .f32} {v260 : FVec Ideal S20x20 .f32}
  (h253 : ∀ g a, v253 (ix2 g a) = ind (I.cand g a)) (h261 : ∀ a, v261 (ix2 0 a) = I.count a)
  (h265 : ∀ g a, v265 (ix2 g a) = I.candIou g a) (h266 : ∀ a, v266 (ix1 a) = top (I.candIou · a))
  (h254 : ∀ g, v254 (ix2 0 g) = 1) (h260 : ∀ g x, v260 (ix2 g x) = ind (x ≤ g))

include h253 h261 h265 h266 h260

theorem pay37_eq (g : Fin 20) (a : Fin 5376) :
    k0_pay37 v253 v260 v261 v265 v266 (ix2 g a) = ind (I.pos g a) := by
  pointwise [k0_pay37]
  simp only [h253, h261, h265, h266, h260, sitofp_decide]
  by_cases hc : 1 < I.count a
  · rw [if_pos hc]
    have e := first_iff (fun k => I.candIou k a = top fun x => I.candIou x a) g
    have ep : I.pos g a ↔ (I.candIou g a = top (I.candIou · a) ∧ ∑ k, ind (k ≤ g) * ind (I.candIou k a = top (I.candIou · a)) = 1)
        ∧ I.cand g a := by
      rw [e]
      exact ⟨fun h => ⟨h.2 hc, h.1⟩, fun h => ⟨h.2, fun _ => h.1⟩⟩
    rw [ind_congr ep, ← ind_mul]
    congr 1
    by_cases hs : ∑ k, ind (k ≤ g) * ind (I.candIou k a = top (I.candIou · a)) = 1
    · rw [if_pos hs]; exact ind_congr (by rw [and_iff_left hs])
    · rw [if_neg hs, ind_neg fun h => hs h.2]
  · rw [if_neg hc]
    exact ind_congr ⟨fun h => ⟨h, fun h' => absurd h' hc⟩, fun h => h.1⟩

include h254

theorem pay38_eq (a : Fin 5376) : k0_pay38 v253 v254 v260 v261 v265 v266 (ix2 0 a) = ind (I.fg a) := by
  pointwise [k0_pay38]
  simp only [pay37_eq h253 h261 h265 h266 h260, h254, one_mul, Img.sum_pos]
  exact min_eq_left (ind_le_one _)

theorem pay39_eq (g : Fin 20) (a : Fin 5376) :
    k0_pay39 v253 v254 (iota .tc S20x5376 32 [0] iota_S20x5376_d0_w32) v260 v261 v265 v266 (ix2 g a) = ind (g = I.sel a) := by
  pointwise [k0_pay39]
  simp only [pay37_eq h253 h261 h265 h266 h260, pay38_eq h253 h261 h265 h266 h254 h260, h260, zero_word, sitofp_decide, andi_bool, select_bool]
  rw [← Img.one_hot, ite_ind]
  congr 1
  refine ind_congr ?_
  rw [Bool.and_eq_true, decide_eq_true_eq, decide_eq_true_eq, zero_lt_ind]

end Assigned

end Cert.KernelIdeal.Read
-- ==== Proof.RefLevels.lean ====
/- The reference's three levels, laid end to end, read cell by cell: class scores, bin logits, decoded boxes and cell centres. -/
module

public import proofs.«01_k».proof.Proof.Geo
public import proofs.«01_k».proof.Proof.Assign
public import proofs.«01_k».proof.Proof.KernelWords
public import proofs.«01_k».proof.Proof.KernelRead
public import proofs.«01_k».proof.Proof.Gen.ReferenceIdeal.Read
public import Idealize.ShloMosaic.Lib.Pointwise

@[expose] public section

set_option maxRecDepth 16384

noncomputable section

/-! ## The decoding of a side, in real numbers -/

namespace Cert.Loss

open Idealize.ShloMosaic Cert.TopTen

/-- The greatest of real numbers is one. -/
theorem top_real (r : Fin 16 → ℝ) : ∃ M : ℝ, top (fun b => (r b : EReal)) = M := by
  obtain ⟨b, hb⟩ := top_mem (fun b => (r b : EReal))
  exact ⟨r b, hb.symm⟩

/-- A sum of exponentials, shifted. -/
theorem sum_exp_shift (r : Fin 16 → ℝ) (M : ℝ) : ∑ b, Real.exp (r b - M) = (∑ b, Real.exp (r b)) * Real.exp (-M) := by
  rw [Finset.sum_mul]
  exact Finset.sum_congr rfl fun b _ => by rw [← Real.exp_add, sub_eq_add_neg]

theorem exp_sum_pos (r : Fin 16 → ℝ) : 0 < ∑ b, Real.exp (r b) :=
  Finset.sum_pos (fun b _ => Real.exp_pos _) ⟨0, Finset.mem_univ _⟩

/-- The averaged bin, with the exponentials shifted by the greatest logit. -/
theorem decode {d : Fin 16 → EReal} (r : Fin 16 → ℝ) (hd : ∀ b, d b = r b) {w : EReal} (S : ℝ) (hw : w = S) :
    (∑ x : Fin 16, Ideal.div (Ideal.exp (d x - Finset.fold max (Ideal.ofBits FTy.f32 4286578688#32) (fun x => d x) Finset.univ))
        (∑ x : Fin 16, Ideal.exp (d x - Finset.fold max (Ideal.ofBits FTy.f32 4286578688#32) (fun x => d x) Finset.univ))
      * FloatOps.sitofp (F := Ideal) FTy.f32 (BitVec.ofNat 32 x.val)) * w
    = (((∑ b : Fin 16, (b : ℝ) * Real.exp (r b)) / (∑ b, Real.exp (r b)) * S : ℝ) : EReal) := by
  obtain ⟨M, hM⟩ := top_real r
  have hd' : d = fun b => (r b : EReal) := funext hd
  subst hd'
  have hf : Finset.fold max (Ideal.ofBits FTy.f32 4286578688#32) (fun x => (r x : EReal)) Finset.univ = M := by
    rw [bot_word]; exact hM
  rw [hf, hw]
  have he : ∀ x, Ideal.exp ((r x : EReal) - M) = ((Real.exp (r x - M) : ℝ) : EReal) := fun x => by
    rw [← EReal.coe_sub, Ideal.exp_coe]
  have hp : 0 < ∑ b, Real.exp (r b - M) := exp_sum_pos fun b => r b - M
  have ht : ∀ x : Fin 16, Ideal.div ((Real.exp (r x - M) : ℝ) : EReal) ((∑ b, Real.exp (r b - M) : ℝ) : EReal)
      * FloatOps.sitofp (F := Ideal) FTy.f32 (BitVec.ofNat 32 x.val) = ((Real.exp (r x - M) / (∑ b, Real.exp (r b - M)) * (x : ℝ) : ℝ) : EReal) := fun x => by
    rw [sitofp_ofNat _ (by omega), Ideal.div_coe hp.ne', ← EReal.coe_mul, ← EReal.coe_mul, one_div, div_eq_mul_inv]
  simp only [he, sum_coe, ht]
  rw [← EReal.coe_mul]
  congr 2
  rw [sum_exp_shift, Finset.sum_div]
  refine Finset.sum_congr rfl fun x _ => ?_
  have h1 := Real.exp_pos (-M)
  have h2 := exp_sum_pos r
  rw [sub_eq_add_neg, Real.exp_add]
  field_simp

/-- A centre's coordinate. -/
theorem centre {w : EReal} (s h n m : ℕ) (hn : n < 2 ^ 31) (hw : w = ((s : ℝ) : EReal)) (h2 : 2 * h = s) (hm : m = s * n + h) :
    (FloatOps.sitofp (F := Ideal) FTy.f32 (BitVec.ofNat 32 n) + Ideal.ofBits FTy.f32 1056964608#32) * w = ((m : ℝ) : EReal) := by
  have hh : Ideal.ofBits FTy.f32 1056964608#32 = (((1 : ℝ) / 2 : ℝ) : EReal) := by
    simp [Ideal.ofBits, Ideal.ieee, -EReal.coe_mul]; norm_num
  rw [sitofp_ofNat _ hn, hh, hw, ← EReal.coe_add, ← EReal.coe_mul, hm, ← h2]
  congr 1
  push_cast
  ring

end Cert.Loss

namespace Cert.ReferenceIdeal.Read

open Idealize.ShloMosaic Idealize.ShloMosaic.Tactic Cert.Loss Cert.TopTen

variable (x0 : S8x144x64x64.Idx → EReal) (x1 : S8x144x32x32.Idx → EReal) (x2 : S8x144x16x16.Idx → EReal)
  (x3 : S8x20x4.Idx → EReal) (x4 : S8x20.Idx → BitVec 32) (i : Fin 8)

/-- The image that the arguments hold. -/
def pic : Img :=
  img (fun k y x => x0 (ix4 i k y x)) (fun k y x => x1 (ix4 i k y x)) (fun k y x => x2 (ix4 i k y x)) (fun g k => x3 (ix3 i g k))
    (fun g => x4 (ix2 i g))

/-- What is asked of the arguments: real predictions, labels that are classes. -/
structure Fine : Prop where
  p0 : ∀ i k y x, IsReal (x0 (ix4 (i : Fin 8) (k : Fin 144) (y : Fin 64) (x : Fin 64)))
  p1 : ∀ i k y x, IsReal (x1 (ix4 (i : Fin 8) (k : Fin 144) (y : Fin 32) (x : Fin 32)))
  p2 : ∀ i k y x, IsReal (x2 (ix4 (i : Fin 8) (k : Fin 144) (y : Fin 16) (x : Fin 16)))
  lab : ∀ i g, (x4 (ix2 (i : Fin 8) (g : Fin 20))).toNat < 80

variable {x0 x1 x2 x4}

theorem bin_lt (s : Fin 4) (b : Fin 16) : s.val * 16 + b.val < 144 := by omega

/-! ## Level by level -/

theorem bins0 (j : Fin 4096) (s : Fin 4) (b : Fin 16) : val_main_v19 (F := Ideal) x0 (ix4 i j s b)
    = x0 (ix4 i ⟨s.val * 16 + b.val, bin_lt s b⟩ ⟨j.val / 64, by omega⟩ ⟨j.val % 64, by omega⟩) := by
  pointwise [val_main_v19, val_main_v18, val_main_v0]
theorem score0 (j : Fin 4096) (k : Fin 80) : val_main_v64 (F := Ideal) x0 (ix3 i j k)
    = x0 (ix4 i ⟨64 + k.val, by omega⟩ ⟨j.val / 64, by omega⟩ ⟨j.val % 64, by omega⟩) := by
  pointwise [val_main_v64, val_main_v63, val_main_v1]
theorem dist0 (j : Fin 4096) (s : Fin 4) (r : Fin 16 → ℝ) (h : ∀ b, val_main_v19 (F := Ideal) x0 (ix4 i j s b) = r b) :
    val_main_v35 (F := Ideal) x0 (ix3 i j s) = (((∑ b : Fin 16, (b : ℝ) * Real.exp (r b)) / (∑ b, Real.exp (r b)) * (8 : ℕ) : ℝ) : EReal) := by
  pointwise [val_main_v35, val_main_v34, val_main_v33, val_main_v32, val_main_v31, val_main_v30, val_main_v29, val_main_v28, val_main_v27, val_main_v26, val_main_v25, val_main_v24, val_main_v23, val_main_v22, val_main_v21, val_main_v20, val_main_cst_3, val_main_cst_4, val_main_cst_5, val_main_cst_6]
  exact decode r h _ (ofBits_of_isWord (by decide))
theorem cxs0 (j : Fin 4096) : val_main_v17 (F := Ideal) (ix2 j 0) = (((8 * (j.val % 64) + 4 : ℕ) : ℝ) : EReal) := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_cst, val_main_cst_0, val_main_cst_1, val_main_cst_2]
  exact centre 8 4 _ _ (by omega) (ofBits_of_isWord (by decide)) rfl rfl
theorem cys0 (j : Fin 4096) : val_main_v17 (F := Ideal) (ix2 j 1) = (((8 * (j.val / 64) + 4 : ℕ) : ℝ) : EReal) := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_cst, val_main_cst_0, val_main_cst_1, val_main_cst_2]
  exact centre 8 4 _ _ (by omega) (ofBits_of_isWord (by decide)) rfl rfl
theorem corner0_0 (j : Fin 4096) : val_main_v62 (F := Ideal) x0 (ix3 i j 0) = val_main_v17 (F := Ideal) (ix2 j 0) - val_main_v35 (F := Ideal) x0 (ix3 i j 0) := by
  pointwise [val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36]
theorem corner0_1 (j : Fin 4096) : val_main_v62 (F := Ideal) x0 (ix3 i j 1) = val_main_v17 (F := Ideal) (ix2 j 1) - val_main_v35 (F := Ideal) x0 (ix3 i j 1) := by
  pointwise [val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36]
theorem corner0_2 (j : Fin 4096) : val_main_v62 (F := Ideal) x0 (ix3 i j 2) = val_main_v17 (F := Ideal) (ix2 j 0) + val_main_v35 (F := Ideal) x0 (ix3 i j 2) := by
  pointwise [val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36]
theorem corner0_3 (j : Fin 4096) : val_main_v62 (F := Ideal) x0 (ix3 i j 3) = val_main_v17 (F := Ideal) (ix2 j 1) + val_main_v35 (F := Ideal) x0 (ix3 i j 3) := by
  pointwise [val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36]

theorem bins1 (j : Fin 1024) (s : Fin 4) (b : Fin 16) : val_main_v84 (F := Ideal) x1 (ix4 i j s b)
    = x1 (ix4 i ⟨s.val * 16 + b.val, bin_lt s b⟩ ⟨j.val / 32, by omega⟩ ⟨j.val % 32, by omega⟩) := by
  pointwise [val_main_v84, val_main_v83, val_main_v65]
theorem score1 (j : Fin 1024) (k : Fin 80) : val_main_v129 (F := Ideal) x1 (ix3 i j k)
    = x1 (ix4 i ⟨64 + k.val, by omega⟩ ⟨j.val / 32, by omega⟩ ⟨j.val % 32, by omega⟩) := by
  pointwise [val_main_v129, val_main_v128, val_main_v66]
theorem dist1 (j : Fin 1024) (s : Fin 4) (r : Fin 16 → ℝ) (h : ∀ b, val_main_v84 (F := Ideal) x1 (ix4 i j s b) = r b) :
    val_main_v100 (F := Ideal) x1 (ix3 i j s) = (((∑ b : Fin 16, (b : ℝ) * Real.exp (r b)) / (∑ b, Real.exp (r b)) * (16 : ℕ) : ℝ) : EReal) := by
  pointwise [val_main_v100, val_main_v99, val_main_v98, val_main_v97, val_main_v96, val_main_v95, val_main_v94, val_main_v93, val_main_v92, val_main_v91, val_main_v90, val_main_v89, val_main_v88, val_main_v87, val_main_v86, val_main_v85, val_main_cst_11, val_main_cst_12, val_main_cst_13, val_main_cst_14]
  exact decode r h _ (ofBits_of_isWord (by decide))
theorem cxs1 (j : Fin 1024) : val_main_v82 (F := Ideal) (ix2 j 0) = (((16 * (j.val % 32) + 8 : ℕ) : ℝ) : EReal) := by
  pointwise [val_main_v82, val_main_v81, val_main_v80, val_main_v79, val_main_v78, val_main_v77, val_main_v76, val_main_v75, val_main_v74, val_main_v73, val_main_v72, val_main_v71, val_main_v70, val_main_v69, val_main_v68, val_main_v67, val_main_cst_7, val_main_cst_8, val_main_cst_9, val_main_cst_10]
  exact centre 16 8 _ _ (by omega) (ofBits_of_isWord (by decide)) rfl rfl
theorem cys1 (j : Fin 1024) : val_main_v82 (F := Ideal) (ix2 j 1) = (((16 * (j.val / 32) + 8 : ℕ) : ℝ) : EReal) := by
  pointwise [val_main_v82, val_main_v81, val_main_v80, val_main_v79, val_main_v78, val_main_v77, val_main_v76, val_main_v75, val_main_v74, val_main_v73, val_main_v72, val_main_v71, val_main_v70, val_main_v69, val_main_v68, val_main_v67, val_main_cst_7, val_main_cst_8, val_main_cst_9, val_main_cst_10]
  exact centre 16 8 _ _ (by omega) (ofBits_of_isWord (by decide)) rfl rfl
theorem corner1_0 (j : Fin 1024) : val_main_v127 (F := Ideal) x1 (ix3 i j 0) = val_main_v82 (F := Ideal) (ix2 j 0) - val_main_v100 (F := Ideal) x1 (ix3 i j 0) := by
  pointwise [val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101]
theorem corner1_1 (j : Fin 1024) : val_main_v127 (F := Ideal) x1 (ix3 i j 1) = val_main_v82 (F := Ideal) (ix2 j 1) - val_main_v100 (F := Ideal) x1 (ix3 i j 1) := by
  pointwise [val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101]
theorem corner1_2 (j : Fin 1024) : val_main_v127 (F := Ideal) x1 (ix3 i j 2) = val_main_v82 (F := Ideal) (ix2 j 0) + val_main_v100 (F := Ideal) x1 (ix3 i j 2) := by
  pointwise [val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101]
theorem corner1_3 (j : Fin 1024) : val_main_v127 (F := Ideal) x1 (ix3 i j 3) = val_main_v82 (F := Ideal) (ix2 j 1) + val_main_v100 (F := Ideal) x1 (ix3 i j 3) := by
  pointwise [val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101]

theorem bins2 (j : Fin 256) (s : Fin 4) (b : Fin 16) : val_main_v149 (F := Ideal) x2 (ix4 i j s b)
    = x2 (ix4 i ⟨s.val * 16 + b.val, bin_lt s b⟩ ⟨j.val / 16, by omega⟩ ⟨j.val % 16, by omega⟩) := by
  pointwise [val_main_v149, val_main_v148, val_main_v130]
theorem score2 (j : Fin 256) (k : Fin 80) : val_main_v194 (F := Ideal) x2 (ix3 i j k)
    = x2 (ix4 i ⟨64 + k.val, by omega⟩ ⟨j.val / 16, by omega⟩ ⟨j.val % 16, by omega⟩) := by
  pointwise [val_main_v194, val_main_v193, val_main_v131]
theorem dist2 (j : Fin 256) (s : Fin 4) (r : Fin 16 → ℝ) (h : ∀ b, val_main_v149 (F := Ideal) x2 (ix4 i j s b) = r b) :
    val_main_v165 (F := Ideal) x2 (ix3 i j s) = (((∑ b : Fin 16, (b : ℝ) * Real.exp (r b)) / (∑ b, Real.exp (r b)) * (32 : ℕ) : ℝ) : EReal) := by
  pointwise [val_main_v165, val_main_v164, val_main_v163, val_main_v162, val_main_v161, val_main_v160, val_main_v159, val_main_v158, val_main_v157, val_main_v156, val_main_v155, val_main_v154, val_main_v153, val_main_v152, val_main_v151, val_main_v150, val_main_cst_19, val_main_cst_20, val_main_cst_21, val_main_cst_22]
  exact decode r h _ (ofBits_of_isWord (by decide))
theorem cxs2 (j : Fin 256) : val_main_v147 (F := Ideal) (ix2 j 0) = (((32 * (j.val % 16) + 16 : ℕ) : ℝ) : EReal) := by
  pointwise [val_main_v147, val_main_v146, val_main_v145, val_main_v144, val_main_v143, val_main_v142, val_main_v141, val_main_v140, val_main_v139, val_main_v138, val_main_v137, val_main_v136, val_main_v135, val_main_v134, val_main_v133, val_main_v132, val_main_cst_15, val_main_cst_16, val_main_cst_17, val_main_cst_18]
  exact centre 32 16 _ _ (by omega) (ofBits_of_isWord (by decide)) rfl rfl
theorem cys2 (j : Fin 256) : val_main_v147 (F := Ideal) (ix2 j 1) = (((32 * (j.val / 16) + 16 : ℕ) : ℝ) : EReal) := by
  pointwise [val_main_v147, val_main_v146, val_main_v145, val_main_v144, val_main_v143, val_main_v142, val_main_v141, val_main_v140, val_main_v139, val_main_v138, val_main_v137, val_main_v136, val_main_v135, val_main_v134, val_main_v133, val_main_v132, val_main_cst_15, val_main_cst_16, val_main_cst_17, val_main_cst_18]
  exact centre 32 16 _ _ (by omega) (ofBits_of_isWord (by decide)) rfl rfl
theorem corner2_0 (j : Fin 256) : val_main_v192 (F := Ideal) x2 (ix3 i j 0) = val_main_v147 (F := Ideal) (ix2 j 0) - val_main_v165 (F := Ideal) x2 (ix3 i j 0) := by
  pointwise [val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166]
theorem corner2_1 (j : Fin 256) : val_main_v192 (F := Ideal) x2 (ix3 i j 1) = val_main_v147 (F := Ideal) (ix2 j 1) - val_main_v165 (F := Ideal) x2 (ix3 i j 1) := by
  pointwise [val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166]
theorem corner2_2 (j : Fin 256) : val_main_v192 (F := Ideal) x2 (ix3 i j 2) = val_main_v147 (F := Ideal) (ix2 j 0) + val_main_v165 (F := Ideal) x2 (ix3 i j 2) := by
  pointwise [val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166]
theorem corner2_3 (j : Fin 256) : val_main_v192 (F := Ideal) x2 (ix3 i j 3) = val_main_v147 (F := Ideal) (ix2 j 1) + val_main_v165 (F := Ideal) x2 (ix3 i j 3) := by
  pointwise [val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166]

end Cert.ReferenceIdeal.Read
-- ==== Proof.RefCells.lean ====
/- The reference's arrays over all cells: scores, bin logits, boxes and centres. -/
module

public import proofs.«01_k».proof.Proof.RefLevels

@[expose] public section

set_option maxRecDepth 16384

noncomputable section

namespace Cert.ReferenceIdeal.Read

open Idealize.ShloMosaic Idealize.ShloMosaic.Tactic Cert.Loss Cert.TopTen

variable {x0 : S8x144x64x64.Idx → EReal} {x1 : S8x144x32x32.Idx → EReal} {x2 : S8x144x16x16.Idx → EReal}
  {x3 : S8x20x4.Idx → EReal} {x4 : S8x20.Idx → BitVec 32} {i : Fin 8} (hx : Fine x0 x1 x2 x4)

/-- A cell's channel. -/
abbrev chanOf (x0 : S8x144x64x64.Idx → EReal) (x1 : S8x144x32x32.Idx → EReal) (x2 : S8x144x16x16.Idx → EReal) (i : Fin 8) :=
  chan (fun k y x => x0 (ix4 i k y x)) (fun k y x => x1 (ix4 i k y x)) (fun k y x => x2 (ix4 i k y x))

theorem scores_chan (a : Fin 5376) (c : Fin 80) :
    val_main_v195 (F := Ideal) x0 x1 x2 (ix3 i a c) = chanOf x0 x1 x2 i ⟨64 + c.val, by omega⟩ a := by
  pointwise [val_main_v195]
  unfold chanOf chan
  simp only [score0, score1, score2]
theorem logits_chan (a : Fin 5376) (s : Fin 4) (b : Fin 16) :
    val_main_v196 (F := Ideal) x0 x1 x2 (ix4 i a s b) = chanOf x0 x1 x2 i ⟨s.val * 16 + b.val, bin_lt s b⟩ a := by
  pointwise [val_main_v196]
  unfold chanOf chan
  simp only [bins0, bins1, bins2]

include hx in
theorem scores_eq (a : Fin 5376) (c : Fin 80) :
    val_main_v195 (F := Ideal) x0 x1 x2 (ix3 i a c) = ((pic x0 x1 x2 x3 x4 i).X a c : EReal) := by
  rw [scores_chan]
  exact (chan_real (hx.p0 i) (hx.p1 i) (hx.p2 i) _ _).coe.symm
include hx in
theorem logits_eq (a : Fin 5376) (s : Fin 4) (b : Fin 16) :
    val_main_v196 (F := Ideal) x0 x1 x2 (ix4 i a s b) = ((pic x0 x1 x2 x3 x4 i).D a s b : EReal) := by
  rw [logits_chan]
  have e : (⟨s.val * 16 + b.val, bin_lt s b⟩ : Fin 144) = ⟨16 * s.val + b.val, by omega⟩ := Fin.ext (congrArg (· + b.val) (Nat.mul_comm s.val 16))
  rw [e]
  exact (chan_real (hx.p0 i) (hx.p1 i) (hx.p2 i) _ _).coe.symm

/-- The reference's decoded distance, of the level of a cell. -/
theorem dist_0 (a : Fin 5376) (h : a.val < 4096) (s : Fin 4) (hx : Fine x0 x1 x2 x4) :
    val_main_v35 (F := Ideal) x0 (ix3 i ⟨a.val, h⟩ s) = ((pic x0 x1 x2 x3 x4 i).dist a s : EReal) := by
  refine (dist0 i ⟨a.val, h⟩ s (fun b => (pic x0 x1 x2 x3 x4 i).D a s b) fun b => ?_).trans ?_
  · rw [← logits_eq hx]
    pointwise [val_main_v196]
    rw [dif_pos h]
  · unfold Img.dist Img.se pic img stN
    simp only [h, if_true]
theorem dist_1 (a : Fin 5376) (h : ¬a.val < 4096) (h' : a.val - 4096 < 1024) (s : Fin 4) (hx : Fine x0 x1 x2 x4) :
    val_main_v100 (F := Ideal) x1 (ix3 i ⟨a.val - 4096, h'⟩ s) = ((pic x0 x1 x2 x3 x4 i).dist a s : EReal) := by
  refine (dist1 i ⟨a.val - 4096, h'⟩ s (fun b => (pic x0 x1 x2 x3 x4 i).D a s b) fun b => ?_).trans ?_
  · rw [← logits_eq hx]
    pointwise [val_main_v196]
    rw [dif_neg h, dif_pos h']
  · unfold Img.dist Img.se pic img stN
    simp only [h, if_false, show a.val < 5120 by omega, if_true]
theorem dist_2 (a : Fin 5376) (h : ¬a.val < 4096) (h' : ¬a.val - 4096 < 1024) (h'' : a.val - 4096 - 1024 < 256) (s : Fin 4) (hx : Fine x0 x1 x2 x4) :
    val_main_v165 (F := Ideal) x2 (ix3 i ⟨a.val - 4096 - 1024, h''⟩ s) = ((pic x0 x1 x2 x3 x4 i).dist a s : EReal) := by
  refine (dist2 i ⟨a.val - 4096 - 1024, h''⟩ s (fun b => (pic x0 x1 x2 x3 x4 i).D a s b) fun b => ?_).trans ?_
  · rw [← logits_eq hx]
    pointwise [val_main_v196]
    rw [dif_neg h, dif_neg h']
  · unfold Img.dist Img.se pic img stN
    simp only [h, if_false, show ¬a.val < 5120 by omega]

/-- The centres. -/
theorem cx_eq (a : Fin 5376) : val_main_v198 (F := Ideal) (ix2 a 0) = ((pic x0 x1 x2 x3 x4 i).cx a : EReal) := by
  pointwise [val_main_v198]
  unfold pic img cxN
  simp only [cxs0, cxs1, cxs2]
  split
  · rfl
  · split
    · rw [if_pos (by omega)]
    · rw [if_neg (by omega), Nat.sub_sub]
theorem cy_eq (a : Fin 5376) : val_main_v198 (F := Ideal) (ix2 a 1) = ((pic x0 x1 x2 x3 x4 i).cy a : EReal) := by
  pointwise [val_main_v198]
  unfold pic img cyN
  simp only [cys0, cys1, cys2]
  split
  · rfl
  · split
    · rw [if_pos (by omega)]
    · rw [if_neg (by omega), Nat.sub_sub]

include hx in
theorem x1_eq (a : Fin 5376) : val_main_v197 (F := Ideal) x0 x1 x2 (ix3 i a 0) = ((pic x0 x1 x2 x3 x4 i).x1 a : EReal) := by
  unfold Img.x1
  rw [EReal.coe_sub, ← cx_eq]
  pointwise [val_main_v197, val_main_v198]
  simp only [corner0_0, corner1_0, corner2_0]
  split
  · rename_i h
    rw [dist_0 (x3 := x3) a h 0 hx]
  · rename_i h
    split
    · rename_i h'
      rw [dist_1 (x3 := x3) a h h' 0 hx]
    · rename_i h'
      rw [dist_2 (x3 := x3) a h h' (by omega) 0 hx]
include hx in
theorem y1_eq (a : Fin 5376) : val_main_v197 (F := Ideal) x0 x1 x2 (ix3 i a 1) = ((pic x0 x1 x2 x3 x4 i).y1 a : EReal) := by
  unfold Img.y1
  rw [EReal.coe_sub, ← cy_eq]
  pointwise [val_main_v197, val_main_v198]
  simp only [corner0_1, corner1_1, corner2_1]
  split
  · rename_i h
    rw [dist_0 (x3 := x3) a h 1 hx]
  · rename_i h
    split
    · rename_i h'
      rw [dist_1 (x3 := x3) a h h' 1 hx]
    · rename_i h'
      rw [dist_2 (x3 := x3) a h h' (by omega) 1 hx]
include hx in
theorem x2_eq (a : Fin 5376) : val_main_v197 (F := Ideal) x0 x1 x2 (ix3 i a 2) = ((pic x0 x1 x2 x3 x4 i).x2 a : EReal) := by
  unfold Img.x2
  rw [EReal.coe_add, ← cx_eq]
  pointwise [val_main_v197, val_main_v198]
  simp only [corner0_2, corner1_2, corner2_2]
  split
  · rename_i h
    rw [dist_0 (x3 := x3) a h 2 hx]
  · rename_i h
    split
    · rename_i h'
      rw [dist_1 (x3 := x3) a h h' 2 hx]
    · rename_i h'
      rw [dist_2 (x3 := x3) a h h' (by omega) 2 hx]
include hx in
theorem y2_eq (a : Fin 5376) : val_main_v197 (F := Ideal) x0 x1 x2 (ix3 i a 3) = ((pic x0 x1 x2 x3 x4 i).y2 a : EReal) := by
  unfold Img.y2
  rw [EReal.coe_add, ← cy_eq]
  pointwise [val_main_v197, val_main_v198]
  simp only [corner0_3, corner1_3, corner2_3]
  split
  · rename_i h
    rw [dist_0 (x3 := x3) a h 3 hx]
  · rename_i h
    split
    · rename_i h'
      rw [dist_1 (x3 := x3) a h h' 3 hx]
    · rename_i h'
      rw [dist_2 (x3 := x3) a h h' (by omega) 3 hx]

end Cert.ReferenceIdeal.Read
-- ==== Proof.RefOps.lean ====
/- The reference's operations that move data by value: its top-k, its gathers, its first index of the greatest. -/
module

public import proofs.«01_k».proof.Proof.RefCells
public import Idealize.ShloMosaic.Lib.WordCmp
public import Idealize.ShloMosaic.Lib.Pipeline.Value

@[expose] public section

set_option maxRecDepth 16384

noncomputable section

namespace Cert.ReferenceIdeal.Read

open Idealize.ShloMosaic Idealize.ShloMosaic.Tactic Cert.Loss Cert.TopTen

theorem uitofp_bool (b : Bool) : FloatOps.uitofp (F := Ideal) .f32 (BitVec.ofBool b) = ind (b = true) := by
  cases b
  · rw [ind_neg (by decide)]; simp [FloatOps.uitofp]
  · rw [ind_pos rfl]; simp [FloatOps.uitofp]
theorem uitofp_decide (p : Prop) [Decidable p] : FloatOps.uitofp (F := Ideal) .f32 (BitVec.ofBool (decide p)) = ind p := by
  rw [uitofp_bool]
  exact ind_congr (decide_eq_true_iff)
theorem cmpi_eq_bool {w : Nat} (x y : BitVec w) : IntOp.cmpi .eq x y = BitVec.ofBool (decide (x = y)) := by
  unfold IntOp.cmpi
  congr 1
theorem ofNat_inj {x y : ℕ} (hx : x < 2 ^ 32) (hy : y < 2 ^ 32) : BitVec.ofNat 32 x = BitVec.ofNat 32 y ↔ x = y := by
  constructor
  · intro h
    have := congrArg BitVec.toNat h
    rwa [BitVec.toNat_ofNat, BitVec.toNat_ofNat, Nat.mod_eq_of_lt hx, Nat.mod_eq_of_lt hy] at this
  · rintro rfl; rfl
theorem cmpi_ofNat {x y : ℕ} (hx : x < 2 ^ 32) (hy : y < 2 ^ 32) :
    IntOp.cmpi .eq (BitVec.ofNat 32 x) (BitVec.ofNat 32 y) = BitVec.ofBool (decide (x = y)) := by
  rw [cmpi_eq_bool]
  simp only [ofNat_inj hx hy]

theorem along_eq {N : ℕ} (i : Fin 8) (g : Fin 20) (r : Fin N) (h : 2 < Shape.rank ⟨3, ![8, 20, N]⟩) (k : Fin N) :
    Shape.Idx.along (s := ⟨3, ![8, 20, N]⟩) (ix3 i g r) ⟨2, h⟩ k = ix3 i g k := by
  funext e; match e with | ⟨0, _⟩ => rfl | ⟨1, _⟩ => rfl | ⟨2, _⟩ => rfl
theorem gt_eq (x y : EReal) : (FloatOps.cmpfTotal (F := Ideal) (φ := .f32) .gt x y == 1#1) = decide (y < x) := by
  show (BitVec.ofBool (decide (y < x)) == 1#1) = _
  by_cases h : y < x <;> simp [h]

/-- The sorted line: the entries and what is sorted along with them. -/
theorem sort2_eq {N : ℕ} (f : (Shape.Idx ⟨3, ![8, 20, N]⟩) → EReal) (y : (Shape.Idx ⟨3, ![8, 20, N]⟩) → BitVec 32) (i : Fin 8) (g : Fin 20) (r : Fin N) :
    (Host.sort2 ⟨3, ![8, 20, N]⟩ 2 (fun l r : EReal × BitVec 32 => FloatOps.cmpfTotal (F := Ideal) (φ := .f32) .gt l.1 r.1) f y).1
        (ix3 i g r) = f (ix3 i g (order (fun a => f (ix3 i g a)) r)) ∧
      (Host.sort2 ⟨3, ![8, 20, N]⟩ 2 (fun l r : EReal × BitVec 32 => FloatOps.cmpfTotal (F := Ideal) (φ := .f32) .gt l.1 r.1) f y).2
        (ix3 i g r) = y (ix3 i g (order (fun a => f (ix3 i g a)) r)) := by
  have h2 : 2 < Shape.rank ⟨3, ![8, 20, N]⟩ := Nat.lt_succ_self 2
  have e : (fun k k' : Fin N => FloatOps.cmpfTotal (F := Ideal) (φ := .f32) .gt
      (f (Shape.Idx.along (s := ⟨3, ![8, 20, N]⟩) (ix3 i g r) ⟨2, h2⟩ k))
      (f (Shape.Idx.along (s := ⟨3, ![8, 20, N]⟩) (ix3 i g r) ⟨2, h2⟩ k')) == 1#1)
      = fun k k' => decide (f (ix3 i g k') < f (ix3 i g k)) := by
    funext k k'
    rw [along_eq, along_eq, gt_eq]
  unfold order
  rw [← e]
  unfold Host.sort2
  rw [dif_pos h2]
  dsimp only
  constructor
  · exact congrArg f (along_eq _ _ _ _ _)
  · exact congrArg y (along_eq _ _ _ _ _)

/-- The sorted line's place `r`: the entry and its place. -/
theorem topK_eq {N K : ℕ} (hK : K ≤ N) (f : (Shape.Idx ⟨3, ![8, 20, N]⟩) → EReal) (hs : Shape.Slices ⟨3, ![8, 20, N]⟩ (fun _ => 0) ⟨3, ![8, 20, K]⟩)
    (i : Fin 8) (g : Fin 20) (r : Fin K) :
    (Host.topK ⟨3, ![8, 20, K]⟩ 2 (FloatOps.cmpfTotal (F := Ideal) (φ := .f32) .gt) f hs).1 (ix3 i g r)
        = f (ix3 i g (order (fun a => f (ix3 i g a)) (r.castLE hK))) ∧
      (Host.topK ⟨3, ![8, 20, K]⟩ 2 (FloatOps.cmpfTotal (F := Ideal) (φ := .f32) .gt) f hs).2 (ix3 i g r)
        = BitVec.ofNat 32 (order (fun a => f (ix3 i g a)) (r.castLE hK)).val := by
  have hcut : ∀ e : Fin 3, ((ix3 i g (r.castLE hK) : (Shape.Idx ⟨3, ![8, 20, N]⟩)) e).val = 0 + ((ix3 i g r : Shape.Idx ⟨3, ![8, 20, K]⟩) e).val := fun e => by
    rw [Nat.zero_add]; match e with | ⟨0, _⟩ => rfl | ⟨1, _⟩ => rfl | ⟨2, _⟩ => rfl
  unfold Host.topK
  dsimp only
  rw [extractStridedSlice_apply (fun _ => 0) _ hs _ (ix3 i g (r.castLE hK)) hcut,
    extractStridedSlice_apply (fun _ => 0) _ hs _ (ix3 i g (r.castLE hK)) hcut]
  refine ⟨(sort2_eq f _ i g (r.castLE hK)).1, (sort2_eq f _ i g (r.castLE hK)).2.trans ?_⟩
  rfl

theorem gather_scores {α : Type} (x : S8x5376x80.Idx → α) (idx : IVec S8x20x1 32) (i : Fin 8) (g : Fin 20) (a : Fin 5376)
    (L : Fin 80) (h : idx (ix3 i g (0 : Fin 1)) = BitVec.ofNat 32 L.val) :
    Host.gather gather_S8x5376x80_S8x20x1_S8x5376x20_1_2_0_0_2_2_153761 x idx (ix3 i a g) = x (ix3 i a L) := by
  unfold Host.gather
  refine congrArg x (funext fun e => Fin.ext ?_)
  match e with
  | ⟨0, _⟩ => exact Nat.zero_add i.val
  | ⟨1, _⟩ => exact Nat.zero_add a.val
  | ⟨2, _⟩ =>
    show min (idx _).toInt.toNat (80 - 1) + 0 + 0 = L.val
    rw [show GatherDims.siIdx _ _ _ = ix3 i g (0 : Fin 1) from by funext b; match b with | ⟨0, _⟩ => rfl | ⟨1, _⟩ => rfl | ⟨2, _⟩ => rfl,
      h, WordCmp.toInt_ofNat_of_lt (w := 32) (by omega), Int.toNat_natCast]
    omega

theorem gather_boxes {α : Type} (x : S8x20x4.Idx → α) (idx : IVec S8x5376x1 32) (i : Fin 8) (a : Fin 5376) (k : Fin 4)
    (g : Fin 20) (h : idx (ix3 i a (0 : Fin 1)) = BitVec.ofNat 32 g.val) :
    Host.gather gather_S8x20x4_S8x5376x1_S8x5376x4_2_1_0_0_1_2_114 x idx (ix3 i a k) = x (ix3 i g k) := by
  unfold Host.gather
  refine congrArg x (funext fun e => Fin.ext ?_)
  match e with
  | ⟨0, _⟩ => exact (Nat.zero_add (i.val))
  | ⟨1, _⟩ =>
    show min (idx _).toInt.toNat (20 - 1) + 0 + 0 = g.val
    rw [show GatherDims.siIdx _ _ _ = ix3 i a (0 : Fin 1) from by funext b; match b with | ⟨0, _⟩ => rfl | ⟨1, _⟩ => rfl | ⟨2, _⟩ => rfl,
      h, WordCmp.toInt_ofNat_of_lt (w := 32) (by omega), Int.toNat_natCast]
    omega
  | ⟨2, _⟩ => exact Nat.zero_add k.val

theorem gather_labels {α : Type} (x : S8x20.Idx → α) (idx : IVec S8x5376x1 32) (i : Fin 8) (a : Fin 5376)
    (g : Fin 20) (h : idx (ix3 i a (0 : Fin 1)) = BitVec.ofNat 32 g.val) :
    Host.gather gather_S8x20_S8x5376x1_S8x5376_n_1_0_0_1_2_11 x idx (ix2 i a) = x (ix2 i g) := by
  unfold Host.gather
  refine congrArg x (funext fun e => Fin.ext ?_)
  match e with
  | ⟨0, _⟩ => exact (Nat.zero_add (i.val))
  | ⟨1, _⟩ =>
    show min (idx _).toInt.toNat (20 - 1) + 0 + 0 = g.val
    rw [show GatherDims.siIdx _ _ _ = ix3 i a (0 : Fin 1) from by funext b; match b with | ⟨0, _⟩ => rfl | ⟨1, _⟩ => rfl | ⟨2, _⟩ => rfl,
      h, WordCmp.toInt_ofNat_of_lt (w := 32) (by omega), Int.toNat_natCast]
    omega

theorem toInt_minsi (x y : BitVec 32) : (IntOp.minsi x y).toInt = min x.toInt y.toInt := by
  unfold IntOp.minsi
  split <;> rename_i h <;> simp [BitVec.slt] at h <;> omega

/-- The least index where a statement holds, as the minimum of indices. -/
theorem first_fold (f : Fin 20 → BitVec 32) (P : Fin 20 → Prop) (hf : ∀ k, P k → f k = BitVec.ofNat 32 k.val)
    (hf' : ∀ k, ¬P k → f k = 20#32) (g : Fin 20) (hg : P g) (hmin : ∀ k < g, ¬P k) :
    Finset.fold IntOp.minsi (2147483647#32) f Finset.univ = BitVec.ofNat 32 g.val := by
  have hv : ∀ k : Fin 20, (BitVec.ofNat 32 k.val).toInt = k.val := fun k => WordCmp.toInt_ofNat_of_lt (w := 32) (by omega)
  apply BitVec.eq_of_toInt_eq
  rw [← Finset.fold_hom (op' := min) (m := BitVec.toInt) toInt_minsi, hv]
  apply le_antisymm
  · rw [Finset.fold_min_le]
    exact Or.inr ⟨g, Finset.mem_univ _, by rw [hf g hg, hv]⟩
  · rw [Finset.le_fold_min]
    have hM : (2147483647#32 : BitVec 32).toInt = 2147483647 := by decide
    have hg := g.isLt
    rw [hM]
    refine ⟨by omega, fun k _ => ?_⟩
    by_cases hk : P k
    · rw [hf k hk, hv]
      exact_mod_cast not_lt.1 fun h => hmin k h hk
    · rw [hf' k hk]
      have := g.isLt
      have h20 : (20#32 : BitVec 32).toInt = 20 := by decide
      rw [h20]; omega

end Cert.ReferenceIdeal.Read
-- ==== Proof.AlignReal.lean ====
/- In a cell a box may be assigned to, its IoU, and with it the alignment and the metric, is a real number that is not negative;
   there the powers are the products. -/
module

public import proofs.«01_k».proof.Proof.Spec

@[expose] public section

noncomputable section

namespace Cert.Loss

open Idealize.ShloMosaic Cert.TopTen

/-- The overlap of an interval around a real point with a real interval is real, and at most the interval's length. -/
theorem overlap_real {g0 g2 : EReal} {p : ℝ} (h0 : g0 ≤ (p : EReal)) (h2 : (p : EReal) < g2) (x1 x2 : ℝ) :
    ∃ w : ℝ, 0 ≤ w ∧ max 0 (min g2 (x2 : EReal) - max g0 (x1 : EReal)) = (w : EReal) ∧
      (g2 - g0 = ⊤ ∨ ∃ s : ℝ, g2 - g0 = (s : EReal) ∧ w ≤ s ∧ 0 < s) := by
  induction g0 with
  | top => exact absurd h0 (by simp)
  | bot =>
    induction g2 with
    | bot => exact absurd h2 (by simp)
    | top =>
      refine ⟨max 0 (x2 - x1), le_max_left _ _, ?_, Or.inl (by simp)⟩
      simp [← EReal.coe_sub, ← EReal.coe_zero, ← EReal.coe_strictMono.monotone.map_max]
    | coe q =>
      refine ⟨max 0 (min q x2 - x1), le_max_left _ _, ?_, Or.inl (by simp)⟩
      rw [← EReal.coe_strictMono.monotone.map_min, max_eq_right (bot_le : (⊥ : EReal) ≤ (x1 : EReal)), ← EReal.coe_sub,
        ← EReal.coe_zero, ← EReal.coe_strictMono.monotone.map_max]
  | coe q0 =>
    have h0' : q0 ≤ p := by exact_mod_cast h0
    induction g2 with
    | bot => exact absurd h2 (by simp)
    | top =>
      refine ⟨max 0 (x2 - max q0 x1), le_max_left _ _, ?_, Or.inl (EReal.top_sub_coe q0)⟩
      rw [min_eq_right (le_top : (x2 : EReal) ≤ (⊤ : EReal)), ← EReal.coe_strictMono.monotone.map_max, ← EReal.coe_sub,
        ← EReal.coe_zero, ← EReal.coe_strictMono.monotone.map_max]
    | coe q =>
      have h2' : p < q := by exact_mod_cast h2
      refine ⟨max 0 (min q x2 - max q0 x1), le_max_left _ _, ?_, Or.inr ⟨q - q0, (EReal.coe_sub _ _).symm, ?_, by linarith⟩⟩
      · rw [← EReal.coe_strictMono.monotone.map_min, ← EReal.coe_strictMono.monotone.map_max, ← EReal.coe_sub,
          ← EReal.coe_zero, ← EReal.coe_strictMono.monotone.map_max]
      · exact max_le (by linarith) (by linarith [min_le_left q x2, le_max_left q0 x1])

theorem div_top (x : EReal) : Ideal.div x ⊤ = 0 := by simp [Ideal.div]

theorem eps_eq : ∃ e : ℝ, 0 < e ∧ eps = (e : EReal) := by
  refine ⟨9007199 * (2 : ℝ) ^ (-53 : ℤ), by positivity, ?_⟩
  unfold eps
  simp [Ideal.ofBits, Ideal.ieee, -EReal.coe_mul]

theorem half_eq : half = ((1 / 2 : ℝ) : EReal) := by
  unfold half
  simp [Ideal.ofBits, Ideal.ieee, -EReal.coe_mul]
  norm_num

namespace Img

variable (I : Img) {g : Fin 20} {a : Fin 5376}

theorem dist_nonneg (hst : 0 ≤ I.st a) (s : Fin 4) : 0 ≤ I.dist a s := by
  unfold dist se
  positivity

theorem pcx_real : ∃ p : ℝ, I.pcx a = (p : EReal) :=
  ⟨(I.x1 a + I.x2 a) * (1 / 2), by unfold pcx; rw [half_eq, EReal.coe_mul, EReal.coe_add]⟩
theorem pcy_real : ∃ p : ℝ, I.pcy a = (p : EReal) :=
  ⟨(I.y1 a + I.y2 a) * (1 / 2), by unfold pcy; rw [half_eq, EReal.coe_mul, EReal.coe_add]⟩

theorem iou_real (hst : 0 ≤ I.st a) (hm : I.mask g a) : ∃ r : ℝ, 0 ≤ r ∧ I.iou g a = (r : EReal) := by
  obtain ⟨⟨h0, h2, h1, h3⟩, -, -⟩ := hm
  obtain ⟨p, hp⟩ := I.pcx_real (a := a)
  obtain ⟨q, hq⟩ := I.pcy_real (a := a)
  rw [hp] at h0 h2
  rw [hq] at h1 h3
  obtain ⟨w, hw, ew, hx⟩ := overlap_real h0 h2 (I.x1 a) (I.x2 a)
  obtain ⟨u, hu, eu, hy⟩ := overlap_real h1 h3 (I.y1 a) (I.y2 a)
  obtain ⟨e, he, ee⟩ := eps_eq
  have hin : I.inter g a = ((w * u : ℝ) : EReal) := by unfold inter; rw [ew, eu, EReal.coe_mul]
  have hap : 0 ≤ (I.x2 a - I.x1 a) * (I.y2 a - I.y1 a) := by
    have := I.dist_nonneg hst
    unfold x1 x2 y1 y2
    exact mul_nonneg (by linarith [this 0, this 2]) (by linarith [this 1, this 3])
  unfold iou
  rw [hin, ee, ← EReal.coe_sub, ← EReal.coe_sub, ← EReal.coe_mul]
  have key : (I.G g 2 - I.G g 0) * (I.G g 3 - I.G g 1) = ⊤ ∨
      ∃ s : ℝ, (I.G g 2 - I.G g 0) * (I.G g 3 - I.G g 1) = (s : EReal) ∧ w * u ≤ s := by
    rcases hx with hx | ⟨s, hs, hws, hs0⟩
    · rcases hy with hy | ⟨t, ht, hut, ht0⟩
      · left; rw [hx, hy]; rfl
      · left; rw [hx, ht, EReal.top_mul_coe_of_pos ht0]
    · rcases hy with hy | ⟨t, ht, hut, ht0⟩
      · left; rw [hy, hs, EReal.coe_mul_top_of_pos hs0]
      · right; exact ⟨s * t, by rw [hs, ht, EReal.coe_mul], mul_le_mul hws hut hu hs0.le⟩
  rcases key with h | ⟨s, hs, hle⟩
  · refine ⟨0, le_rfl, ?_⟩
    rw [h, EReal.top_add_coe, EReal.top_sub_coe, EReal.top_add_coe, div_top, EReal.coe_zero]
  · rw [hs, ← EReal.coe_add, ← EReal.coe_sub, ← EReal.coe_add]
    have hpos : 0 < s + (I.x2 a - I.x1 a) * (I.y2 a - I.y1 a) - w * u + e := by linarith
    rw [Ideal.div_coe hpos.ne', ← EReal.coe_mul]
    exact ⟨_, mul_nonneg (mul_nonneg hw hu) (one_div_nonneg.2 hpos.le), rfl⟩

theorem cls_pos : 0 < I.cls g a := by
  unfold cls
  positivity

/-- The powers are the products. -/
theorem pow_align (hst : 0 ≤ I.st a) (hm : I.mask g a) :
    Ideal.pow (I.cls g a : EReal) (Ideal.ofBits .f32 1056964608#32) * Ideal.pow (I.iou g a) (Ideal.ofBits .f32 1086324736#32)
      = I.align g a := by
  obtain ⟨r, hr, e⟩ := I.iou_real hst hm
  have h6 : Ideal.ofBits .f32 1086324736#32 = ((6 : ℝ) : EReal) := by
    simp [Ideal.ofBits, Ideal.ieee, -EReal.coe_mul]
    norm_num
  have hh : Ideal.ofBits .f32 1056964608#32 = ((1 / 2 : ℝ) : EReal) := half_eq
  unfold align
  rw [e, h6, hh, Ideal.pow_coe_coe, Ideal.pow_coe_coe, Ideal.sqrt_coe, if_neg (not_lt.2 I.cls_pos.le)]
  simp only [← EReal.coe_mul]
  refine congrArg _ ?_
  rw [show Real.rpow (I.cls g a) (1 / 2) = Real.sqrt (I.cls g a) from (Real.sqrt_eq_rpow _).symm,
    show Real.rpow r 6 = r ^ (6 : ℕ) from (congrArg (Real.rpow r) (by norm_num)).trans (Real.rpow_natCast r 6)]
  ring

theorem align_real (hst : 0 ≤ I.st a) (hm : I.mask g a) : ∃ r : ℝ, 0 ≤ r ∧ I.align g a = (r : EReal) := by
  obtain ⟨r, hr, e⟩ := I.iou_real hst hm
  unfold align
  rw [e, Ideal.sqrt_coe, if_neg (not_lt.2 I.cls_pos.le)]
  simp only [← EReal.coe_mul]
  exact ⟨_, by positivity, rfl⟩

theorem metric_nonneg (hst : 0 ≤ I.st a) : 0 ≤ I.metric g a := by
  unfold metric
  by_cases h : I.mask g a
  · obtain ⟨r, hr, e⟩ := I.align_real hst h
    rw [if_pos h, e]; exact_mod_cast hr
  · rw [if_neg h]

theorem cand_mask (h : I.cand g a) : I.mask g a := by
  by_contra hm
  have h2 := h.2
  obtain ⟨e, he, ee⟩ := eps_eq
  unfold metric at h2
  rw [if_neg hm, ee] at h2
  exact absurd (by exact_mod_cast h2 : e < 0) (not_lt.2 he.le)

end Img

end Cert.Loss
-- ==== Proof.RefAlign.lean ====
/- The reference's alignment: IoU, class score, where a cell may be assigned, and the metric ranked. -/
module

public import proofs.«01_k».proof.Proof.RefOps
public import proofs.«01_k».proof.Proof.AlignReal

@[expose] public section

set_option maxRecDepth 16384

noncomputable section

namespace Cert.ReferenceIdeal.Read

open Idealize.ShloMosaic Idealize.ShloMosaic.Tactic Cert.Loss Cert.TopTen

variable {x0 : S8x144x64x64.Idx → EReal} {x1 : S8x144x32x32.Idx → EReal} {x2 : S8x144x16x16.Idx → EReal}
  {x3 : S8x20x4.Idx → EReal} {x4 : S8x20.Idx → BitVec 32} {i : Fin 8} (hx : Fine x0 x1 x2 x4)

theorem stride_nonneg (a : Fin 5376) : 0 ≤ (pic x0 x1 x2 x3 x4 i).st a := by
  show (0 : ℝ) ≤ ((stN a.val : ℕ) : ℝ)
  exact Nat.cast_nonneg _

theorem andi_bool (a b : Bool) : IntOp.andi (BitVec.ofBool a) (BitVec.ofBool b) = BitVec.ofBool (a && b) := by
  cases a <;> cases b <;> rfl
theorem select_bool {α : Type} (b : Bool) (x y : α) : Scalar.select (BitVec.ofBool b) x y = if b = true then x else y := by
  cases b <;> rfl

/-- A label, held to the classes and read as an index from the front. -/
theorem label_take (l : Fin 80) :
    Scalar.select (IntOp.cmpi .slt (IntOp.minsi (IntOp.maxsi (BitVec.ofNat 32 l.val) 0#32) 79#32) 0#32)
      (IntOp.addi (IntOp.minsi (IntOp.maxsi (BitVec.ofNat 32 l.val) 0#32) 79#32) 80#32)
      (IntOp.minsi (IntOp.maxsi (BitVec.ofNat 32 l.val) 0#32) 79#32) = BitVec.ofNat 32 l.val := by
  revert l; decide +kernel
theorem word_eq (x : BitVec 32) : x = BitVec.ofNat 32 x.toNat := by simp

include hx in
theorem iou_eq (g : Fin 20) (a : Fin 5376) :
    val_main_v287 (F := Ideal) x0 x1 x2 x3 (ix3 i g a) = (pic x0 x1 x2 x3 x4 i).iou g a := by
  pointwise [val_main_v214, val_main_v215, val_main_v216, val_main_v217, val_main_v218, val_main_v219, val_main_v220, val_main_v221, val_main_v222, val_main_v223, val_main_v224, val_main_v225, val_main_v226, val_main_v227, val_main_v228, val_main_v229, val_main_v230, val_main_v231, val_main_v232, val_main_v233, val_main_v234, val_main_v235, val_main_v236, val_main_v237, val_main_v238, val_main_v239, val_main_v240, val_main_v241, val_main_v242, val_main_v243, val_main_v244, val_main_v245, val_main_v246, val_main_v247, val_main_v248, val_main_v249, val_main_v250, val_main_cst_25, val_main_v251, val_main_v252, val_main_v253, val_main_cst_26, val_main_v254, val_main_v255, val_main_v256, val_main_v257, val_main_v258, val_main_v259, val_main_v260, val_main_v261, val_main_v262, val_main_v263, val_main_v264, val_main_v265, val_main_v266, val_main_v267, val_main_v268, val_main_v269, val_main_v270, val_main_v271, val_main_v272, val_main_v273, val_main_v274, val_main_v275, val_main_v276, val_main_v277, val_main_v278, val_main_v279, val_main_v280, val_main_v281, val_main_v282, val_main_v283, val_main_v284, val_main_cst_27, val_main_v285, val_main_v286, val_main_v287]
  rw [x1_eq (x3 := x3) hx, y1_eq (x3 := x3) hx, x2_eq (x3 := x3) hx, y2_eq (x3 := x3) hx]
  simp only [max_comm _ (0 : EReal)]
  unfold Img.iou Img.inter
  rfl

theorem label_index (h : ∀ i g, (x4 (ix2 i g)).toNat < 80) (g : Fin 20) :
    val_main_call0_v5 (F := Ideal) x4 (ix3 i g (0 : Fin 1)) = BitVec.ofNat 32 (x4 (ix2 i g)).toNat := by
  pointwise [val_main_c, val_main_v294, val_main_v295, val_main_c_30, val_main_v296, val_main_v297, val_main_v298, val_main_call0_c, val_main_call0_v0, val_main_call0_v1, val_main_call0_c_0, val_main_call0_v2, val_main_call0_v3, val_main_call0_v4, val_main_call0_v5]
  have := label_take ⟨_, h i g⟩
  rw [← word_eq] at this
  exact this.trans (word_eq _)

include hx in
theorem cls_eq (g : Fin 20) (a : Fin 5376) :
    val_main_v299 (F := Ideal) x0 x1 x2 x4 (ix3 i a g) = ((pic x0 x1 x2 x3 x4 i).cls g a : EReal) := by
  unfold val_main_v299
  rw [gather_scores _ _ i g a ((pic x0 x1 x2 x3 x4 i).L g) (by
    rw [label_index hx.lab]
    exact congrArg _ (Nat.mod_eq_of_lt (hx.lab i g)).symm)]
  pointwise [val_main_v288, val_main_v289, val_main_cst_28, val_main_v290, val_main_v291, val_main_cst_29, val_main_v292, val_main_v293]
  rw [scores_eq (x3 := x3) hx]
  unfold Img.cls
  rw [← EReal.coe_neg, Ideal.exp_coe, ← EReal.coe_one, ← EReal.coe_add, Ideal.div_coe (by positivity), ← EReal.coe_mul, one_mul,
    one_div]

include hx in
theorem mask_eq (g : Fin 20) (a : Fin 5376) :
    val_main_v345 (F := Ideal) x0 x1 x2 x3 (ix3 i g a)
      = BitVec.ofBool (@decide ((pic x0 x1 x2 x3 x4 i).mask g a) (Classical.dec _)) := by
  pointwise [val_main_v199, val_main_v200, val_main_v201, val_main_v202, val_main_v203, val_main_cst_23, val_main_v204, val_main_v205, val_main_v206, val_main_v207, val_main_v208, val_main_v209, val_main_v210, val_main_cst_24, val_main_v211, val_main_v212, val_main_v213, val_main_v306, val_main_v307, val_main_v308, val_main_v309, val_main_v310, val_main_cst_33, val_main_v311, val_main_v312, val_main_v313, val_main_v314, val_main_v315, val_main_v316, val_main_v317, val_main_cst_34, val_main_v318, val_main_v319, val_main_v320, val_main_v321, val_main_v322, val_main_v323, val_main_v324, val_main_v325, val_main_v326, val_main_v327, val_main_v328, val_main_v329, val_main_v330, val_main_v331, val_main_v332, val_main_v333, val_main_v334, val_main_v335, val_main_v336, val_main_v337, val_main_v338, val_main_v339, val_main_v340, val_main_v341, val_main_v342, val_main_v343, val_main_v344, val_main_v345]
  rw [x1_eq (x3 := x3) hx, y1_eq (x3 := x3) hx, x2_eq (x3 := x3) hx, y2_eq (x3 := x3) hx]
  unfold Img.mask Img.pcx Img.pcy half
  simp only [andi_bool, ← Bool.decide_and]
  refine congrArg BitVec.ofBool ?_
  rw [decide_eq_decide]
  exact ⟨fun h => ⟨⟨h.1.1.1.1, h.1.1.1.2, h.1.1.2, h.1.2⟩, h.2.1, h.2.2⟩,
    fun h => ⟨⟨⟨⟨h.1.1, h.1.2.1⟩, h.1.2.2.1⟩, h.1.2.2.2⟩, h.2.1, h.2.2⟩⟩

/-- Where the cell may be assigned, the reference's powers are the alignment. -/
theorem align_eq (hx : Fine x0 x1 x2 x4) {g : Fin 20} {a : Fin 5376} (hm : (pic x0 x1 x2 x3 x4 i).mask g a) :
    val_main_v305 (F := Ideal) x0 x1 x2 x3 x4 (ix3 i g a) = (pic x0 x1 x2 x3 x4 i).align g a := by
  pointwise [val_main_v300, val_main_cst_31, val_main_v301, val_main_v302, val_main_cst_32, val_main_v303, val_main_v304, val_main_v305]
  rw [cls_eq (x3 := x3) hx, iou_eq hx]
  exact Img.pow_align _ (stride_nonneg a) hm

include hx in
theorem metric_eq (g : Fin 20) (a : Fin 5376) :
    val_main_v347 (F := Ideal) x0 x1 x2 x3 x4 (ix3 i g a) = (pic x0 x1 x2 x3 x4 i).metric g a := by
  pointwise [val_main_cst_35, val_main_v346, val_main_v347]
  rw [mask_eq hx]
  rw [select_bool]
  unfold Img.metric
  by_cases h : (pic x0 x1 x2 x3 x4 i).mask g a
  · rw [if_pos h, if_pos (by simpa using h), align_eq hx h]
  · rw [if_neg h, if_neg (by simpa using h)]

end Cert.ReferenceIdeal.Read
-- ==== Proof.RefTopk.lean ====
/- The reference's candidates: the ten cells of each box with the greatest metrics. -/
module

public import proofs.«01_k».proof.Proof.RefAlign
public import proofs.«01_k».proof.Proof.Assign

@[expose] public section

set_option maxRecDepth 16384

noncomputable section

namespace Cert.ReferenceIdeal.Read

open Idealize.ShloMosaic Idealize.ShloMosaic.Tactic Cert.Loss Cert.TopTen

variable {x0 : S8x144x64x64.Idx → EReal} {x1 : S8x144x32x32.Idx → EReal} {x2 : S8x144x16x16.Idx → EReal}
  {x3 : S8x20x4.Idx → EReal} {x4 : S8x20.Idx → BitVec 32} {i : Fin 8} (hx : Fine x0 x1 x2 x4)

/-- A box's metrics in descending order. -/
abbrev sorted (I : Img) (g : Fin 20) (r : Fin 11) : EReal := I.metric g (order (I.metric g) (r.castLE (by decide)))

/-- Of every image and box, at most ten metrics exceed the bound, or the eleven greatest are distinct. -/
def Apart (x0 : S8x144x64x64.Idx → EReal) (x1 : S8x144x32x32.Idx → EReal) (x2 : S8x144x16x16.Idx → EReal)
    (x3 : S8x20x4.Idx → EReal) (x4 : S8x20.Idx → BitVec 32) : Prop :=
  ∀ i g, sorted (pic x0 x1 x2 x3 x4 i) g 10 ≤ eps ∨
    ∀ r : Fin 10, sorted (pic x0 x1 x2 x3 x4 i) g r.succ < sorted (pic x0 x1 x2 x3 x4 i) g r.castSucc

theorem sum_ind_pos {n : ℕ} (P : Fin n → Prop) : 0 < ∑ r, ind (P r) ↔ ∃ r, P r := by
  constructor
  · intro h
    by_contra hn
    exact absurd h (by rw [Finset.sum_eq_zero fun r _ => ind_neg fun hr => hn ⟨r, hr⟩]; exact lt_irrefl _)
  · rintro ⟨r, hr⟩
    exact (zero_lt_ind.2 hr).trans_le (Finset.single_le_sum (f := fun r => ind (P r)) (fun _ _ => ind_nonneg _) (Finset.mem_univ r))

include hx in
theorem metric_line (g : Fin 20) :
    (fun a => val_main_v347 (F := Ideal) x0 x1 x2 x3 x4 (ix3 i g a)) = (pic x0 x1 x2 x3 x4 i).metric g :=
  funext fun a => metric_eq hx g a

include hx in
theorem place_eq (g : Fin 20) (r : Fin 10) (a : Fin 5376) :
    val_main_v354 (F := Ideal) x0 x1 x2 x3 x4 (ix4 i g r a)
      = ind (order ((pic x0 x1 x2 x3 x4 i).metric g) (r.castLE (by decide)) = a ∧
          eps < (pic x0 x1 x2 x3 x4 i).metric g (order ((pic x0 x1 x2 x3 x4 i).metric g) (r.castLE (by decide)))) := by
  pointwise [val_main_values, val_main_indices, val_main_call1_v0, val_main_call1_v1, val_main_call1_v2, val_main_call1_v3, val_main_call1_v4, val_main_v348, val_main_cst_36, val_main_v349, val_main_v350, val_main_v351, val_main_v352, val_main_v353, val_main_v354]
  have t := topK_eq (N := 5376) (K := 10) (by decide) (val_main_v347 (F := Ideal) x0 x1 x2 x3 x4)
    Gen.sliceFits_S8x20x5376_S8x20x10 i g r
  rw [metric_line hx, metric_eq hx] at t
  have e1 := t.1
  have e2 := t.2
  rw [e1, e2, cmpi_ofNat (by omega) (by omega), uitofp_decide, uitofp_decide, ind_mul]
  exact ind_congr (and_congr Fin.val_inj Iff.rfl)

include hx in
theorem cand_eq (ha : Apart x0 x1 x2 x3 x4) (g : Fin 20) (a : Fin 5376) :
    val_main_v359 (F := Ideal) x0 x1 x2 x3 x4 (ix3 i g a) = ind ((pic x0 x1 x2 x3 x4 i).cand g a) := by
  pointwise [val_main_cst_37, val_main_v355, val_main_cst_38, val_main_v356, val_main_v357, val_main_v358, val_main_v359]
  simp only [place_eq hx]
  rw [mask_eq hx, andi_bool, uitofp_bool]
  refine ind_congr ?_
  rw [Bool.and_eq_true]
  refine (and_congr (@decide_eq_true_iff _ _) (@decide_eq_true_iff _ (Classical.dec _))).trans ?_
  rw [sum_ind_pos]
  have key := rounds_iff_order (c := -1) (by norm_num) (f := (pic x0 x1 x2 x3 x4 i).metric g)
    (fun a => Img.metric_nonneg _ (stride_nonneg a)) (eps := eps) (h10 := by decide) (ha i g) a
  unfold Img.cand
  rw [key]
  constructor
  · rintro ⟨⟨r, h, h'⟩, -⟩
    exact ⟨r, h, h ▸ h'⟩
  · rintro ⟨r, h, h'⟩
    refine ⟨⟨r, h, ?_⟩, Img.cand_mask _ (key.2 ⟨r, h, h'⟩)⟩
    exact (congrArg (fun k => eps < (pic x0 x1 x2 x3 x4 i).metric g k) h).mpr h'

include hx in
theorem count_eq (ha : Apart x0 x1 x2 x3 x4) (a : Fin 5376) :
    val_main_v360 (F := Ideal) x0 x1 x2 x3 x4 (ix2 i a) = (pic x0 x1 x2 x3 x4 i).count a := by
  pointwise [val_main_cst_39, val_main_v360]
  simp only [cand_eq hx ha]
  rfl

end Cert.ReferenceIdeal.Read
-- ==== Proof.RefAssign.lean ====
/- The reference's assignment: the box of every cell, and the cells' normalised alignment. -/
module

public import proofs.«01_k».proof.Proof.RefTopk

@[expose] public section

set_option maxRecDepth 16384

noncomputable section

namespace Cert.ReferenceIdeal.Read

open Idealize.ShloMosaic Idealize.ShloMosaic.Tactic Cert.Loss Cert.TopTen

variable {x0 : S8x144x64x64.Idx → EReal} {x1 : S8x144x32x32.Idx → EReal} {x2 : S8x144x16x16.Idx → EReal}
  {x3 : S8x20x4.Idx → EReal} {x4 : S8x20.Idx → BitVec 32} {i : Fin 8} (hx : Fine x0 x1 x2 x4) (ha : Apart x0 x1 x2 x3 x4)

theorem bot_word : Ideal.ofBits .f32 4286578688#32 = ⊥ := by simp [Ideal.ofBits, Ideal.ieee]
theorem neg_one_word : Ideal.ofBits .f32 3212836864#32 = -1 := by
  simp [Ideal.ofBits, Ideal.ieee, -EReal.coe_mul]
  norm_num

include hx ha in
/-- The first box whose candidate IoU is greatest in a cell. -/
theorem best_eq (a : Fin 5376) {g : Fin 20} (hg : (pic x0 x1 x2 x3 x4 i).best g a) :
    val_main_v370 (F := Ideal) x0 x1 x2 x3 x4 (ix2 i a) = BitVec.ofNat 32 g.val := by
  pointwise [val_main_cst_40, val_main_v361, val_main_v362, val_main_cst_41, val_main_call2_v0, val_main_call2_v1, val_main_v363, val_main_v364, val_main_cst_42, val_main_v365, val_main_v366, val_main_v367, val_main_v368, val_main_c_43, val_main_call3_v0, val_main_call3_v1, val_main_v369, val_main_c_44, val_main_v370]
  simp only [cand_eq hx ha, iou_eq (x4 := x4) hx]
  have hc : ∀ k, (if 0 < ind ((pic x0 x1 x2 x3 x4 i).cand k a) then (pic x0 x1 x2 x3 x4 i).iou k a
      else id (constant (F := Ideal) S_ .f32 3212836864#32) ix0) = (pic x0 x1 x2 x3 x4 i).candIou k a := fun k => by
    have e : id (constant (F := Ideal) S_ .f32 3212836864#32) ix0 = (-1 : EReal) := neg_one_word
    rw [e]
    unfold Img.candIou
    by_cases h : (pic x0 x1 x2 x3 x4 i).cand k a
    · rw [if_pos h, if_pos (zero_lt_ind.2 h)]
    · rw [if_neg h, if_neg fun h' => h (zero_lt_ind.1 h')]
  simp only [hc, bot_word]
  exact first_fold _ (fun k => (pic x0 x1 x2 x3 x4 i).candIou k a = top ((pic x0 x1 x2 x3 x4 i).candIou · a))
    (fun k hk => if_pos hk) (fun k hk => if_neg hk) g hg.1 hg.2

include hx ha in
theorem pos_eq (g : Fin 20) (a : Fin 5376) :
    val_main_v377 (F := Ideal) x0 x1 x2 x3 x4 (ix3 i g a) = ind ((pic x0 x1 x2 x3 x4 i).pos g a) := by
  pointwise [val_main_call4_v0, val_main_call4_v1, val_main_call4_v2, val_main_call4_v3, val_main_call4_v4, val_main_v371, val_main_v372, val_main_v373, val_main_cst_45, val_main_v374, val_main_v375, val_main_v376, val_main_call5_v0, val_main_v377]
  obtain ⟨b, hb⟩ := Img.exists_best (pic x0 x1 x2 x3 x4 i) a
  rw [best_eq hx ha a hb, cand_eq hx ha, count_eq hx ha, cmpi_ofNat (by omega) (by omega), uitofp_decide, ind_mul]
  by_cases h : 1 < (pic x0 x1 x2 x3 x4 i).count a
  · rw [if_pos h]
    refine ind_congr ⟨fun h' => ⟨h'.2, fun _ => Fin.ext h'.1 ▸ hb⟩, fun h' => ⟨?_, h'.1⟩⟩
    exact congrArg Fin.val (Img.best_unique hb (h'.2 h))
  · rw [if_neg h]
    exact ind_congr ⟨fun h' => ⟨h', fun h'' => absurd h'' h⟩, fun h' => h'.1⟩

include hx ha in
theorem fg_eq (a : Fin 5376) :
    val_main_v380 (F := Ideal) x0 x1 x2 x3 x4 (ix2 i a)
      = BitVec.ofBool (@decide ((pic x0 x1 x2 x3 x4 i).fg a) (Classical.dec _)) := by
  pointwise [val_main_cst_46, val_main_v378, val_main_cst_47, val_main_v379, val_main_v380]
  simp only [pos_eq hx ha]
  refine congrArg BitVec.ofBool ?_
  rw [decide_eq_decide]
  exact sum_ind_pos _

include hx ha in
/-- The box a cell is assigned to. -/
theorem sel_eq (a : Fin 5376) :
    val_main_v387 (F := Ideal) x0 x1 x2 x3 x4 (ix2 i a) = BitVec.ofNat 32 ((pic x0 x1 x2 x3 x4 i).sel a).val := by
  pointwise [val_main_v381, val_main_cst_48, val_main_v382, val_main_v383, val_main_v384, val_main_v385, val_main_c_49, val_main_call6_v0, val_main_call6_v1, val_main_v386, val_main_c_50, val_main_v387]
  simp only [pos_eq hx ha, bot_word]
  refine first_fold _ (fun k => ind ((pic x0 x1 x2 x3 x4 i).pos k a) = top fun k => ind ((pic x0 x1 x2 x3 x4 i).pos k a))
    (fun k hk => if_pos hk) (fun k hk => if_neg hk) _ ?_ ?_
  · refine (top_eq (w := fun k => ind ((pic x0 x1 x2 x3 x4 i).pos k a)) ((pic x0 x1 x2 x3 x4 i).sel a) rfl fun k => ?_).symm
    show ind _ ≤ ind _
    by_cases hf : (pic x0 x1 x2 x3 x4 i).fg a
    · rw [ind_pos (Img.sel_pos hf)]; exact ind_le_one _
    · rw [ind_neg fun h => hf ⟨k, h⟩]; exact ind_nonneg _
  · intro k hk hk'
    by_cases hf : (pic x0 x1 x2 x3 x4 i).fg a
    · have h1 : ind ((pic x0 x1 x2 x3 x4 i).pos k a) = 0 := ind_neg fun h => hk.ne (Img.sel_eq h).symm
      have h2 := le_top (fun k => ind ((pic x0 x1 x2 x3 x4 i).pos k a)) ((pic x0 x1 x2 x3 x4 i).sel a)
      rw [← hk', h1] at h2
      exact absurd (zero_lt_ind.2 (Img.sel_pos hf)) (not_lt.2 h2)
    · rw [Img.sel_zero hf] at hk
      exact absurd hk (Fin.not_lt_zero k)

/-- A box's number as an index from the front. -/
theorem box_take (g : Fin 20) :
    Scalar.select (IntOp.cmpi .slt (BitVec.ofNat 32 g.val) 0#32) (IntOp.addi (BitVec.ofNat 32 g.val) 20#32) (BitVec.ofNat 32 g.val)
      = BitVec.ofNat 32 g.val := by
  revert g; decide +kernel

include hx ha in
theorem box_eq (a : Fin 5376) (k : Fin 4) :
    val_main_v389 (F := Ideal) x0 x1 x2 x3 x4 (ix3 i a k)
      = (pic x0 x1 x2 x3 x4 i).G ((pic x0 x1 x2 x3 x4 i).sel a) k := by
  unfold val_main_v389
  refine gather_boxes _ _ i a k ((pic x0 x1 x2 x3 x4 i).sel a) ?_
  pointwise [val_main_v388, val_main_call7_c, val_main_call7_v0, val_main_call7_v1, val_main_call7_c_0, val_main_call7_v2, val_main_call7_v3, val_main_call7_v4]
  rw [sel_eq hx ha]
  exact box_take _

include hx ha in
theorem label_eq (a : Fin 5376) :
    val_main_v390 (F := Ideal) x0 x1 x2 x3 x4 (ix2 i a)
      = BitVec.ofNat 32 ((pic x0 x1 x2 x3 x4 i).L ((pic x0 x1 x2 x3 x4 i).sel a)).val := by
  unfold val_main_v390
  rw [gather_labels _ _ i a ((pic x0 x1 x2 x3 x4 i).sel a) (by
    pointwise [val_main_v388, val_main_call8_c, val_main_call8_v0, val_main_call8_v1, val_main_call8_c_0, val_main_call8_v2, val_main_call8_v3, val_main_call8_v4, val_main_call8_v5]
    rw [sel_eq hx ha]
    exact box_take _)]
  refine (word_eq _).trans (congrArg _ ?_)
  exact (Nat.mod_eq_of_lt (hx.lab i _)).symm

include hx ha in
theorem alignPos_eq (g : Fin 20) (a : Fin 5376) :
    val_main_v391 (F := Ideal) x0 x1 x2 x3 x4 (ix3 i g a) = (pic x0 x1 x2 x3 x4 i).alignPos g a := by
  pointwise [val_main_v391]
  rw [pos_eq hx ha]
  unfold Img.alignPos
  by_cases h : (pic x0 x1 x2 x3 x4 i).pos g a
  · rw [align_eq hx (Img.cand_mask _ h.1)]
  · rw [ind_neg h, mul_zero, mul_zero]

include hx ha in
theorem norm_eq (a : Fin 5376) :
    val_main_v403 (F := Ideal) x0 x1 x2 x3 x4 (ix2 i a) = (pic x0 x1 x2 x3 x4 i).norm a := by
  pointwise [val_main_cst_51, val_main_v392, val_main_v393, val_main_v394, val_main_cst_52, val_main_v395, val_main_v396, val_main_v397, val_main_v398, val_main_cst_53, val_main_v399, val_main_v400, val_main_v401, val_main_v402, val_main_cst_54, val_main_v403]
  simp only [alignPos_eq hx ha, pos_eq hx ha, iou_eq (x4 := x4) hx, bot_word]
  rfl

include hx ha in
/-- The target score of a class in a cell. -/
theorem target_eq (a : Fin 5376) (c : Fin 80) :
    val_main_v411 (F := Ideal) x0 x1 x2 x3 x4 (ix3 i a c)
      = ind (c = (pic x0 x1 x2 x3 x4 i).L ((pic x0 x1 x2 x3 x4 i).sel a)) * (pic x0 x1 x2 x3 x4 i).norm a
          * ind ((pic x0 x1 x2 x3 x4 i).fg a) := by
  pointwise [val_main_call9_v0, val_main_call9_v1, val_main_call9_v2, val_main_call9_v3, val_main_call9_v4, val_main_v404, val_main_v405, val_main_v406, val_main_v407, val_main_v408, val_main_v409, val_main_v410, val_main_v411]
  rw [norm_eq hx ha, label_eq hx ha, fg_eq hx ha, uitofp_decide, cmpi_ofNat (by omega) (by omega), uitofp_decide]
  have e : ind (((pic x0 x1 x2 x3 x4 i).L ((pic x0 x1 x2 x3 x4 i).sel a)).val = c.val)
      = ind (c = (pic x0 x1 x2 x3 x4 i).L ((pic x0 x1 x2 x3 x4 i).sel a)) := ind_congr (Fin.val_inj.trans eq_comm)
  rw [e]

end Cert.ReferenceIdeal.Read
-- ==== Proof.RefBox.lean ====
/- The reference's box loss of a cell. -/
module

public import proofs.«01_k».proof.Proof.RefAssign

@[expose] public section

set_option maxRecDepth 16384

noncomputable section

namespace Cert.ReferenceIdeal.Read

open Idealize.ShloMosaic Idealize.ShloMosaic.Tactic Cert.Loss Cert.TopTen

variable {x0 : S8x144x64x64.Idx → EReal} {x1 : S8x144x32x32.Idx → EReal} {x2 : S8x144x16x16.Idx → EReal}
  {x3 : S8x20x4.Idx → EReal} {x4 : S8x20.Idx → BitVec 32} {i : Fin 8} (hx : Fine x0 x1 x2 x4) (ha : Apart x0 x1 x2 x3 x4)

theorem absf_eq (x : EReal) : FloatOps.absf (F := Ideal) (φ := .f32) x = max x (-x) := rfl

theorem zero_int : FloatOps.sitofp (F := Ideal) .f32 0#32 = 0 :=
  (Cert.Loss.sitofp_ofNat 0 (by norm_num)).trans (by norm_num)

theorem arctan_target (a : Fin 5376) :
    val_main_v607 (F := Ideal) x0 x1 x2 x3 x4 (ix2 i a) = arctanPoly (val_main_v556 (F := Ideal) x0 x1 x2 x3 x4 (ix2 i a)) := by
  pointwise [val_main_v557, val_main_cst_66, val_main_v558, val_main_v559, val_main_v560, val_main_cst_67, val_main_v561, val_main_v562, val_main_cst_68, val_main_v563, val_main_v564, val_main_v565, val_main_v566, val_main_v567, val_main_cst_69, val_main_v568, val_main_v569, val_main_cst_70, val_main_v570, val_main_v571, val_main_v572, val_main_v573, val_main_cst_71, val_main_v574, val_main_v575, val_main_v576, val_main_v577, val_main_cst_72, val_main_v578, val_main_v579, val_main_v580, val_main_v581, val_main_cst_73, val_main_v582, val_main_v583, val_main_v584, val_main_v585, val_main_cst_74, val_main_v586, val_main_v587, val_main_v588, val_main_v589, val_main_cst_75, val_main_v590, val_main_v591, val_main_v592, val_main_v593, val_main_cst_76, val_main_v594, val_main_v595, val_main_v596, val_main_v597, val_main_cst_77, val_main_v598, val_main_v599, val_main_v600, val_main_cst_78, val_main_v601, val_main_v602, val_main_v603, val_main_cst_79, val_main_v604, val_main_v605, val_main_v606, val_main_v607]
  simp only [absf_eq]
  unfold arctanPoly
  rfl

theorem arctan_pred (a : Fin 5376) :
    val_main_v659 (F := Ideal) x0 x1 x2 (ix2 i a) = arctanPoly (val_main_v608 (F := Ideal) x0 x1 x2 (ix2 i a)) := by
  pointwise [val_main_v609, val_main_cst_80, val_main_v610, val_main_v611, val_main_v612, val_main_cst_81, val_main_v613, val_main_v614, val_main_cst_82, val_main_v615, val_main_v616, val_main_v617, val_main_v618, val_main_v619, val_main_cst_83, val_main_v620, val_main_v621, val_main_cst_84, val_main_v622, val_main_v623, val_main_v624, val_main_v625, val_main_cst_85, val_main_v626, val_main_v627, val_main_v628, val_main_v629, val_main_cst_86, val_main_v630, val_main_v631, val_main_v632, val_main_v633, val_main_cst_87, val_main_v634, val_main_v635, val_main_v636, val_main_v637, val_main_cst_88, val_main_v638, val_main_v639, val_main_v640, val_main_v641, val_main_cst_89, val_main_v642, val_main_v643, val_main_v644, val_main_v645, val_main_cst_90, val_main_v646, val_main_v647, val_main_v648, val_main_v649, val_main_cst_91, val_main_v650, val_main_v651, val_main_v652, val_main_cst_92, val_main_v653, val_main_v654, val_main_v655, val_main_cst_93, val_main_v656, val_main_v657, val_main_v658, val_main_v659]
  simp only [absf_eq]
  unfold arctanPoly
  rfl

include hx ha in
theorem ratio_target (a : Fin 5376) :
    val_main_v556 (F := Ideal) x0 x1 x2 x3 x4 (ix2 i a)
      = Ideal.div ((pic x0 x1 x2 x3 x4 i).G ((pic x0 x1 x2 x3 x4 i).sel a) 2 - (pic x0 x1 x2 x3 x4 i).G ((pic x0 x1 x2 x3 x4 i).sel a) 0)
        ((pic x0 x1 x2 x3 x4 i).G ((pic x0 x1 x2 x3 x4 i).sel a) 3 - (pic x0 x1 x2 x3 x4 i).G ((pic x0 x1 x2 x3 x4 i).sel a) 1 + eps) := by
  pointwise [val_main_v544, val_main_v545, val_main_v546, val_main_v547, val_main_v548, val_main_v549, val_main_v550, val_main_v551, val_main_v552, val_main_v553, val_main_cst_65, val_main_v554, val_main_v555, val_main_v556]
  simp only [box_eq hx ha]
  rfl

include hx in
theorem ratio_pred (a : Fin 5376) :
    val_main_v608 (F := Ideal) x0 x1 x2 (ix2 i a)
      = Ideal.div (((pic x0 x1 x2 x3 x4 i).x2 a : EReal) - (pic x0 x1 x2 x3 x4 i).x1 a)
        (((pic x0 x1 x2 x3 x4 i).y2 a : EReal) - (pic x0 x1 x2 x3 x4 i).y1 a + eps) := by
  pointwise [val_main_v532, val_main_v533, val_main_v534, val_main_v535, val_main_v536, val_main_v537, val_main_v538, val_main_v539, val_main_v540, val_main_v541, val_main_cst_64, val_main_v542, val_main_v543, val_main_v608]
  rw [x1_eq (x3 := x3) hx, y1_eq (x3 := x3) hx, x2_eq (x3 := x3) hx, y2_eq (x3 := x3) hx]
  rfl

include hx ha in
theorem ciou_eq (a : Fin 5376) :
    val_main_v675 (F := Ideal) x0 x1 x2 x3 x4 (ix2 i a)
      = ciou ((pic x0 x1 x2 x3 x4 i).x1 a) ((pic x0 x1 x2 x3 x4 i).y1 a) ((pic x0 x1 x2 x3 x4 i).x2 a) ((pic x0 x1 x2 x3 x4 i).y2 a)
        ((pic x0 x1 x2 x3 x4 i).G ((pic x0 x1 x2 x3 x4 i).sel a) 0) ((pic x0 x1 x2 x3 x4 i).G ((pic x0 x1 x2 x3 x4 i).sel a) 1)
        ((pic x0 x1 x2 x3 x4 i).G ((pic x0 x1 x2 x3 x4 i).sel a) 2) ((pic x0 x1 x2 x3 x4 i).G ((pic x0 x1 x2 x3 x4 i).sel a) 3) := by
  pointwise [val_main_v426, val_main_v427, val_main_v428, val_main_v429, val_main_v430, val_main_v431, val_main_v432, val_main_v433, val_main_v434, val_main_v435, val_main_v436, val_main_v437, val_main_v438, val_main_v439, val_main_v440, val_main_v441, val_main_v442, val_main_v443, val_main_v444, val_main_v445, val_main_v446, val_main_c_59, val_main_call11_v0, val_main_call11_v1, val_main_v447, val_main_v448, val_main_c_60, val_main_call12_v0, val_main_call12_v1, val_main_v449, val_main_v450, val_main_v451, val_main_v452, val_main_v453, val_main_v454, val_main_v455, val_main_v456, val_main_v457, val_main_v458, val_main_v459, val_main_v460, val_main_v461, val_main_v462, val_main_v463, val_main_v464, val_main_v465, val_main_v466, val_main_v467, val_main_v468, val_main_v469, val_main_v470, val_main_v471, val_main_v472, val_main_v473, val_main_v474, val_main_cst_61, val_main_v475, val_main_v476, val_main_v477, val_main_v478, val_main_v479, val_main_v480, val_main_v481, val_main_v482, val_main_v483, val_main_v484, val_main_v485, val_main_v486, val_main_v487, val_main_v488, val_main_v489, val_main_v490, val_main_v491, val_main_v492, val_main_v493, val_main_v494, val_main_v495, val_main_v496, val_main_v497, val_main_v498, val_main_v499, val_main_v500, val_main_v501, val_main_v502, val_main_cst_62, val_main_v503, val_main_v504, val_main_v505, val_main_v506, val_main_v507, val_main_v508, val_main_v509, val_main_v510, val_main_v511, val_main_v512, val_main_v513, val_main_v514, val_main_v515, val_main_v516, val_main_v517, val_main_v518, val_main_v519, val_main_v520, val_main_v521, val_main_v522, val_main_v523, val_main_v524, val_main_v525, val_main_v526, val_main_v527, val_main_v528, val_main_v529, val_main_cst_63, val_main_v530, val_main_v531, val_main_v532, val_main_v533, val_main_v534, val_main_v535, val_main_v536, val_main_v537, val_main_v538, val_main_v539, val_main_v540, val_main_v541, val_main_cst_64, val_main_v542, val_main_v543, val_main_v544, val_main_v545, val_main_v546, val_main_v547, val_main_v548, val_main_v549, val_main_v550, val_main_v551, val_main_v552, val_main_v553, val_main_cst_65, val_main_v554, val_main_v555, val_main_v557, val_main_cst_66, val_main_v558, val_main_v559, val_main_v560, val_main_cst_67, val_main_v561, val_main_v562, val_main_cst_68, val_main_v563, val_main_v564, val_main_v565, val_main_v566, val_main_v567, val_main_cst_69, val_main_v568, val_main_v569, val_main_cst_70, val_main_v570, val_main_v571, val_main_v572, val_main_v573, val_main_cst_71, val_main_v574, val_main_v575, val_main_v576, val_main_v577, val_main_cst_72, val_main_v578, val_main_v579, val_main_v580, val_main_v581, val_main_cst_73, val_main_v582, val_main_v583, val_main_v584, val_main_v585, val_main_cst_74, val_main_v586, val_main_v587, val_main_v588, val_main_v589, val_main_cst_75, val_main_v590, val_main_v591, val_main_v592, val_main_v593, val_main_cst_76, val_main_v594, val_main_v595, val_main_v596, val_main_v597, val_main_cst_77, val_main_v598, val_main_v599, val_main_v600, val_main_cst_78, val_main_v601, val_main_v602, val_main_v603, val_main_cst_79, val_main_v604, val_main_v605, val_main_v606, val_main_v609, val_main_cst_80, val_main_v610, val_main_v611, val_main_v612, val_main_cst_81, val_main_v613, val_main_v614, val_main_cst_82, val_main_v615, val_main_v616, val_main_v617, val_main_v618, val_main_v619, val_main_cst_83, val_main_v620, val_main_v621, val_main_cst_84, val_main_v622, val_main_v623, val_main_v624, val_main_v625, val_main_cst_85, val_main_v626, val_main_v627, val_main_v628, val_main_v629, val_main_cst_86, val_main_v630, val_main_v631, val_main_v632, val_main_v633, val_main_cst_87, val_main_v634, val_main_v635, val_main_v636, val_main_v637, val_main_cst_88, val_main_v638, val_main_v639, val_main_v640, val_main_v641, val_main_cst_89, val_main_v642, val_main_v643, val_main_v644, val_main_v645, val_main_cst_90, val_main_v646, val_main_v647, val_main_v648, val_main_v649, val_main_cst_91, val_main_v650, val_main_v651, val_main_v652, val_main_cst_92, val_main_v653, val_main_v654, val_main_v655, val_main_cst_93, val_main_v656, val_main_v657, val_main_v658, val_main_v660, val_main_v661, val_main_cst_94, val_main_v662, val_main_v663, val_main_v664, val_main_cst_95, val_main_v665, val_main_v666, val_main_cst_96, val_main_v667, val_main_v668, val_main_v669, val_main_v670, val_main_v671, val_main_v672, val_main_v673, val_main_cst_97, val_main_v674, val_main_v675]
  simp only [zero_int, box_eq hx ha, x1_eq (x3 := x3) hx, y1_eq (x3 := x3) hx, x2_eq (x3 := x3) hx, y2_eq (x3 := x3) hx, arctan_target,
    arctan_pred, ratio_target hx ha, ratio_pred (x3 := x3) (x4 := x4) hx]
  unfold ciou
  rfl

end Cert.ReferenceIdeal.Read
-- ==== Proof.LossReal.lean ====
/- The class and bin losses of one image as real numbers: the reference's cell by cell, and the kernel's. -/
module

public import proofs.«01_k».proof.Proof.Assign
public import proofs.«01_k».proof.Proof.AlignReal

@[expose] public section

noncomputable section

namespace Cert.Loss

open Idealize.ShloMosaic Cert.TopTen

/-- A statement's number, as a real one. -/
def rind (p : Prop) : ℝ := @ite _ p (Classical.dec p) 1 0
theorem ind_rind (p : Prop) : ind p = (rind p : EReal) := ind_coe p
theorem rind_pos {p : Prop} (h : p) : rind p = 1 := by unfold rind; rw [if_pos h]
theorem rind_neg {p : Prop} (h : ¬p) : rind p = 0 := by unfold rind; rw [if_neg h]

theorem coe_max (x y : ℝ) : ((max x y : ℝ) : EReal) = max (x : EReal) (y : EReal) := EReal.coe_strictMono.monotone.map_max
theorem coe_min (x y : ℝ) : ((min x y : ℝ) : EReal) = min (x : EReal) (y : EReal) := EReal.coe_strictMono.monotone.map_min

/-- The greatest of nonnegative reals is a nonnegative real. -/
theorem top_nonneg {n : ℕ} {w : Fin (n + 1) → EReal} (h : ∀ k, ∃ r : ℝ, 0 ≤ r ∧ w k = r) : ∃ r : ℝ, 0 ≤ r ∧ top w = r := by
  obtain ⟨k, hk⟩ := top_mem w
  rw [← hk]; exact h k

theorem log1p_real (x : ℝ) : Ideal.log1p (Ideal.exp (-max (x : EReal) (-x))) = ((Real.log (1 + Real.exp (-max x (-x))) : ℝ) : EReal) := by
  have hp : 0 < 1 + Real.exp (-max x (-x)) := by positivity
  unfold Ideal.log1p
  rw [← EReal.coe_neg, ← coe_max, ← EReal.coe_neg, Ideal.exp_coe, ← EReal.coe_one, ← EReal.coe_add, Ideal.log_coe,
    if_neg (not_le.2 hp)]

namespace Img

variable (I : Img)

theorem alignPos_real (hst : ∀ a, 0 ≤ I.st a) (g : Fin 20) (a : Fin 5376) : ∃ r : ℝ, 0 ≤ r ∧ I.alignPos g a = r := by
  unfold alignPos
  by_cases h : I.pos g a
  · rw [ind_pos h, mul_one]; exact I.align_real (hst a) (cand_mask I h.1)
  · exact ⟨0, le_rfl, by rw [ind_neg h, mul_zero, EReal.coe_zero]⟩
theorem iouPos_real (hst : ∀ a, 0 ≤ I.st a) (g : Fin 20) (a : Fin 5376) : ∃ r : ℝ, 0 ≤ r ∧ I.iouPos g a = r := by
  unfold iouPos
  by_cases h : I.pos g a
  · rw [ind_pos h, mul_one]; exact I.iou_real (hst a) (cand_mask I h.1)
  · exact ⟨0, le_rfl, by rw [ind_neg h, mul_zero, EReal.coe_zero]⟩

theorem norm_real (hst : ∀ a, 0 ≤ I.st a) (a : Fin 5376) : ∃ r : ℝ, I.norm a = r := by
  have : ∃ r : ℝ, 0 ≤ r ∧ I.norm a = r := top_nonneg fun g => by
    obtain ⟨p, hp, ep⟩ := I.alignPos_real hst g a
    obtain ⟨q, hq, eq⟩ := top_nonneg (I.iouPos_real hst g)
    obtain ⟨r, hr, er⟩ := top_nonneg (I.alignPos_real hst g)
    obtain ⟨e, he, ee⟩ := eps_eq
    rw [ep, eq, er, ee, ← EReal.coe_add, Ideal.div_coe (by positivity), ← EReal.coe_mul, ← EReal.coe_mul]
    exact ⟨_, by positivity, rfl⟩
  exact ⟨this.choose, this.choose_spec.2⟩

/-- The class loss of the cells, each class by itself. -/
theorem cls_image (hst : ∀ a, 0 ≤ I.st a) :
    ∑ a, ∑ c, (max 0 (I.X a c : EReal) - (I.X a c : EReal) * (ind (c = I.L (I.sel a)) * I.norm a * ind (I.fg a))
      + Ideal.log1p (Ideal.exp (-max (I.X a c : EReal) (-I.X a c)))) = I.clsSum := by
  choose n hn using I.norm_real hst
  unfold clsSum
  simp only [hn, log1p_real, ind_rind, half_eq]
  simp only [← EReal.coe_neg, ← EReal.coe_zero, ← coe_max, ← EReal.coe_add, ← EReal.coe_mul, ← EReal.coe_sub, sum_coe]
  refine congrArg _ ?_
  rw [Finset.mul_sum, ← Finset.sum_add_distrib, ← Finset.sum_sub_distrib]
  refine Finset.sum_congr rfl fun a _ => ?_
  have hs : ∑ c, I.X a c * (rind (c = I.L (I.sel a)) * n a * rind (I.fg a)) = n a * rind (I.fg a) * I.X a (I.L (I.sel a)) := by
    rw [Finset.sum_eq_single (I.L (I.sel a)) (fun c _ hc => by rw [rind_neg hc]; ring) (fun h => absurd (Finset.mem_univ _) h),
      rind_pos rfl]
    ring
  rw [← hs, Finset.mul_sum, ← Finset.sum_add_distrib, ← Finset.sum_sub_distrib]
  refine Finset.sum_congr rfl fun c _ => ?_
  rcases le_total 0 (I.X a c) with h | h
  · rw [max_eq_right h, max_eq_left (by linarith : -I.X a c ≤ I.X a c)]; ring
  · rw [max_eq_left h, max_eq_right (by linarith : I.X a c ≤ -I.X a c)]; ring

end Img

end Cert.Loss
-- ==== Proof.BinReal.lean ====
/- The bin loss of one image as a real number: the two bins that share a target, and the triangle weights. -/
module

public import proofs.«01_k».proof.Proof.LossReal

@[expose] public section

noncomputable section

namespace Cert.Loss

open Idealize.ShloMosaic Cert.TopTen

theorem lastBin_eq : lastBin = ((15728639 / 1048576 : ℝ) : EReal) := by
  unfold lastBin
  simp [Ideal.ofBits, Ideal.ieee, -EReal.coe_mul]
  norm_num

/-- The triangle weight of a bin. -/
def tri (t : ℝ) (b : Fin 16) : ℝ := max (1 - max (t - (b : ℝ)) (-(t - (b : ℝ)))) 0

theorem tri_eq {t : ℝ} (h0 : 0 ≤ t) (b : Fin 16) :
    rind (⌊t⌋₊ = b.val) * (1 - (t - (⌊t⌋₊ : ℝ))) + rind (⌊t⌋₊ + 1 = b.val) * (t - (⌊t⌋₊ : ℝ)) = tri t b := by
  have h1 := Nat.floor_le h0
  have h2 := Nat.lt_floor_add_one t
  unfold tri
  rcases lt_trichotomy b.val ⌊t⌋₊ with h | h | h
  · rw [rind_neg (by omega), rind_neg (by omega)]
    have hb : (b.val : ℝ) + 1 ≤ (⌊t⌋₊ : ℝ) := by exact_mod_cast h
    rw [max_eq_left (by linarith : -(t - (b : ℝ)) ≤ t - (b : ℝ)), max_eq_right (by linarith)]
    ring
  · rw [rind_pos h.symm, rind_neg (by omega), h]
    rw [max_eq_left (by linarith : -(t - (⌊t⌋₊ : ℝ)) ≤ t - (⌊t⌋₊ : ℝ)), max_eq_left (by linarith)]
    ring
  · rw [rind_neg (by omega)]
    rcases Nat.lt_or_ge (⌊t⌋₊ + 1) b.val with h' | h'
    · rw [rind_neg (by omega)]
      have hb : (⌊t⌋₊ : ℝ) + 1 + 1 ≤ (b.val : ℝ) := by exact_mod_cast h'
      rw [max_eq_right (by linarith : t - (b : ℝ) ≤ -(t - (b : ℝ))), max_eq_right (by linarith)]
      ring
    · rw [rind_pos (by omega)]
      have hb : (b.val : ℝ) = (⌊t⌋₊ : ℝ) + 1 := by exact_mod_cast (by omega : b.val = ⌊t⌋₊ + 1)
      rw [hb, max_eq_right (by linarith : t - ((⌊t⌋₊ : ℝ) + 1) ≤ -(t - ((⌊t⌋₊ : ℝ) + 1))), max_eq_left (by linarith)]
      ring

theorem sum_rind {n k : ℕ} (h : k < n) : ∑ b : Fin n, rind (k = b.val) = 1 := by
  rw [Finset.sum_eq_single ⟨k, h⟩ (fun b _ hb => rind_neg fun e => hb (Fin.ext e.symm)) (fun h' => absurd (Finset.mem_univ _) h'),
    rind_pos rfl]

theorem sum_tri {t : ℝ} (h0 : 0 ≤ t) (h15 : t < 15) : ∑ b, tri t b = 1 := by
  have hk : ⌊t⌋₊ < 15 := (Nat.floor_lt h0).2 (by exact_mod_cast h15)
  simp only [← tri_eq h0]
  rw [Finset.sum_add_distrib, ← Finset.sum_mul, ← Finset.sum_mul, sum_rind (by omega), sum_rind (by omega)]
  ring

namespace Img

variable (I : Img)

theorem bin_real (a : Fin 5376) (s : Fin 4) : ∃ t : ℝ, 0 ≤ t ∧ t < 15 ∧ I.bin a s = t := by
  unfold bin
  rw [lastBin_eq]
  generalize I.side a s = y
  induction y with
  | bot => exact ⟨0, le_rfl, by norm_num, by rw [max_eq_left bot_le, ← EReal.coe_zero, ← coe_min]; norm_num⟩
  | top => exact ⟨15728639 / 1048576, by norm_num, by norm_num, by rw [max_eq_right le_top, min_eq_left le_top]⟩
  | coe r =>
    refine ⟨min (15728639 / 1048576) (max 0 r), le_min (by norm_num) (le_max_left _ _), ?_, ?_⟩
    · exact (min_le_left _ _).trans_lt (by norm_num)
    · rw [← EReal.coe_zero, ← coe_max, ← coe_min]

theorem se_pos (a : Fin 5376) (s : Fin 4) : 0 < I.se a s :=
  Finset.sum_pos (fun _ _ => Real.exp_pos _) ⟨0, Finset.mem_univ _⟩

/-- The bin loss of the cells, each bin by itself. -/
theorem dfl_image (t : Fin 5376 → Fin 4 → ℝ) (h0 : ∀ a s, 0 ≤ t a s) (h15 : ∀ a s, t a s < 15) (ht : ∀ a s, I.bin a s = t a s) :
    ∃ r : ℝ, ∑ a, ∑ s, ∑ b, (tri (t a s) b : EReal) * ind (I.fg a) * ((I.D a s b - Real.log (I.se a s) : ℝ) : EReal)
      = ((-r : ℝ) : EReal) ∧ I.dflSum = r := by
  refine ⟨∑ a, rind (I.fg a) * (Real.log (I.se a 0) + Real.log (I.se a 1) + Real.log (I.se a 2) + Real.log (I.se a 3)
    - ((∑ b, tri (t a 0) b * I.D a 0 b) + (∑ b, tri (t a 1) b * I.D a 1 b) + (∑ b, tri (t a 2) b * I.D a 2 b)
      + ∑ b, tri (t a 3) b * I.D a 3 b)), ?_, ?_⟩
  · simp only [ind_rind, ← EReal.coe_mul, sum_coe]
    refine congrArg _ ?_
    rw [← Finset.sum_neg_distrib]
    refine Finset.sum_congr rfl fun a _ => ?_
    have hs : ∀ s, ∑ b, tri (t a s) b * rind (I.fg a) * (I.D a s b - Real.log (I.se a s))
        = rind (I.fg a) * (∑ b, tri (t a s) b * I.D a s b) - rind (I.fg a) * Real.log (I.se a s) := fun s => by
      rw [← mul_one (rind (I.fg a) * Real.log (I.se a s)), ← sum_tri (h0 a s) (h15 a s), Finset.mul_sum, Finset.mul_sum,
        ← Finset.sum_sub_distrib]
      exact Finset.sum_congr rfl fun b _ => by ring
    simp only [hs, Fin.sum_univ_four]
    ring
  · unfold dflSum near
    have hl : ∀ a s, Ideal.log (I.se a s) = ((Real.log (I.se a s) : ℝ) : EReal) := fun a s => by
      rw [Ideal.log_coe, if_neg (not_le.2 (I.se_pos a s))]
    simp only [ht, hl, ind_rind]
    simp only [← EReal.coe_one, ← EReal.coe_zero, ← EReal.coe_sub, ← EReal.coe_neg, ← coe_max, ← EReal.coe_mul, ← EReal.coe_add, sum_coe]
    rfl

end Img

/-- The logarithm of the softmax, with the exponentials shifted by the greatest logit. -/
theorem logSoftmax (r : Fin 16 → ℝ) (b : Fin 16) :
    (r b : EReal) - max ⊥ (top fun x => (r x : EReal)) - Ideal.log (∑ x, Ideal.exp ((r x : EReal) - max ⊥ (top fun x => (r x : EReal))))
      = ((r b - Real.log (∑ x, Real.exp (r x)) : ℝ) : EReal) := by
  obtain ⟨k, hk⟩ := top_mem fun x => (r x : EReal)
  rw [max_eq_right bot_le, ← hk]
  simp only [← EReal.coe_sub, Ideal.exp_coe, sum_coe]
  have hp : 0 < ∑ x, Real.exp (r x) := Finset.sum_pos (fun _ _ => Real.exp_pos _) ⟨0, Finset.mem_univ _⟩
  have hs : ∑ x, Real.exp (r x - r k) = (∑ x, Real.exp (r x)) * Real.exp (-r k) := by
    rw [Finset.sum_mul]
    exact Finset.sum_congr rfl fun x _ => by rw [← Real.exp_add, sub_eq_add_neg]
  rw [hs, Ideal.log_coe, if_neg (not_le.2 (by positivity)), ← EReal.coe_sub, Real.log_mul hp.ne' (Real.exp_pos _).ne', Real.log_exp]
  refine congrArg _ ?_
  ring

end Cert.Loss
-- ==== Proof.RefCount.lean ====
/- The reference's sums over all cells: how many are assigned, the class loss, the box loss. -/
module

public import proofs.«01_k».proof.Proof.RefBox
public import proofs.«01_k».proof.Proof.BinReal

@[expose] public section

set_option maxRecDepth 16384

noncomputable section

namespace Cert.ReferenceIdeal.Read

open Idealize.ShloMosaic Idealize.ShloMosaic.Tactic Cert.Loss Cert.TopTen

variable {x0 : S8x144x64x64.Idx → EReal} {x1 : S8x144x32x32.Idx → EReal} {x2 : S8x144x16x16.Idx → EReal}
  {x3 : S8x20x4.Idx → EReal} {x4 : S8x20.Idx → BitVec 32} {i : Fin 8} (hx : Fine x0 x1 x2 x4) (ha : Apart x0 x1 x2 x3 x4)

/-- Bits added as words count. -/
theorem count_fold {ι : Type} [DecidableEq ι] (p : ι → Bool) (s : Finset ι) :
    Finset.fold IntOp.addi 0#32 (fun k => BitVec.setWidth 32 (BitVec.ofBool (p k))) s = BitVec.ofNat 32 (s.filter fun k => p k = true).card := by
  induction s using Finset.induction_on with
  | empty => rfl
  | insert k s hk ih =>
    rw [Finset.fold_insert hk, ih, Finset.filter_insert]
    cases h : p k
    · rw [if_neg (by simp)]
      exact BitVec.zero_add _
    · rw [if_pos rfl, Finset.card_insert_of_notMem (by simp [hk]), Nat.add_comm, BitVec.ofNat_add]
      rfl

include hx ha in
theorem denom_eq :
    val_main_v415 (F := Ideal) x0 x1 x2 x3 x4 ix0 = max 1 (∑ i, (pic x0 x1 x2 x3 x4 i).fgSum) := by
  pointwise [val_main_v412, val_main_c_55, val_main_v413, val_main_v414, val_main_cst_56, val_main_v415]
  simp only [fg_eq hx ha]
  rw [count_fold (fun k : Fin 8 × Fin 5376 => @decide ((pic x0 x1 x2 x3 x4 k.1).fg k.2) (Classical.dec _))]
  have hc : (Finset.univ.filter fun k : Fin 8 × Fin 5376 =>
      @decide ((pic x0 x1 x2 x3 x4 k.1).fg k.2) (Classical.dec _) = true).card < 2 ^ 31 := by
    refine (Finset.card_le_univ _).trans_lt ?_
    rw [Fintype.card_prod, Fintype.card_fin, Fintype.card_fin]
    norm_num
  rw [Cert.Loss.sitofp_ofNat _ hc, ← sum_ind, Fintype.sum_prod_type]
  refine congrArg _ ?_
  unfold Img.fgSum
  exact Finset.sum_congr rfl fun i _ => Finset.sum_congr rfl fun a _ => ind_congr (@decide_eq_true_iff _ (Classical.dec _))

include hx ha in
theorem cls_sum :
    val_main_v424 (F := Ideal) x0 x1 x2 x3 x4 ix0 = ∑ i, (pic x0 x1 x2 x3 x4 i).clsSum := by
  pointwise [val_main_c_57, val_main_call10_v0, val_main_call10_v1, val_main_v416, val_main_v417, val_main_v418, val_main_v419, val_main_v420, val_main_v421, val_main_v422, val_main_v423, val_main_cst_58, val_main_v424]
  simp only [zero_int, absf_eq, scores_eq (x3 := x3) (x4 := x4) hx, target_eq hx ha]
  exact Finset.sum_congr rfl fun i _ => Img.cls_image _ stride_nonneg

/-- A sum of all entries. -/
theorem sum_all (A : S8x5376.Idx → EReal) (w : EReal) (hw : w = 0) :
    Ideal.hostReduceAdd Gen.reducesTo_S8x5376_S_d0_1 A w ix0 = ∑ i : Fin 8, ∑ a : Fin 5376, A (ix2 i a) := by
  rw [Ideal.hostReduceAdd_total _ (fun b => b.elim0), hw, zero_add]
  exact sum_idx2 A

include hx ha in
theorem box_term (a : Fin 5376) :
    val_main_v677 (F := Ideal) x0 x1 x2 x3 x4 (ix2 i a)
      = ciou ((pic x0 x1 x2 x3 x4 i).x1 a) ((pic x0 x1 x2 x3 x4 i).y1 a) ((pic x0 x1 x2 x3 x4 i).x2 a) ((pic x0 x1 x2 x3 x4 i).y2 a)
        ((pic x0 x1 x2 x3 x4 i).G ((pic x0 x1 x2 x3 x4 i).sel a) 0) ((pic x0 x1 x2 x3 x4 i).G ((pic x0 x1 x2 x3 x4 i).sel a) 1)
        ((pic x0 x1 x2 x3 x4 i).G ((pic x0 x1 x2 x3 x4 i).sel a) 2) ((pic x0 x1 x2 x3 x4 i).G ((pic x0 x1 x2 x3 x4 i).sel a) 3)
        * ind ((pic x0 x1 x2 x3 x4 i).fg a) := by
  pointwise [val_main_v676, val_main_v677]
  rw [ciou_eq hx ha, fg_eq hx ha, uitofp_decide]

include hx ha in
theorem box_sum :
    val_main_v678 (F := Ideal) x0 x1 x2 x3 x4 ix0 = ∑ i, (pic x0 x1 x2 x3 x4 i).boxSum := by
  have hv : val_main_v678 (F := Ideal) x0 x1 x2 x3 x4 ix0
      = ∑ i : Fin 8, ∑ a : Fin 5376, val_main_v677 (F := Ideal) x0 x1 x2 x3 x4 (ix2 i a) := by
    unfold val_main_v678
    generalize val_main_v677 (F := Ideal) x0 x1 x2 x3 x4 = A
    exact sum_all A _ Ideal.ofBits_zero_f32
  rw [hv]
  unfold Img.boxSum
  exact Finset.sum_congr rfl fun i _ => Finset.sum_congr rfl fun a _ => box_term hx ha a

/-- The greatest of a line. -/
theorem max_row (A : S8x5376x4x16.Idx → EReal) (w : S_.Idx → EReal) (hw : ∀ j, w j = ⊥) (a : Fin 5376) (s : Fin 4) :
    Host.reduce (FloatOps.maximumf (F := Ideal) (φ := .f32)) A w Gen.reducesTo_S8x5376x4x16_S8x5376x4_d3 Gen.h_S_ (ix3 i a s)
      = top (fun x => A (ix4 i a s x)) := by
  pointwise []
  rw [hw]
  rfl

include hx in
theorem max_logit (a : Fin 5376) (s : Fin 4) :
    val_main_call27_v0 (F := Ideal) x0 x1 x2 (ix3 i a s) = top fun x => ((pic x0 x1 x2 x3 x4 i).D a s x : EReal) := by
  have h : val_main_call27_v0 (F := Ideal) x0 x1 x2 (ix3 i a s)
      = top fun x => val_main_v196 (F := Ideal) x0 x1 x2 (ix4 i a s x) := by
    unfold val_main_call27_v0
    generalize val_main_v196 (F := Ideal) x0 x1 x2 = A
    exact max_row A _ (fun _ => bot_word) a s
  rw [h]
  exact congrArg top (funext fun x => logits_eq (x3 := x3) (x4 := x4) hx a s x)

/-- One value for every bin of a side. -/
theorem spread (M : S8x5376x4.Idx → EReal) (a : Fin 5376) (s : Fin 4) (b : Fin 16) :
    broadcastInDim S8x5376x4x16 ![0, 1, 2, 3] Gen.bcast_S8x5376x4x1_S8x5376x4x16_0_1_2_3
      (broadcastInDim S8x5376x4x1 ![0, 1, 2] Gen.bcast_S8x5376x4_S8x5376x4x1_0_1_2 M) (ix4 i a s b) = M (ix3 i a s) := by
  pointwise []

theorem bot_max (M : S8x5376x4.Idx → EReal) (a : Fin 5376) (s : Fin 4) :
    maximumf (F := Ideal) (φ := .f32) (val_main_call27_v1 (F := Ideal)) M (ix3 i a s) = max ⊥ (M (ix3 i a s)) := by
  have e : val_main_call27_v1 (F := Ideal) (ix3 i a s) = ⊥ := bot_word
  exact congrArg (fun y => max y (M (ix3 i a s))) e

theorem minus_at (A B : S8x5376x4x16.Idx → EReal) (j : S8x5376x4x16.Idx) :
    subf (F := Ideal) (φ := .f32) A B j = A j - B j := rfl

include hx in
theorem shifted_eq (a : Fin 5376) (s : Fin 4) (b : Fin 16) :
    val_main_call27_v5 (F := Ideal) x0 x1 x2 (ix4 i a s b)
      = ((pic x0 x1 x2 x3 x4 i).D a s b : EReal) - max ⊥ (top fun x => ((pic x0 x1 x2 x3 x4 i).D a s x : EReal)) := by
  have e1 := logits_eq (x3 := x3) (x4 := x4) (i := i) hx a s b
  have e2 := max_logit (x3 := x3) (x4 := x4) (i := i) hx a s
  unfold val_main_call27_v5 val_main_call27_v4 val_main_call27_v3 val_main_call27_v2
  rw [minus_at, e1]
  refine congrArg _ ?_
  exact (spread _ a s b).trans ((bot_max _ a s).trans (congrArg _ e2))

include hx in
theorem logSoftmax_eq (a : Fin 5376) (s : Fin 4) (b : Fin 16) :
    val_main_v735 (F := Ideal) x0 x1 x2 (ix4 i a s b)
      = (((pic x0 x1 x2 x3 x4 i).D a s b - Real.log ((pic x0 x1 x2 x3 x4 i).se a s) : ℝ) : EReal) := by
  pointwise [val_main_call27_v6, val_main_call27_cst_1, val_main_call27_v7, val_main_call27_v8, val_main_call27_v9, val_main_call27_v10, val_main_v735]
  simp only [shifted_eq (x3 := x3) (x4 := x4) hx]
  exact logSoftmax _ b

end Cert.ReferenceIdeal.Read
-- ==== Proof.RefResults.lean ====
/- The reference's bin loss, and how its results are stacked. -/
module

public import proofs.«01_k».proof.Proof.RefCount

@[expose] public section

set_option maxRecDepth 16384

noncomputable section

namespace Cert.ReferenceIdeal.Read

open Idealize.ShloMosaic Idealize.ShloMosaic.Tactic Cert.Loss Cert.TopTen

variable {x0 : S8x144x64x64.Idx → EReal} {x1 : S8x144x32x32.Idx → EReal} {x2 : S8x144x16x16.Idx → EReal}
  {x3 : S8x20x4.Idx → EReal} {x4 : S8x20.Idx → BitVec 32} {i : Fin 8} (hx : Fine x0 x1 x2 x4) (ha : Apart x0 x1 x2 x3 x4)

include hx ha in
theorem bin_eq (a : Fin 5376) (s : Fin 4) :
    val_main_v713 (F := Ideal) x0 x1 x2 x3 x4 (ix3 i a s) = (pic x0 x1 x2 x3 x4 i).bin a s := by
  pointwise [val_main_v680, val_main_v681, val_main_v682, val_main_v683, val_main_v684, val_main_v685, val_main_v686, val_main_v687, val_main_v688, val_main_v689, val_main_c_99, val_main_call19_v0, val_main_call19_v1, val_main_v690, val_main_v691, val_main_v692, val_main_v693, val_main_v694, val_main_c_100, val_main_call20_v0, val_main_call20_v1, val_main_v695, val_main_v696, val_main_v697, val_main_v698, val_main_v699, val_main_c_101, val_main_call21_v0, val_main_call21_v1, val_main_v700, val_main_v701, val_main_v702, val_main_v703, val_main_v704, val_main_c_102, val_main_call22_v0, val_main_call22_v1, val_main_v705, val_main_v706, val_main_v707, val_main_v708, val_main_v709, val_main_v710, val_main_cst_103, val_main_v711, val_main_v712, val_main_c_104, val_main_cst_105, val_main_call23_v0, val_main_call23_v1, val_main_call23_v2, val_main_call23_v3, val_main_call23_v4, val_main_v713]
  have e : id (constant (F := Ideal) S_ .f32 1097859071#32) ix0 = lastBin := rfl
  rw [e]
  simp only [zero_int, box_eq hx ha]
  rw [← EReal.coe_one, Ideal.div_coe one_ne_zero, one_div_one, EReal.coe_one, mul_one]
  have hcx := cx_eq (x0 := x0) (x1 := x1) (x2 := x2) (x3 := x3) (x4 := x4) (i := i) a
  have hcy := cy_eq (x0 := x0) (x1 := x1) (x2 := x2) (x3 := x3) (x4 := x4) (i := i) a
  unfold Img.bin Img.side
  refine congrArg (fun y => min lastBin (max 0 y)) ?_
  match s with
  | 0 => exact (congrArg (fun y => max 0 (y - _)) hcx)
  | 1 => exact (congrArg (fun y => max 0 (y - _)) hcy)
  | 2 => exact (congrArg (fun y => max 0 (_ - y)) hcx)
  | 3 => exact (congrArg (fun y => max 0 (_ - y)) hcy)

/-- The word of a whole number that is not negative. -/
theorem fptosi_floor {t : ℝ} (h0 : 0 ≤ t) (h15 : t < 15) :
    Ideal.fptosi 32 (Ideal.liftRound Int.floor (t : EReal)) = BitVec.ofNat 32 ⌊t⌋₊ := by
  have hk : ⌊t⌋₊ < 15 := (Nat.floor_lt h0).2 (by exact_mod_cast h15)
  have hf : ⌊t⌋ = ((⌊t⌋₊ : ℕ) : ℤ) := (Int.natCast_floor_eq_floor h0).symm
  rw [Ideal.liftRound_coe, hf]
  unfold Ideal.fptosi
  rw [Ideal.toIntClamped_coe, if_pos (by positivity), Int.floor_intCast]
  rw [min_eq_right (by norm_num; omega), max_eq_right (by norm_num)]
  exact BitVec.ofInt_natCast 32 _

/-- The bin after, held to the bins. -/
theorem next_bin : ∀ k : Fin 15, IntOp.minsi 15#32 (IntOp.maxsi 0#32 (IntOp.addi (BitVec.ofNat 32 k.val) 1#32)) = BitVec.ofNat 32 (k.val + 1) := by
  decide +kernel

include hx ha in
/-- A bin's weight. -/
theorem weight_eq (a : Fin 5376) (s : Fin 4) (b : Fin 16) (t : ℝ) (h0 : 0 ≤ t) (h15 : t < 15)
    (ht : (pic x0 x1 x2 x3 x4 i).bin a s = t) :
    val_main_v730 (F := Ideal) x0 x1 x2 x3 x4 (ix4 i a s b) = (tri t b : EReal) := by
  pointwise [val_main_v714, val_main_v715, val_main_v716, val_main_c_106, val_main_v717, val_main_v718, val_main_c_107, val_main_c_108, val_main_call24_v0, val_main_call24_v1, val_main_call24_v2, val_main_call24_v3, val_main_call24_v4, val_main_v719, val_main_call25_v0, val_main_call25_v1, val_main_call25_v2, val_main_call25_v3, val_main_call25_v4, val_main_v720, val_main_cst_109, val_main_v721, val_main_v722, val_main_v723, val_main_v724, val_main_v725, val_main_call26_v0, val_main_call26_v1, val_main_call26_v2, val_main_call26_v3, val_main_call26_v4, val_main_v726, val_main_v727, val_main_v728, val_main_v729, val_main_v730]
  rw [bin_eq hx ha, ht]
  have hk : ⌊t⌋₊ < 15 := (Nat.floor_lt h0).2 (by exact_mod_cast h15)
  have hf : ⌊t⌋ = ((⌊t⌋₊ : ℕ) : ℤ) := (Int.natCast_floor_eq_floor h0).symm
  have hn : IntOp.minsi 15#32 (IntOp.maxsi 0#32 (IntOp.addi (BitVec.ofNat 32 ⌊t⌋₊) 1#32)) = BitVec.ofNat 32 (⌊t⌋₊ + 1) :=
    next_bin ⟨⌊t⌋₊, hk⟩
  have e15 : id (constantI S_ 32 15#32) ix0 = 15#32 := rfl
  have e0 : id (constantI S_ 32 0#32) ix0 = 0#32 := rfl
  have hw : FloatOps.fptosi (F := Ideal) (φ := .f32) 32 (Ideal.liftRound Int.floor (t : EReal)) = BitVec.ofNat 32 ⌊t⌋₊ :=
    fptosi_floor h0 h15
  rw [e15, e0, hw, hn, cmpi_ofNat (by omega) (by omega), cmpi_ofNat (by omega) (by omega), uitofp_decide, uitofp_decide,
    ind_rind, ind_rind, Ideal.liftRound_coe, hf, ← tri_eq h0 b]
  push_cast
  rfl

/-- The bin loss as the sum of all entries. -/
theorem all_sum (A : S8x5376x4x16.Idx → EReal) (w : EReal) (hw : w = 0) :
    Ideal.hostReduceAdd Gen.reducesTo_S8x5376x4x16_S_d0_1_2_3 A w ix0 = ∑ i : Fin 8, ∑ a : Fin 5376, ∑ s : Fin 4, ∑ b : Fin 16, A (ix4 i a s b) := by
  rw [Ideal.hostReduceAdd_total _ (fun b => b.elim0), hw, zero_add]
  exact sum_idx4 A

include hx ha in
theorem term_eq (a : Fin 5376) (s : Fin 4) (b : Fin 16) (t : ℝ) (h0 : 0 ≤ t) (h15 : t < 15)
    (ht : (pic x0 x1 x2 x3 x4 i).bin a s = t) :
    val_main_v736 (F := Ideal) x0 x1 x2 x3 x4 (ix4 i a s b) = (tri t b : EReal) * ind ((pic x0 x1 x2 x3 x4 i).fg a)
      * (((pic x0 x1 x2 x3 x4 i).D a s b - Real.log ((pic x0 x1 x2 x3 x4 i).se a s) : ℝ) : EReal) := by
  pointwise [val_main_v731, val_main_v732, val_main_v733, val_main_v734, val_main_v736]
  rw [weight_eq hx ha a s b t h0 h15 ht, logSoftmax_eq (x3 := x3) (x4 := x4) hx, fg_eq hx ha, uitofp_decide]

include hx ha in
theorem dfl_sum :
    -val_main_v737 (F := Ideal) x0 x1 x2 x3 x4 ix0 = ∑ i, (pic x0 x1 x2 x3 x4 i).dflSum := by
  have hv : val_main_v737 (F := Ideal) x0 x1 x2 x3 x4 ix0
      = ∑ i : Fin 8, ∑ a : Fin 5376, ∑ s : Fin 4, ∑ b : Fin 16, val_main_v736 (F := Ideal) x0 x1 x2 x3 x4 (ix4 i a s b) := by
    unfold val_main_v737
    generalize val_main_v736 (F := Ideal) x0 x1 x2 x3 x4 = A
    exact all_sum A _ Ideal.ofBits_zero_f32
  rw [hv]
  have hi : ∀ i, ∃ r : ℝ, ∑ a, ∑ s, ∑ b, val_main_v736 (F := Ideal) x0 x1 x2 x3 x4 (ix4 i a s b) = ((-r : ℝ) : EReal)
      ∧ (pic x0 x1 x2 x3 x4 i).dflSum = r := fun i => by
    choose t h0 h15 ht using (pic x0 x1 x2 x3 x4 i).bin_real
    obtain ⟨r, hr, hr'⟩ := (pic x0 x1 x2 x3 x4 i).dfl_image t h0 h15 ht
    refine ⟨r, ?_, hr'⟩
    rw [← hr]
    exact Finset.sum_congr rfl fun a _ => Finset.sum_congr rfl fun s _ => Finset.sum_congr rfl fun b _ =>
      term_eq hx ha a s b (t a s) (h0 a s) (h15 a s) (ht a s)
  choose r hr hr' using hi
  simp only [hr, hr', sum_coe, ← EReal.coe_neg]
  rw [Finset.sum_neg_distrib, neg_neg]

/-- The weight after the division. -/
theorem scale_div (w s : EReal) {d : EReal} (hd : ∃ r : ℝ, r ≠ 0 ∧ d = r) : w * Ideal.div s d = Ideal.div (w * s) d := by
  obtain ⟨r, hr, rfl⟩ := hd
  rw [Ideal.div_coe hr, Ideal.div_coe hr, mul_assoc]

theorem denom_real (I : Fin 8 → Img) : ∃ r : ℝ, r ≠ 0 ∧ max 1 (∑ i, (I i).fgSum) = r := by
  refine ⟨max 1 (∑ i, ∑ a, rind ((I i).fg a)), (zero_lt_one.trans_le (le_max_left _ _)).ne', ?_⟩
  unfold Img.fgSum
  simp only [ind_rind, sum_coe]
  rw [← EReal.coe_one, ← coe_max]

/-- The results, from the three sums and the count. -/
theorem stacked :
    val_main_v746 (F := Ideal) x0 x1 x2 x3 x4 (ix1 0)
        = Ideal.ofBits .f32 0x40F00000#32 * Ideal.div (val_main_v678 (F := Ideal) x0 x1 x2 x3 x4 ix0) (val_main_v415 (F := Ideal) x0 x1 x2 x3 x4 ix0)
      ∧ val_main_v746 (F := Ideal) x0 x1 x2 x3 x4 (ix1 1)
        = Ideal.ofBits .f32 0x3F000000#32 * Ideal.div (val_main_v424 (F := Ideal) x0 x1 x2 x3 x4 ix0) (val_main_v415 (F := Ideal) x0 x1 x2 x3 x4 ix0)
      ∧ val_main_v746 (F := Ideal) x0 x1 x2 x3 x4 (ix1 2)
        = Ideal.ofBits .f32 0x3FC00000#32 * Ideal.div (-val_main_v737 (F := Ideal) x0 x1 x2 x3 x4 ix0) (val_main_v415 (F := Ideal) x0 x1 x2 x3 x4 ix0) := by
  unfold val_main_v746 val_main_v743 val_main_v744 val_main_v745 val_main_v740 val_main_v741 val_main_v742 val_main_v679 val_main_v425 val_main_v739 val_main_v738
  generalize val_main_v678 (F := Ideal) x0 x1 x2 x3 x4 = A
  generalize val_main_v424 (F := Ideal) x0 x1 x2 x3 x4 = B
  generalize val_main_v737 (F := Ideal) x0 x1 x2 x3 x4 = C
  generalize val_main_v415 (F := Ideal) x0 x1 x2 x3 x4 = D
  refine ⟨?_, ?_, ?_⟩
  · pointwise [val_main_cst_111]
  · pointwise [val_main_cst_112]
  · pointwise [val_main_cst_113]

end Cert.ReferenceIdeal.Read
-- ==== Proof.KernelSums.lean ====
module

public import proofs.«01_k».proof.Proof.KernelRead

@[expose] public section

set_option maxRecDepth 16384

noncomputable section

namespace Cert.KernelIdeal.Read

open Idealize.ShloMosaic Cert.KernelIdeal.Gen Cert.Loss Cert.TopTen

variable {I : Img}

theorem absf_eq (x : EReal) : FloatOps.absf (F := Ideal) (φ := .f32) x = max x (-x) := rfl

section Decode

variable {v0 v1 v2 : FVec Ideal S1x5376 .f32} {v16 : FVec Ideal S64x5376 .f32}
  (h0 : ∀ a, v0 (ix2 0 a) = (I.cx a : EReal)) (h1 : ∀ a, v1 (ix2 0 a) = (I.cy a : EReal)) (h2 : ∀ a, v2 (ix2 0 a) = (I.st a : EReal))
  (hD : ∀ a s b, v16 (ix2 ⟨16 * (s : Fin 4).val + (b : Fin 16).val, row_lt s b⟩ a) = (I.D a s b : EReal))

include hD

theorem pay12_eq (s : Fin 4) (a : Fin 5376) :
    k0_pay12 v16 (iota .tc S8x64 32 [0] iota_S8x64_d0_w32) (k0_pay6 (iota .tc S8x64 32 [1] iota_S8x64_d1_w32) 16#32)
        (k0_pay7 (iota .tc S8x64 32 [1] iota_S8x64_d1_w32)) 4#32 (k0_pay8 (iota .tc S8x64 32 [0] iota_S8x64_d0_w32)) (ix2 s a)
      = Ideal.log (I.se a s) := by
  pointwise [k0_pay12]
  rw [pay10_eq hD]

include h2

include h0 in
theorem pay13_eq (a : Fin 5376) :
    k0_pay13 v0 v2 v16 (iota .tc S8x64 32 [0] iota_S8x64_d0_w32) (k0_pay6 (iota .tc S8x64 32 [1] iota_S8x64_d1_w32) 16#32)
        (k0_pay7 (iota .tc S8x64 32 [1] iota_S8x64_d1_w32)) 4#32 (k0_pay8 (iota .tc S8x64 32 [0] iota_S8x64_d0_w32)) (ix2 0 a)
      = (I.x1 a : EReal) := by
  pointwise [k0_pay13]
  rw [pay11_eq h2 hD, h0]
  exact (EReal.coe_sub _ _).symm

include h1 in
theorem pay14_eq (a : Fin 5376) :
    k0_pay14 v1 v2 v16 (iota .tc S8x64 32 [0] iota_S8x64_d0_w32) (k0_pay6 (iota .tc S8x64 32 [1] iota_S8x64_d1_w32) 16#32)
        (k0_pay7 (iota .tc S8x64 32 [1] iota_S8x64_d1_w32)) 4#32 (k0_pay8 (iota .tc S8x64 32 [0] iota_S8x64_d0_w32)) (ix2 0 a)
      = (I.y1 a : EReal) := by
  pointwise [k0_pay14]
  rw [pay11_eq h2 hD, h1]
  exact (EReal.coe_sub _ _).symm

include h0 in
theorem pay15_eq (a : Fin 5376) :
    k0_pay15 v0 v2 v16 (iota .tc S8x64 32 [0] iota_S8x64_d0_w32) (k0_pay6 (iota .tc S8x64 32 [1] iota_S8x64_d1_w32) 16#32)
        (k0_pay7 (iota .tc S8x64 32 [1] iota_S8x64_d1_w32)) 4#32 (k0_pay8 (iota .tc S8x64 32 [0] iota_S8x64_d0_w32)) (ix2 0 a)
      = (I.x2 a : EReal) := by
  pointwise [k0_pay15]
  rw [pay11_eq h2 hD, h0]
  exact (EReal.coe_add _ _).symm

include h1 in
theorem pay16_eq (a : Fin 5376) :
    k0_pay16 v1 v2 v16 (iota .tc S8x64 32 [0] iota_S8x64_d0_w32) (k0_pay6 (iota .tc S8x64 32 [1] iota_S8x64_d1_w32) 16#32)
        (k0_pay7 (iota .tc S8x64 32 [1] iota_S8x64_d1_w32)) 4#32 (k0_pay8 (iota .tc S8x64 32 [0] iota_S8x64_d0_w32)) (ix2 0 a)
      = (I.y2 a : EReal) := by
  pointwise [k0_pay16]
  rw [pay11_eq h2 hD, h1]
  exact (EReal.coe_add _ _).symm

end Decode

section Sums

variable {v20 : FVec Ideal S4x20 .f32} {v118 v158 v253 v265 : FVec Ideal S20x5376 .f32} {v261 : FVec Ideal S1x5376 .f32}
  {v266 : FVec Ideal S5376 .f32} {v254 : FVec Ideal S1x20 .f32} {v260 : FVec Ideal S20x20 .f32} {v255 : IVec S20x5376 32}

theorem pay40_eq (h20 : ∀ k g, v20 (ix2 k g) = I.G g k)
    (h39 : ∀ g a, k0_pay39 v253 v254 v255 v260 v261 v265 v266 (ix2 g a) = ind (g = I.sel a)) (k : Fin 4) (a : Fin 5376) :
    k0_pay40 v20 v253 v254 v255 v260 v261 v265 v266 (ix2 k a) = I.G (I.sel a) k := by
  pointwise [k0_pay40]
  simp only [h39, h20]
  exact sum_ind_eq (I.G · k) _

theorem pay45_eq (h118 : ∀ g a, v118 (ix2 g a) = (I.X a (I.L g) : EReal)) (h254 : ∀ g, v254 (ix2 0 g) = 1)
    (h39 : ∀ g a, k0_pay39 v253 v254 v255 v260 v261 v265 v266 (ix2 g a) = ind (g = I.sel a)) (a : Fin 5376) :
    k0_pay45 v118 v253 v254 v255 v260 v261 v265 v266 (ix2 0 a) = (I.X a (I.L (I.sel a)) : EReal) := by
  pointwise [k0_pay45]
  simp only [h39, h118, h254, one_mul]
  rw [← sum_ind_eq (fun g => (I.X a (I.L g) : EReal)) (I.sel a)]
  exact Finset.sum_congr rfl fun _ _ => mul_comm _ _

theorem pay46_eq (h158 : ∀ g a, v158 (ix2 g a) = I.align g a)
    (h37 : ∀ g a, k0_pay37 v253 v260 v261 v265 v266 (ix2 g a) = ind (I.pos g a)) (g : Fin 20) (a : Fin 5376) :
    k0_pay46 v158 v253 v260 v261 v265 v266 (ix2 g a) = I.alignPos g a := by
  pointwise [k0_pay46]
  rw [h158, h37]
  rfl

theorem pay47_eq {v9 : FVec Ideal S80x5376 .f32} {v153 v282 v311 : FVec Ideal S20x5376 .f32} {v285 v310 : FVec Ideal S1x5376 .f32}
    (hX : ∀ c a, v9 (ix2 c a) = (I.X a c : EReal)) (h153 : ∀ g a, v153 (ix2 g a) = I.iou g a)
    (h282 : ∀ g a, v282 (ix2 g a) = ind (I.pos g a)) (h285 : ∀ a, v285 (ix2 0 a) = ind (I.fg a))
    (h310 : ∀ a, v310 (ix2 0 a) = (I.X a (I.L (I.sel a)) : EReal)) (h311 : ∀ g a, v311 (ix2 g a) = I.alignPos g a) :
    k0_pay47 v9 v153 v282 v285 v310 v311 = I.clsSum := by
  pointwise [k0_pay47]
  simp only [hX, h153, h282, h285, h310, h311, bot_word, Fin.sum_univ_one, absf_eq, sub_eq_add_neg (0 : EReal), zero_add]
  rfl

end Sums

theorem pay80_eq {v285 : FVec Ideal S1x5376 .f32} (h285 : ∀ a, v285 (ix2 0 a) = ind (I.fg a)) : k0_pay80 v285 = I.fgSum := by
  pointwise [k0_pay80]
  simp only [h285, Fin.sum_univ_one]
  rfl

theorem pay63_eq {v412 : FVec Ideal S42x128 .f32} (r : Fin 42) (l : Fin 128) :
    k0_pay63 v412 (ix2 r l) = arctanPoly (v412 (ix2 r l)) := by
  pointwise [k0_pay63]
  simp only [absf_eq, sub_eq_add_neg (0 : EReal), zero_add, zero_int]
  rfl

theorem pay66_eq {v455 v456 v457 : FVec Ideal S42x128 .f32} (h457 : ∀ r l, v457 (ix2 r l) = max (v456 (ix2 r l)) (-v456 (ix2 r l)))
    (r : Fin 42) (l : Fin 128) :
    k0_pay66 v455 v456 v457 (ix2 r l)
      = (v455 (ix2 r l) - arctanPoly (v456 (ix2 r l))) * (v455 (ix2 r l) - arctanPoly (v456 (ix2 r l))) := by
  pointwise [k0_pay66]
  simp only [h457, sub_eq_add_neg (0 : EReal), zero_add]
  rfl

/-- Cell `l` of row `r` of the re-blocked lines. -/
def cell (r : Fin 42) (l : Fin 128) : Fin 5376 := ⟨r.val * 128 + l.val, by omega⟩

theorem pay48_eq {v : FVec Ideal S1x5376 .f32} (r : Fin 42) (l : Fin 128) : k0_pay48 v (ix2 r l) = v (ix2 0 (cell r l)) := by
  pointwise [k0_pay48]
  rfl

theorem sum_cells (f : Fin 5376 → EReal) : ∑ r, ∑ l, f (cell r l) = ∑ a, f a := by
  rw [← Fintype.sum_prod_type']
  refine Fintype.sum_equiv (finProdFinEquiv (m := 42) (n := 128)) _ _ fun p => ?_
  congr 1
  exact Fin.ext ((Nat.add_comm _ _).trans (congrArg (p.2.val + ·) (Nat.mul_comm _ _)))

section Ciou

variable {v146 : FVec Ideal S1x5376 .f32} {v351 v352 v353 v354 v355 v356 v357 v358 v359 : FVec Ideal S42x128 .f32}
    (h146 : ∀ a, v146 (ix2 0 a) = ((I.x2 a : EReal) - I.x1 a) * ((I.y2 a : EReal) - I.y1 a))
    (h351 : ∀ r l, v351 (ix2 r l) = (I.x1 (cell r l) : EReal)) (h352 : ∀ r l, v352 (ix2 r l) = (I.y1 (cell r l) : EReal))
    (h353 : ∀ r l, v353 (ix2 r l) = (I.x2 (cell r l) : EReal)) (h354 : ∀ r l, v354 (ix2 r l) = (I.y2 (cell r l) : EReal))
    (h355 : ∀ r l, v355 (ix2 r l) = I.G (I.sel (cell r l)) 0) (h356 : ∀ r l, v356 (ix2 r l) = I.G (I.sel (cell r l)) 1)
    (h357 : ∀ r l, v357 (ix2 r l) = I.G (I.sel (cell r l)) 2) (h358 : ∀ r l, v358 (ix2 r l) = I.G (I.sel (cell r l)) 3)
    (h359 : ∀ r l, v359 (ix2 r l) = ind (I.fg (cell r l)))

include h146 h351 h352 h353 h354 h355 h356 h357 h358 h359

theorem pay67_eq :
    k0_pay67 v359 (k0_pay57 v146 v351 v352 v353 v354 v355 v356 v357 v358) (k0_pay58 v351 v352 v353 v354 v355 v356 v357 v358)
      (k0_pay59 v351 v352 v353 v354 v355 v356 v357 v358)
      (k0_pay66 (k0_pay63 (k0_pay62 v355 v356 v357 v358)) (k0_pay64 (k0_pay60 v351 v353) (k0_pay61 v352 v354))
        (k0_pay65 (k0_pay60 v351 v353) (k0_pay61 v352 v354))) (Scalar.ofBits .f32 0x3ECF817B#32) = I.boxSum := by
  have h65 : ∀ r l, k0_pay65 (k0_pay60 v351 v353) (k0_pay61 v352 v354) (ix2 r l)
      = max (k0_pay64 (k0_pay60 v351 v353) (k0_pay61 v352 v354) (ix2 r l))
          (-k0_pay64 (k0_pay60 v351 v353) (k0_pay61 v352 v354) (ix2 r l)) := fun _ _ => rfl
  pointwise [k0_pay67]
  unfold Img.boxSum
  rw [← sum_cells]
  refine Finset.sum_congr rfl fun r _ => Finset.sum_congr rfl fun l _ => ?_
  rw [h359, pay66_eq h65, pay63_eq]
  congr 1
  pointwise [k0_pay57, k0_pay58, k0_pay59, k0_pay60, k0_pay61, k0_pay62, k0_pay64]
  rw [h351, h352, h353, h354, h355, h356, h357, h358, h146, zero_int]
  rfl

end Ciou

section Dfl

theorem pay71_eq (b : Fin 16) (a : Fin 5376) : k0_pay71 (F := Ideal) (ix2 b a) = ((b : ℝ) : EReal) := by
  pointwise [k0_pay71]
  exact sitofp_ofNat b.val (by omega)

theorem pay79_eq {v0 v1 v285 v305 v306 v307 v308 : FVec Ideal S1x5376 .f32} {v16 : FVec Ideal S64x5376 .f32}
    {v96 : FVec Ideal S4x5376 .f32}
    (h0 : ∀ a, v0 (ix2 0 a) = (I.cx a : EReal)) (h1 : ∀ a, v1 (ix2 0 a) = (I.cy a : EReal))
    (hD : ∀ a s b, v16 (ix2 ⟨16 * (s : Fin 4).val + (b : Fin 16).val, row_lt s b⟩ a) = (I.D a s b : EReal))
    (h96 : ∀ s a, v96 (ix2 s a) = Ideal.log (I.se a s)) (h285 : ∀ a, v285 (ix2 0 a) = ind (I.fg a))
    (h305 : ∀ a, v305 (ix2 0 a) = I.G (I.sel a) 0) (h306 : ∀ a, v306 (ix2 0 a) = I.G (I.sel a) 1)
    (h307 : ∀ a, v307 (ix2 0 a) = I.G (I.sel a) 2) (h308 : ∀ a, v308 (ix2 0 a) = I.G (I.sel a) 3) :
    k0_pay79 v96 v285 k0_pay72 (k0_pay76 v16 (k0_pay68 v1 v306) (k0_pay69 v0 v307) k0_pay71 k0_pay72 k0_pay73 (k0_pay74 v16)
        (k0_pay75 v0 v305) (Scalar.ofBits .f32 0x3F800000#32)) (k0_pay77 v16) (k0_pay78 (k0_pay70 v1 v308) k0_pay71)
        (Scalar.ofBits .f32 0x3F800000#32) = I.dflSum := by
  have hD0 : ∀ a b, v16 (ix2 ⟨(b : Fin 16).val, by omega⟩ a) = (I.D a 0 b : EReal) := fun a b => by
    rw [← hD a 0 b]; congr 2; exact Fin.ext (by simp)
  have hD1 : ∀ a b, v16 (ix2 ⟨16 + (b : Fin 16).val, by omega⟩ a) = (I.D a 1 b : EReal) := fun a b => hD a 1 b
  have hD2 : ∀ a b, v16 (ix2 ⟨32 + (b : Fin 16).val, by omega⟩ a) = (I.D a 2 b : EReal) := fun a b => hD a 2 b
  have hD3 : ∀ a b, v16 (ix2 ⟨48 + (b : Fin 16).val, by omega⟩ a) = (I.D a 3 b : EReal) := fun a b => hD a 3 b
  pointwise [k0_pay79, k0_pay76, k0_pay75, k0_pay78, k0_pay68, k0_pay69, k0_pay70, k0_pay77, k0_pay74, k0_pay73, k0_pay72]
  simp only [h0, h1, h96, h285, h305, h306, h307, h308, hD1, hD2, hD3, hD0, pay71_eq, absf_eq, zero_int, one_mul, zero_add, Fin.sum_univ_one]
  rfl

end Dfl

end Cert.KernelIdeal.Read
-- ==== Proof.KernelBody.lean ====
/- One image's block through the kernel's whole body: from the loaded vectors, read at an index, to the four sums. -/
module

public import proofs.«01_k».proof.Proof.KernelSums

@[expose] public section

set_option maxRecDepth 16384

noncomputable section

namespace Cert.KernelIdeal.Read

open Idealize.ShloMosaic Cert.KernelIdeal.Gen Cert.Loss Cert.TopTen

/-- The vectors that the body loads: the three rows of the cells' table, the class and bin logits, the boxes, the boxes
    transposed, the labels. -/
structure Loads where
  v0 : FVec Ideal S1x5376 .f32
  v1 : FVec Ideal S1x5376 .f32
  v2 : FVec Ideal S1x5376 .f32
  v9 : FVec Ideal S80x5376 .f32
  v16 : FVec Ideal S64x5376 .f32
  v18 : FVec Ideal S20x4 .f32
  v20 : FVec Ideal S4x20 .f32
  v22 : IVec S20x1 32

/-- The loaded vectors hold the image. -/
structure Loads.Hold (l : Loads) (I : Img) : Prop where
  h0 : ∀ a, l.v0 (ix2 0 a) = (I.cx a : EReal)
  h1 : ∀ a, l.v1 (ix2 0 a) = (I.cy a : EReal)
  h2 : ∀ a, l.v2 (ix2 0 a) = (I.st a : EReal)
  hX : ∀ c a, l.v9 (ix2 c a) = (I.X a c : EReal)
  hD : ∀ a s b, l.v16 (ix2 ⟨16 * (s : Fin 4).val + (b : Fin 16).val, row_lt s b⟩ a) = (I.D a s b : EReal)
  h18 : ∀ g k, l.v18 (ix2 g k) = I.G g k
  h20 : ∀ k g, l.v20 (ix2 k g) = I.G g k
  hL : ∀ g, l.v22 (ix2 g 0) = BitVec.ofNat 32 (I.L g).val

theorem col0_eq {v18 : FVec Ideal S20x4 .f32} (g : Fin 20) : k0_pay17 v18 (ix2 g 0) = v18 (ix2 g 0) := by
  pointwise [k0_pay17]
theorem col1_eq {v18 : FVec Ideal S20x4 .f32} (g : Fin 20) : k0_pay18 v18 (ix2 g 0) = v18 (ix2 g 1) := by
  pointwise [k0_pay18]
theorem col2_eq {v18 : FVec Ideal S20x4 .f32} (g : Fin 20) : k0_pay19 v18 (ix2 g 0) = v18 (ix2 g 2) := by
  pointwise [k0_pay19]
theorem col3_eq {v18 : FVec Ideal S20x4 .f32} (g : Fin 20) : k0_pay20 v18 (ix2 g 0) = v18 (ix2 g 3) := by
  pointwise [k0_pay20]

section Rows
variable {I : Img} {v20 : FVec Ideal S4x20 .f32} {v253 v265 v260' : FVec Ideal S20x5376 .f32} {v261 : FVec Ideal S1x5376 .f32}
  {v266 : FVec Ideal S5376 .f32} {v254 : FVec Ideal S1x20 .f32} {v260 : FVec Ideal S20x20 .f32} {v255 : IVec S20x5376 32}
  (h40 : ∀ k a, k0_pay40 v20 v253 v254 v255 v260 v261 v265 v266 (ix2 k a) = I.G (I.sel a) k)
include h40

theorem row0_eq (a : Fin 5376) : k0_pay41 v20 v253 v254 v255 v260 v261 v265 v266 (ix2 0 a) = I.G (I.sel a) 0 := by
  pointwise [k0_pay41]
  exact h40 0 a
theorem row1_eq (a : Fin 5376) : k0_pay42 v20 v253 v254 v255 v260 v261 v265 v266 (ix2 0 a) = I.G (I.sel a) 1 := by
  pointwise [k0_pay42]
  exact h40 1 a
theorem row2_eq (a : Fin 5376) : k0_pay43 v20 v253 v254 v255 v260 v261 v265 v266 (ix2 0 a) = I.G (I.sel a) 2 := by
  pointwise [k0_pay43]
  exact h40 2 a
theorem row3_eq (a : Fin 5376) : k0_pay44 v20 v253 v254 v255 v260 v261 v265 v266 (ix2 0 a) = I.G (I.sel a) 3 := by
  pointwise [k0_pay44]
  exact h40 3 a

end Rows

namespace Loads

variable (l : Loads)

/-! The body's values, numbered as the body computes them. -/

def r4 := k0_pay12 l.v16 (iota .tc S8x64 32 [0] iota_S8x64_d0_w32) (k0_pay6 (iota .tc S8x64 32 [1] iota_S8x64_d1_w32) 16#32) (k0_pay7 (iota .tc S8x64 32 [1] iota_S8x64_d1_w32)) 4#32 (k0_pay8 (iota .tc S8x64 32 [0] iota_S8x64_d0_w32))
def r5 := k0_pay13 l.v0 l.v2 l.v16 (iota .tc S8x64 32 [0] iota_S8x64_d0_w32) (k0_pay6 (iota .tc S8x64 32 [1] iota_S8x64_d1_w32) 16#32) (k0_pay7 (iota .tc S8x64 32 [1] iota_S8x64_d1_w32)) 4#32 (k0_pay8 (iota .tc S8x64 32 [0] iota_S8x64_d0_w32))
def r6 := k0_pay14 l.v1 l.v2 l.v16 (iota .tc S8x64 32 [0] iota_S8x64_d0_w32) (k0_pay6 (iota .tc S8x64 32 [1] iota_S8x64_d1_w32) 16#32) (k0_pay7 (iota .tc S8x64 32 [1] iota_S8x64_d1_w32)) 4#32 (k0_pay8 (iota .tc S8x64 32 [0] iota_S8x64_d0_w32))
def r7 := k0_pay15 l.v0 l.v2 l.v16 (iota .tc S8x64 32 [0] iota_S8x64_d0_w32) (k0_pay6 (iota .tc S8x64 32 [1] iota_S8x64_d1_w32) 16#32) (k0_pay7 (iota .tc S8x64 32 [1] iota_S8x64_d1_w32)) 4#32 (k0_pay8 (iota .tc S8x64 32 [0] iota_S8x64_d0_w32))
def r8 := k0_pay16 l.v1 l.v2 l.v16 (iota .tc S8x64 32 [0] iota_S8x64_d0_w32) (k0_pay6 (iota .tc S8x64 32 [1] iota_S8x64_d1_w32) 16#32) (k0_pay7 (iota .tc S8x64 32 [1] iota_S8x64_d1_w32)) 4#32 (k0_pay8 (iota .tc S8x64 32 [0] iota_S8x64_d0_w32))
def r9 := k0_pay17 l.v18
def r10 := k0_pay18 l.v18
def r11 := k0_pay19 l.v18
def r12 := k0_pay20 l.v18
def r13 := k0_pay21 l.v9 l.v22
def r14 := k0_pay22 l.v9 l.v22
def r15 := k0_pay23 l.r5 l.r6 l.r7 l.r8
def r16 := k0_pay24 l.r5 l.r6 l.r7 l.r8 l.r9 l.r10 l.r11 l.r12
def r17 := k0_pay25 l.r5 l.r6 l.r7 l.r8 l.r9 l.r10 l.r11 l.r12 l.r14
def r18 := k0_pay26 l.r6 l.r8
def r19 := k0_pay27 l.r5 l.r7 l.r9 l.r11
def r20 := k0_pay28 l.r6 l.r8 l.r10
def r21 := k0_pay29 l.r9 l.r10 l.r11 l.r12 l.r17 l.r18 l.r19 l.r20
def r22 := k0_pay30 l.r9 l.r10 l.r11 l.r12 l.r17 l.r18 l.r19 l.r20
def r23 := k0_pay31 l.r21 l.r22
def r24 := k0_pay34 l.r21 l.r22
def r25 := k0_pay35 l.r16 l.r21 l.r22
def r26 := k0_pay36 l.r16 l.r21 l.r22
def r27 := k0_pay37 l.r23 k0_pay33 l.r24 l.r25 l.r26
def r28 := k0_pay38 l.r23 k0_pay32 k0_pay33 l.r24 l.r25 l.r26
def r29 := k0_pay41 l.v20 l.r23 k0_pay32 (iota .tc S20x5376 32 [0] iota_S20x5376_d0_w32) k0_pay33 l.r24 l.r25 l.r26
def r30 := k0_pay42 l.v20 l.r23 k0_pay32 (iota .tc S20x5376 32 [0] iota_S20x5376_d0_w32) k0_pay33 l.r24 l.r25 l.r26
def r31 := k0_pay43 l.v20 l.r23 k0_pay32 (iota .tc S20x5376 32 [0] iota_S20x5376_d0_w32) k0_pay33 l.r24 l.r25 l.r26
def r32 := k0_pay44 l.v20 l.r23 k0_pay32 (iota .tc S20x5376 32 [0] iota_S20x5376_d0_w32) k0_pay33 l.r24 l.r25 l.r26
def r33 := k0_pay45 l.r13 l.r23 k0_pay32 (iota .tc S20x5376 32 [0] iota_S20x5376_d0_w32) k0_pay33 l.r24 l.r25 l.r26
def r34 := k0_pay46 l.r17 l.r23 k0_pay33 l.r24 l.r25 l.r26
def r35 := k0_pay47 l.v9 l.r16 l.r27 l.r28 l.r33 l.r34
def r36 := k0_pay48 l.r5
def r37 := k0_pay49 l.r6
def r38 := k0_pay50 l.r7
def r39 := k0_pay51 l.r8
def r40 := k0_pay52 l.r29
def r41 := k0_pay53 l.r30
def r42 := k0_pay54 l.r31
def r43 := k0_pay55 l.r32
def r44 := k0_pay56 l.r28
def r45 := k0_pay57 l.r15 l.r36 l.r37 l.r38 l.r39 l.r40 l.r41 l.r42 l.r43
def r46 := k0_pay58 l.r36 l.r37 l.r38 l.r39 l.r40 l.r41 l.r42 l.r43
def r47 := k0_pay59 l.r36 l.r37 l.r38 l.r39 l.r40 l.r41 l.r42 l.r43
def r48 := k0_pay60 l.r36 l.r38
def r49 := k0_pay61 l.r37 l.r39
def r50 := k0_pay62 l.r40 l.r41 l.r42 l.r43
def r51 := k0_pay63 l.r50
def r52 := k0_pay64 l.r48 l.r49
def r53 := k0_pay65 l.r48 l.r49
def r54 := k0_pay66 l.r51 l.r52 l.r53
def r55 := k0_pay67 l.r44 l.r45 l.r46 l.r47 l.r54 (Scalar.ofBits .f32 0x3ECF817B#32)
def r56 := k0_pay68 l.v1 l.r30
def r57 := k0_pay69 l.v0 l.r31
def r58 := k0_pay70 l.v1 l.r32
def r59 := k0_pay74 l.v16
def r60 := k0_pay75 l.v0 l.r29
def r61 := k0_pay76 l.v16 l.r56 l.r57 k0_pay71 k0_pay72 k0_pay73 l.r59 l.r60 (Scalar.ofBits .f32 0x3F800000#32)
def r62 := k0_pay77 l.v16
def r63 := k0_pay78 l.r58 k0_pay71
def r68 := k0_pay80 l.r28
def r69 := k0_pay79 l.r4 l.r28 k0_pay72 l.r61 l.r62 l.r63 (Scalar.ofBits .f32 0x3F800000#32)

variable {l} {I : Img} (h : l.Hold I)
include h

theorem x1_eq (a : Fin 5376) : l.r5 (ix2 0 a) = (I.x1 a : EReal) := pay13_eq h.h0 h.h2 h.hD a
theorem y1_eq (a : Fin 5376) : l.r6 (ix2 0 a) = (I.y1 a : EReal) := pay14_eq h.h1 h.h2 h.hD a
theorem x2_eq (a : Fin 5376) : l.r7 (ix2 0 a) = (I.x2 a : EReal) := pay15_eq h.h0 h.h2 h.hD a
theorem y2_eq (a : Fin 5376) : l.r8 (ix2 0 a) = (I.y2 a : EReal) := pay16_eq h.h1 h.h2 h.hD a
theorem g0_eq (g : Fin 20) : l.r9 (ix2 g 0) = I.G g 0 := (col0_eq g).trans (h.h18 g 0)
theorem g1_eq (g : Fin 20) : l.r10 (ix2 g 0) = I.G g 1 := (col1_eq g).trans (h.h18 g 1)
theorem g2_eq (g : Fin 20) : l.r11 (ix2 g 0) = I.G g 2 := (col2_eq g).trans (h.h18 g 2)
theorem g3_eq (g : Fin 20) : l.r12 (ix2 g 0) = I.G g 3 := (col3_eq g).trans (h.h18 g 3)
theorem iou_eq (g : Fin 20) (a : Fin 5376) : l.r16 (ix2 g a) = I.iou g a :=
  pay24_eq (x1_eq h) (y1_eq h) (x2_eq h) (y2_eq h) (g0_eq h) (g1_eq h) (g2_eq h) (g3_eq h) g a
theorem align_eq (g : Fin 20) (a : Fin 5376) : l.r17 (ix2 g a) = I.align g a :=
  pay25_eq (x1_eq h) (y1_eq h) (x2_eq h) (y2_eq h) (g0_eq h) (g1_eq h) (g2_eq h) (g3_eq h) (pay22_eq h.hX h.hL) g a
theorem metric_eq (g : Fin 20) (a : Fin 5376) : l.r21 (ix2 g a) = I.metric g a :=
  pay29_eq (x1_eq h) (y1_eq h) (x2_eq h) (y2_eq h) (g0_eq h) (g1_eq h) (g2_eq h) (g3_eq h) (align_eq h) g a
theorem cand_eq (g : Fin 20) (a : Fin 5376) : l.r23 (ix2 g a) = ind (I.cand g a) :=
  pay31_eq (metric_eq h) (pay30_eq (metric_eq h)) g a
theorem count_eq (a : Fin 5376) : l.r24 (ix2 0 a) = I.count a := pay34_eq (cand_eq h) a
theorem candIou_eq (g : Fin 20) (a : Fin 5376) : l.r25 (ix2 g a) = I.candIou g a := pay35_eq (cand_eq h) (iou_eq h) g a
theorem top_eq (a : Fin 5376) : l.r26 (ix1 a) = top (I.candIou · a) := pay36_eq (candIou_eq h) a
theorem pos_eq (g : Fin 20) (a : Fin 5376) : l.r27 (ix2 g a) = ind (I.pos g a) :=
  pay37_eq (cand_eq h) (count_eq h) (candIou_eq h) (top_eq h) pay33_eq g a
theorem fg_eq (a : Fin 5376) : l.r28 (ix2 0 a) = ind (I.fg a) :=
  pay38_eq (cand_eq h) (count_eq h) (candIou_eq h) (top_eq h) pay32_eq pay33_eq a
theorem one_hot_eq (g : Fin 20) (a : Fin 5376) :
    k0_pay39 l.r23 k0_pay32 (iota .tc S20x5376 32 [0] iota_S20x5376_d0_w32) k0_pay33 l.r24 l.r25 l.r26 (ix2 g a)
      = ind (g = I.sel a) :=
  pay39_eq (cand_eq h) (count_eq h) (candIou_eq h) (top_eq h) pay32_eq pay33_eq g a
theorem boxes_eq (k : Fin 4) (a : Fin 5376) :
    k0_pay40 l.v20 l.r23 k0_pay32 (iota .tc S20x5376 32 [0] iota_S20x5376_d0_w32) k0_pay33 l.r24 l.r25 l.r26 (ix2 k a)
      = I.G (I.sel a) k := pay40_eq h.h20 (one_hot_eq h) k a

/-- The class sum. -/
theorem cls_eq : l.r35 = I.clsSum :=
  pay47_eq h.hX (iou_eq h) (pos_eq h) (fg_eq h) (pay45_eq (pay21_eq h.hX h.hL) pay32_eq (one_hot_eq h))
    (pay46_eq (align_eq h) (pos_eq h))

/-- The number of assigned cells. -/
theorem num_eq : l.r68 = I.fgSum := pay80_eq (fg_eq h)

/-- The bin sum. -/
theorem dfl_eq : l.r69 = I.dflSum :=
  pay79_eq h.h0 h.h1 h.hD (pay12_eq h.hD) (fg_eq h) (row0_eq (boxes_eq h)) (row1_eq (boxes_eq h)) (row2_eq (boxes_eq h))
    (row3_eq (boxes_eq h))

/-- The box sum. -/
theorem box_eq : l.r55 = I.boxSum :=
  pay67_eq (pay23_eq (x1_eq h) (y1_eq h) (x2_eq h) (y2_eq h))
    (fun r c => (pay48_eq r c).trans (x1_eq h _)) (fun r c => (pay48_eq r c).trans (y1_eq h _))
    (fun r c => (pay48_eq r c).trans (x2_eq h _)) (fun r c => (pay48_eq r c).trans (y2_eq h _))
    (fun r c => (pay48_eq r c).trans (row0_eq (boxes_eq h) _)) (fun r c => (pay48_eq r c).trans (row1_eq (boxes_eq h) _))
    (fun r c => (pay48_eq r c).trans (row2_eq (boxes_eq h) _)) (fun r c => (pay48_eq r c).trans (row3_eq (boxes_eq h) _))
    (fun r c => (pay48_eq r c).trans (fg_eq h _))

end Loads

end Cert.KernelIdeal.Read
-- ==== Proof.KernelOut.lean ====
/- The body's loads and stores at a point: from the blocks in the staging buffers to the four sums left in the output's. -/
module

public import proofs.«01_k».proof.Proof.KernelBody
public import proofs.«01_k».proof.Proof.Geo
public import proofs.«01_k».proof.Proof.Gen.KernelIdeal.Frame
public import Idealize.ShloMosaic.Lib.Pipeline.Value

@[expose] public section

set_option maxRecDepth 16384

noncomputable section

namespace Cert.KernelIdeal.Read

open Idealize.ShloMosaic Idealize.ShloMosaic.TcCoe Idealize.ShloMosaic.Tactic Cert.KernelIdeal.Gen Cert.Loss Cert.TopTen

section Out

variable (c : Dev nD) (i : grid0.Coords) (arg1 : Memref sig .tc .vmem S8x5376 .f32) (harg1 : arg1.IsWhole)
  (arg2 : Memref sig .tc .vmem S1x144x4096 .f32) (harg2 : arg2.IsWhole) (arg3 : Memref sig .tc .vmem S1x144x1024 .f32)
  (harg3 : arg3.IsWhole) (arg4 : Memref sig .tc .vmem S1x144x256 .f32) (harg4 : arg4.IsWhole)
  (arg5 : Memref sig .tc .vmem S1x20x4 .f32) (harg5 : arg5.IsWhole) (arg6 : Memref sig .tc .vmem S1x4x20 .f32)
  (harg6 : arg6.IsWhole) (arg7 : Memref sig .tc .vmem S1x20x1 .i32) (harg7 : arg7.IsWhole)
  (arg8 : Memref sig .tc .smem S1x1x4 .f32) (harg8 : arg8.IsWhole)
  (x0 : Vec Ideal S8x5376 .f32) (x1 : Vec Ideal S1x144x4096 .f32) (x2 : Vec Ideal S1x144x1024 .f32)
  (x3 : Vec Ideal S1x144x256 .f32) (x4 : Vec Ideal S1x20x4 .f32) (x5 : Vec Ideal S1x4x20 .f32) (x6 : Vec Ideal S1x20x1 .i32)

/-- The loads, through the staging memrefs. -/
def loaded : Loads where
  v0 := arg1.view.readAt (Elt Ideal) (Rect.unit (s := S8x5376) ![0, 0] S1x5376.size inb_S8x5376_S1x5376_0_0).toLoadRect (harg1.unread x0)
  v1 := arg1.view.readAt (Elt Ideal) (Rect.unit (s := S8x5376) ![1, 0] S1x5376.size inb_S8x5376_S1x5376_1_0).toLoadRect (harg1.unread x0)
  v2 := arg1.view.readAt (Elt Ideal) (Rect.unit (s := S8x5376) ![2, 0] S1x5376.size inb_S8x5376_S1x5376_2_0).toLoadRect (harg1.unread x0)
  v9 := k0_pay1
    (arg2.view.readAt (Elt Ideal) (Rect.unit (s := S1x144x4096) ![0, 64, 0] S1x80x4096.size inb_S1x144x4096_S1x80x4096_0_64_0).toLoadRect (harg2.unread x1))
    (arg3.view.readAt (Elt Ideal) (Rect.unit (s := S1x144x1024) ![0, 64, 0] S1x80x1024.size inb_S1x144x1024_S1x80x1024_0_64_0).toLoadRect (harg3.unread x2))
    (arg4.view.readAt (Elt Ideal) (Rect.unit (s := S1x144x256) ![0, 64, 0] S1x80x256.size inb_S1x144x256_S1x80x256_0_64_0).toLoadRect (harg4.unread x3))
  v16 := k0_pay2
    (arg2.view.readAt (Elt Ideal) (Rect.unit (s := S1x144x4096) ![0, 0, 0] S1x64x4096.size inb_S1x144x4096_S1x64x4096_0_0_0).toLoadRect (harg2.unread x1))
    (arg3.view.readAt (Elt Ideal) (Rect.unit (s := S1x144x1024) ![0, 0, 0] S1x64x1024.size inb_S1x144x1024_S1x64x1024_0_0_0).toLoadRect (harg3.unread x2))
    (arg4.view.readAt (Elt Ideal) (Rect.unit (s := S1x144x256) ![0, 0, 0] S1x64x256.size inb_S1x144x256_S1x64x256_0_0_0).toLoadRect (harg4.unread x3))
  v18 := k0_pay3 (arg5.view.readAt (Elt Ideal) (Rect.unit (s := S1x20x4) ![0, 0, 0] S1x20x4.size inb_S1x20x4_S1x20x4_0_0_0).toLoadRect (harg5.unread x4))
  v20 := k0_pay4 (arg6.view.readAt (Elt Ideal) (Rect.unit (s := S1x4x20) ![0, 0, 0] S1x4x20.size inb_S1x4x20_S1x4x20_0_0_0).toLoadRect (harg6.unread x5))
  v22 := k0_pay5 (F := Ideal) (arg7.view.readAt (Elt Ideal) (Rect.unit (s := S1x20x1) ![0, 0, 0] S1x20x1.size inb_S1x20x1_S1x20x1_0_0_0).toLoadRect (harg7.unread x6))

/-- What the four stores of the body leave, at an index of the block. -/
def four_sums (l : Loads) (k : Fin 4) : EReal := ![l.r55, l.r35, l.r69, l.r68] k

theorem unit_last (k : Fin 4) (inb : ∀ a, (![0, 0, k.val] : Fin 3 → ℕ) a + (![1, 1, 1] : Fin 3 → ℕ) a ≤ S1x1x4.size a)
    (x : (Rect.unit (s := S1x1x4) ![0, 0, k.val] ![1, 1, 1] inb).shape.Idx) :
    ((Rect.unit (s := S1x1x4) ![0, 0, k.val] ![1, 1, 1] inb).emb x) 2 = k := Fin.ext (by
  have h := (x 2).isLt
  show k.val + 1 * (x 2).val = k.val
  change (x 2).val < 1 at h
  omega)

set_option maxHeartbeats 400000 in
theorem out_A (y : S1x1x4.Idx) :
    out0_A_7 c i arg1 harg1 arg2 harg2 arg3 harg3 arg4 harg4 arg5 harg5 arg6 harg6 arg7 harg7 arg8 harg8 x0 x1 x2 x3 x4 x5 x6 y
      = four_sums (loaded arg1 harg1 arg2 harg2 arg3 harg3 arg4 harg4 arg5 harg5 arg6 harg6 arg7 harg7 x0 x1 x2 x3 x4 x5 x6) (y 2) := by
  have hcov := cover0_A_7 c i arg1 harg1 arg2 harg2 arg3 harg3 arg4 harg4 arg5 harg5 arg6 harg6 arg7 harg7 arg8 harg8 x0 x1 x2 x3 x4 x5 x6
  unfold out0_A_7
  rw [View.read_writes_eq_canon _ _ _ hcov]
  refine View.canon_apply_of_pieces (fun y : S1x1x4.Idx => four_sums (loaded arg1 harg1 arg2 harg2 arg3 harg3 arg4 harg4 arg5 harg5 arg6 harg6 arg7 harg7 x0 x1 x2 x3 x4 x5 x6) (y 2)) _ ?_ y (hcov y)
  unfold kernelRun0_A
  dsimp only
  intro p hp
  simp only [List.mem_cons, List.not_mem_nil, or_false] at hp
  rcases hp with rfl | rfl | rfl | rfl <;> intro x
  · refine Eq.trans ?_ (congrArg (four_sums _) (unit_last 3 inb_S1x1x4_S1x1x1_0_0_3 x).symm)
    show _ = Loads.r68 _
    sl_unfold_words
    dsimp only [Loads.r4, Loads.r5, Loads.r6, Loads.r7, Loads.r8, Loads.r9, Loads.r10, Loads.r11, Loads.r12, Loads.r13, Loads.r14,
      Loads.r15, Loads.r16, Loads.r17, Loads.r18, Loads.r19, Loads.r20, Loads.r21, Loads.r22, Loads.r23, Loads.r24, Loads.r25,
      Loads.r26, Loads.r27, Loads.r28, Loads.r29, Loads.r30, Loads.r31, Loads.r32, Loads.r33, Loads.r34, Loads.r35, Loads.r36,
      Loads.r37, Loads.r38, Loads.r39, Loads.r40, Loads.r41, Loads.r42, Loads.r43, Loads.r44, Loads.r45, Loads.r46, Loads.r47,
      Loads.r48, Loads.r49, Loads.r50, Loads.r51, Loads.r52, Loads.r53, Loads.r54, Loads.r55, Loads.r56, Loads.r57, Loads.r58,
      Loads.r59, Loads.r60, Loads.r61, Loads.r62, Loads.r63, Loads.r68, Loads.r69, loaded, k0_pay1, k0_pay2, k0_pay3, k0_pay4,
      k0_pay5, Scalar.ofBits]
  · refine Eq.trans ?_ (congrArg (four_sums _) (unit_last 2 inb_S1x1x4_S1x1x1_0_0_2 x).symm)
    show _ = Loads.r69 _
    sl_unfold_words
    dsimp only [Loads.r4, Loads.r5, Loads.r6, Loads.r7, Loads.r8, Loads.r9, Loads.r10, Loads.r11, Loads.r12, Loads.r13, Loads.r14,
      Loads.r15, Loads.r16, Loads.r17, Loads.r18, Loads.r19, Loads.r20, Loads.r21, Loads.r22, Loads.r23, Loads.r24, Loads.r25,
      Loads.r26, Loads.r27, Loads.r28, Loads.r29, Loads.r30, Loads.r31, Loads.r32, Loads.r33, Loads.r34, Loads.r35, Loads.r36,
      Loads.r37, Loads.r38, Loads.r39, Loads.r40, Loads.r41, Loads.r42, Loads.r43, Loads.r44, Loads.r45, Loads.r46, Loads.r47,
      Loads.r48, Loads.r49, Loads.r50, Loads.r51, Loads.r52, Loads.r53, Loads.r54, Loads.r55, Loads.r56, Loads.r57, Loads.r58,
      Loads.r59, Loads.r60, Loads.r61, Loads.r62, Loads.r63, Loads.r68, Loads.r69, loaded, k0_pay1, k0_pay2, k0_pay3, k0_pay4,
      k0_pay5, Scalar.ofBits]
  · refine Eq.trans ?_ (congrArg (four_sums _) (unit_last 1 inb_S1x1x4_S1x1x1_0_0_1 x).symm)
    show _ = Loads.r35 _
    sl_unfold_words
    dsimp only [Loads.r4, Loads.r5, Loads.r6, Loads.r7, Loads.r8, Loads.r9, Loads.r10, Loads.r11, Loads.r12, Loads.r13, Loads.r14,
      Loads.r15, Loads.r16, Loads.r17, Loads.r18, Loads.r19, Loads.r20, Loads.r21, Loads.r22, Loads.r23, Loads.r24, Loads.r25,
      Loads.r26, Loads.r27, Loads.r28, Loads.r29, Loads.r30, Loads.r31, Loads.r32, Loads.r33, Loads.r34, Loads.r35, Loads.r36,
      Loads.r37, Loads.r38, Loads.r39, Loads.r40, Loads.r41, Loads.r42, Loads.r43, Loads.r44, Loads.r45, Loads.r46, Loads.r47,
      Loads.r48, Loads.r49, Loads.r50, Loads.r51, Loads.r52, Loads.r53, Loads.r54, Loads.r55, Loads.r56, Loads.r57, Loads.r58,
      Loads.r59, Loads.r60, Loads.r61, Loads.r62, Loads.r63, Loads.r68, Loads.r69, loaded, k0_pay1, k0_pay2, k0_pay3, k0_pay4,
      k0_pay5, Scalar.ofBits]
  · refine Eq.trans ?_ (congrArg (four_sums _) (unit_last 0 inb_S1x1x4_S1x1x1_0_0_0 x).symm)
    show _ = Loads.r55 _
    sl_unfold_words
    dsimp only [Loads.r4, Loads.r5, Loads.r6, Loads.r7, Loads.r8, Loads.r9, Loads.r10, Loads.r11, Loads.r12, Loads.r13, Loads.r14,
      Loads.r15, Loads.r16, Loads.r17, Loads.r18, Loads.r19, Loads.r20, Loads.r21, Loads.r22, Loads.r23, Loads.r24, Loads.r25,
      Loads.r26, Loads.r27, Loads.r28, Loads.r29, Loads.r30, Loads.r31, Loads.r32, Loads.r33, Loads.r34, Loads.r35, Loads.r36,
      Loads.r37, Loads.r38, Loads.r39, Loads.r40, Loads.r41, Loads.r42, Loads.r43, Loads.r44, Loads.r45, Loads.r46, Loads.r47,
      Loads.r48, Loads.r49, Loads.r50, Loads.r51, Loads.r52, Loads.r53, Loads.r54, Loads.r55, Loads.r56, Loads.r57, Loads.r58,
      Loads.r59, Loads.r60, Loads.r61, Loads.r62, Loads.r63, Loads.r68, Loads.r69, loaded, k0_pay1, k0_pay2, k0_pay3, k0_pay4,
      k0_pay5, Scalar.ofBits]

variable {c i arg1 harg1 arg2 harg2 arg3 harg3 arg4 harg4 arg5 harg5 arg6 harg6 arg7 harg7 arg8 harg8 x0 x1 x2 x3 x4 x5 x6}

/-- The loads hold the image that the blocks hold. -/
theorem loaded_hold {p0 : Fin 144 → Fin 64 → Fin 64 → EReal} {p1 : Fin 144 → Fin 32 → Fin 32 → EReal}
    {p2 : Fin 144 → Fin 16 → Fin 16 → EReal} {gt : Fin 20 → Fin 4 → EReal} {lab : Fin 20 → BitVec 32}
    (h0 : ∀ k y x, IsReal (p0 k y x)) (h1 : ∀ k y x, IsReal (p1 k y x)) (h2 : ∀ k y x, IsReal (p2 k y x))
    (hlab : ∀ g, (lab g).toNat < 80)
    (hcx : ∀ a, x0 (ix2 0 a) = ((cxN a.val : ℝ) : EReal)) (hcy : ∀ a, x0 (ix2 1 a) = ((cyN a.val : ℝ) : EReal))
    (hst : ∀ a, x0 (ix2 2 a) = ((stN a.val : ℝ) : EReal))
    (hx1 : ∀ k (j : Fin 4096), x1 (ix3 0 k j) = p0 k ⟨j.val / 64, by omega⟩ ⟨j.val % 64, by omega⟩)
    (hx2 : ∀ k (j : Fin 1024), x2 (ix3 0 k j) = p1 k ⟨j.val / 32, by omega⟩ ⟨j.val % 32, by omega⟩)
    (hx3 : ∀ k (j : Fin 256), x3 (ix3 0 k j) = p2 k ⟨j.val / 16, by omega⟩ ⟨j.val % 16, by omega⟩)
    (hx4 : ∀ g k, x4 (ix3 0 g k) = gt g k) (hx5 : ∀ k g, x5 (ix3 0 k g) = gt g k) (hx6 : ∀ g, x6 (ix3 0 g 0) = lab g) :
    (loaded arg1 harg1 arg2 harg2 arg3 harg3 arg4 harg4 arg5 harg5 arg6 harg6 arg7 harg7 x0 x1 x2 x3 x4 x5 x6).Hold
      (img p0 p1 p2 gt lab) where
  h0 a := by
    dsimp only [loaded]
    rw [View.readAt_eq_ld, harg1.read_unread, View.ld_unit]
    pointwise
    exact hcx a
  h1 a := by
    dsimp only [loaded]
    rw [View.readAt_eq_ld, harg1.read_unread, View.ld_unit]
    pointwise
    exact hcy a
  h2 a := by
    dsimp only [loaded]
    rw [View.readAt_eq_ld, harg1.read_unread, View.ld_unit]
    pointwise
    exact hst a
  hX c a := by
    dsimp only [loaded]
    rw [View.readAt_eq_ld, View.readAt_eq_ld, View.readAt_eq_ld, harg2.read_unread, harg3.read_unread, harg4.read_unread,
      View.ld_unit, View.ld_unit, View.ld_unit]
    pointwise [k0_pay1]
    simp only [hx1, hx2, hx3]
    exact (IsReal.coe (chan_real h0 h1 h2 ⟨64 + c.val, by omega⟩ a)).symm
  hD a s b := by
    dsimp only [loaded]
    rw [View.readAt_eq_ld, View.readAt_eq_ld, View.readAt_eq_ld, harg2.read_unread, harg3.read_unread, harg4.read_unread,
      View.ld_unit, View.ld_unit, View.ld_unit]
    pointwise [k0_pay2]
    simp only [hx1, hx2, hx3]
    exact (IsReal.coe (chan_real h0 h1 h2 ⟨16 * s.val + b.val, by omega⟩ a)).symm
  h18 g k := by
    dsimp only [loaded]
    rw [View.readAt_eq_ld, harg5.read_unread, View.ld_unit]
    pointwise [k0_pay3]
    exact hx4 g k
  h20 k g := by
    dsimp only [loaded]
    rw [View.readAt_eq_ld, harg6.read_unread, View.ld_unit]
    pointwise [k0_pay4]
    exact hx5 k g
  hL g := by
    dsimp only [loaded]
    rw [View.readAt_eq_ld, harg7.read_unread, View.ld_unit]
    pointwise [k0_pay5]
    rw [show x6 (ix3 0 g 0) = lab g from hx6 g]
    show lab g = BitVec.ofNat 32 ((lab g).toNat % 80)
    rw [Nat.mod_eq_of_lt (hlab g), BitVec.ofNat_toNat, BitVec.setWidth_eq]

end Out

end Cert.KernelIdeal.Read
-- ==== Proof.KernelArray.lean ====
/- The array of the images' sums after the run: at an image and a place, the sum of that image. -/
module

public import proofs.«01_k».proof.Proof.KernelOut
public import Idealize.ShloMosaic.Lib.Pipeline.ValueKit

@[expose] public section

set_option maxRecDepth 16384

noncomputable section

namespace Cert.KernelIdeal.Read

open Idealize.ShloMosaic Idealize.ShloMosaic.TcCoe Idealize.ShloMosaic.Tactic Cert.KernelIdeal.Gen Cert.Loss Cert.TopTen

variable (m : (ℓ : Loc nD τ sig) → Buf (Elt Ideal) ℓ) (c : Dev nD)

/-! ## The arrays that the body's blocks are cut from -/

theorem V_cst : V m c main_cst = fun i => FloatOps.ofBits (F := Ideal) .f32 (lit0 (S8x5376.rowMajor i)) := by
  show StableHlo.after hostOps0 (fun b => m (c, b)) (Proc.devRef .tc main_cst) = _
  after_results
  rfl
theorem V_v0 : V m c main_v0 = shapeCast S8x144x4096 (m ((c : Thread nD τ).loc main_arg0)) shapeCasts_S8x144x64x64_S8x144x4096 := by
  show StableHlo.after hostOps0 (fun b => m (c, b)) (Proc.devRef .tc main_v0) = _
  after_results
  rfl
theorem V_v1 : V m c main_v1 = shapeCast S8x144x1024 (m ((c : Thread nD τ).loc main_arg1)) shapeCasts_S8x144x32x32_S8x144x1024 := by
  show StableHlo.after hostOps0 (fun b => m (c, b)) (Proc.devRef .tc main_v1) = _
  after_results
  rfl
theorem V_v2 : V m c main_v2 = shapeCast S8x144x256 (m ((c : Thread nD τ).loc main_arg2)) shapeCasts_S8x144x16x16_S8x144x256 := by
  show StableHlo.after hostOps0 (fun b => m (c, b)) (Proc.devRef .tc main_v2) = _
  after_results
  rfl
theorem V_v3 : V m c main_v3 = transpose S8x4x20 [0, 2, 1] (m ((c : Thread nD τ).loc main_arg3)) transposes_S8x20x4_S8x4x20_0_2_1 := by
  show StableHlo.after hostOps0 (fun b => m (c, b)) (Proc.devRef .tc main_v3) = _
  after_results
theorem V_v4 : V m c main_v4 = shapeCast S8x20x1 (m ((c : Thread nD τ).loc main_arg4)) shapeCasts_S8x20_S8x20x1 := by
  show StableHlo.after hostOps0 (fun b => m (c, b)) (Proc.devRef .tc main_v4) = _
  after_results
  rfl

theorem idx : ∀ t : Fin cfg0.N, (win0_0.index t = ![0, 0] ∧ win0_1.index t = ![t.val, 0, 0] ∧ win0_2.index t = ![t.val, 0, 0]
    ∧ win0_3.index t = ![t.val, 0, 0]) ∧ win0_4.index t = ![t.val, 0, 0] ∧ win0_5.index t = ![t.val, 0, 0]
    ∧ win0_6.index t = ![t.val, 0, 0] ∧ win0_7.index t = ![t.val, 0, 0] := by decide

variable (t : Fin cfg0.N)

/-- The image of a point. -/
def at8 : Fin 8 := ⟨t.val, t.isLt⟩

theorem blk0 (r : Fin 8) (a : Fin 5376) :
    iblk m c 0 t (ix2 r a) = Ideal.ofBits .f32 (lit0t (r.val * 5376 + a.val)) := by
  have h : iblk m c 0 t (ix2 r a) = V m c main_cst (ix2 r a) := by blk_ext [iblk, (idx t).1.1]
  have e : (S8x5376.rowMajor (ix2 r a)).val = r.val * 5376 + a.val := rowMajor_val2 _ 5376 rfl
  rw [h, V_cst, ← e]
  rfl
theorem blk1 (k : Fin 144) (j : Fin 4096) : iblk m c 1 t (ix3 0 k j)
    = m ((c : Thread nD τ).loc main_arg0) (ix4 (at8 t) k ⟨j.val / 64, by omega⟩ ⟨j.val % 64, by omega⟩) := by
  have h : iblk m c 1 t (ix3 0 k j) = V m c main_v0 (ix3 ⟨t.val, t.isLt⟩ k j) := by blk_ext [iblk, (idx t).1.2.1]
  rw [h, V_v0]
  pointwise
  rfl
theorem blk2 (k : Fin 144) (j : Fin 1024) : iblk m c 2 t (ix3 0 k j)
    = m ((c : Thread nD τ).loc main_arg1) (ix4 (at8 t) k ⟨j.val / 32, by omega⟩ ⟨j.val % 32, by omega⟩) := by
  have h : iblk m c 2 t (ix3 0 k j) = V m c main_v1 (ix3 ⟨t.val, t.isLt⟩ k j) := by blk_ext [iblk, (idx t).1.2.2.1]
  rw [h, V_v1]
  pointwise
  rfl
theorem blk3 (k : Fin 144) (j : Fin 256) : iblk m c 3 t (ix3 0 k j)
    = m ((c : Thread nD τ).loc main_arg2) (ix4 (at8 t) k ⟨j.val / 16, by omega⟩ ⟨j.val % 16, by omega⟩) := by
  have h : iblk m c 3 t (ix3 0 k j) = V m c main_v2 (ix3 ⟨t.val, t.isLt⟩ k j) := by blk_ext [iblk, (idx t).1.2.2.2]
  rw [h, V_v2]
  pointwise
  rfl
theorem blk4 (g : Fin 20) (k : Fin 4) : iblk m c 4 t (ix3 0 g k) = m ((c : Thread nD τ).loc main_arg3) (ix3 (at8 t) g k) := by
  have h : iblk m c 4 t (ix3 0 g k) = V m c main_arg3 (ix3 ⟨t.val, t.isLt⟩ g k) := by blk_ext [iblk, (idx t).2.1]
  rw [h, V_main_arg3]
  rfl
theorem blk5 (k : Fin 4) (g : Fin 20) : iblk m c 5 t (ix3 0 k g) = m ((c : Thread nD τ).loc main_arg3) (ix3 (at8 t) g k) := by
  have h : iblk m c 5 t (ix3 0 k g) = V m c main_v3 (ix3 ⟨t.val, t.isLt⟩ k g) := by blk_ext [iblk, (idx t).2.2.1]
  rw [h, V_v3]
  pointwise
  rfl
theorem blk6 (g : Fin 20) : iblk m c 6 t (ix3 0 g 0) = m ((c : Thread nD τ).loc main_arg4) (ix2 (at8 t) g) := by
  have h : iblk m c 6 t (ix3 0 g 0) = V m c main_v4 (ix3 ⟨t.val, t.isLt⟩ g 0) := by blk_ext [iblk, (idx t).2.2.2.1]
  rw [h, V_v4]
  pointwise
  rfl

/-! ## The sums -/

/-- What is asked of the arguments: real predictions, labels that are classes. -/
structure Good (m : (ℓ : Loc nD τ sig) → Buf (Elt Ideal) ℓ) (c : Dev nD) : Prop where
  p0 : ∀ i k y x, IsReal (m ((c : Thread nD τ).loc main_arg0) (ix4 (i : Fin 8) (k : Fin 144) (y : Fin 64) (x : Fin 64)))
  p1 : ∀ i k y x, IsReal (m ((c : Thread nD τ).loc main_arg1) (ix4 (i : Fin 8) (k : Fin 144) (y : Fin 32) (x : Fin 32)))
  p2 : ∀ i k y x, IsReal (m ((c : Thread nD τ).loc main_arg2) (ix4 (i : Fin 8) (k : Fin 144) (y : Fin 16) (x : Fin 16)))
  lab : ∀ i g, BitVec.toNat (m ((c : Thread nD τ).loc main_arg4) (ix2 (i : Fin 8) (g : Fin 20)) : BitVec 32) < 80

/-- The images of the arguments. -/
def image (i : Fin 8) : Img :=
  img (fun k y x => m ((c : Thread nD τ).loc main_arg0) (ix4 i k y x)) (fun k y x => m ((c : Thread nD τ).loc main_arg1) (ix4 i k y x))
    (fun k y x => m ((c : Thread nD τ).loc main_arg2) (ix4 i k y x)) (fun g k => m ((c : Thread nD τ).loc main_arg3) (ix3 i g k))
    (fun g => m ((c : Thread nD τ).loc main_arg4) (ix2 i g))

/-- The four sums of an image, in the order in which they are stored. -/
def sums (I : Img) (k : Fin 4) : EReal := ![I.boxSum, I.clsSum, I.dflSum, I.fgSum] k

variable {m c}

theorem outs_eq (hm : Good m c) (y : S1x1x4.Idx) : outsAt0 m c t y = sums (image m c (at8 t)) (y 2) := by
  unfold outsAt0
  rw [out_A]
  have h := loaded_hold (arg1 := ms0_0 t) (harg1 := hs0_0 t) (arg2 := ms0_1 t) (harg2 := hs0_1 t) (arg3 := ms0_2 t) (harg3 := hs0_2 t)
    (arg4 := ms0_3 t) (harg4 := hs0_3 t) (arg5 := ms0_4 t) (harg5 := hs0_4 t) (arg6 := ms0_5 t) (harg6 := hs0_5 t)
    (arg7 := ms0_6 t) (harg7 := hs0_6 t) (hm.p0 (at8 t)) (hm.p1 (at8 t)) (hm.p2 (at8 t)) (hm.lab (at8 t))
    (fun a => (blk0 m c t 0 a).trans (by simpa using table_cx a))
    (fun a => (blk0 m c t 1 a).trans (by simpa using table_cy a))
    (fun a => (blk0 m c t 2 a).trans (by simpa using table_st a))
    (blk1 m c t) (blk2 m c t) (blk3 m c t) (blk4 m c t) (blk5 m c t) (blk6 m c t)
  unfold four_sums sums
  rw [Loads.box_eq h, Loads.cls_eq h, Loads.dfl_eq h, Loads.num_eq h]
  rfl

/-- The array of sums after the run. -/
theorem array_eq (hm : Good m c) :
    (dats m 0 c).arrAt 7 (cfgs 0).N = (fun y => sums (image m c (y 0)) (y 2) : S8x1x4.Idx → EReal) := by
  refine (dats m 0 c).arrAt_eq_of_covers 7 _ (by decide +kernel) fun t hf y => ?_
  blk_simp
  rw [after0_7, outs_eq t hm]
  have h0 : ((win0_7.blk t).view.emb y) 0 = at8 t := Fin.ext (by
    blk_simp [(idx t).2.2.2.2]
    rfl)
  have h2 : ((win0_7.blk t).view.emb y) 2 = y 2 := Fin.ext (by
    blk_simp [(idx t).2.2.2.2])
  show _ = sums (image m c (((win0_7.blk t).view.emb y) 0)) (((win0_7.blk t).view.emb y) 2)
  rw [h0, h2]

end Cert.KernelIdeal.Read
-- ==== Proof.KernelTail.lean ====
/- The kernel's results: its weighted sums over the images, divided by the number of assigned cells. -/
module

public import proofs.«01_k».proof.Proof.KernelArray

@[expose] public section

set_option maxRecDepth 16384

noncomputable section

namespace Cert.KernelIdeal.Read

open Idealize.ShloMosaic Idealize.ShloMosaic.TcCoe Idealize.ShloMosaic.Tactic Cert.KernelIdeal.Gen Cert.Loss

variable {m : (ℓ : Loc nD τ sig) → Buf (Elt Ideal) ℓ} {c : Dev nD}

/-- Where the reduction over the images and the row of one puts an index. -/
theorem drop_iff (j : Fin 4) (i : S8x1x4.Idx) : reducesTo_S8x1x4_S4_d0_1.drop i = ix1 j ↔ ∃ e : Fin 8, ix3 e 0 j = i := by
  constructor
  · intro h
    refine ⟨i 0, ?_⟩
    funext a
    match a with
    | 0 => rfl
    | 1 => exact Subsingleton.elim (α := Fin 1) _ _
    | 2 => exact Fin.ext (congrArg Fin.val (congrFun h 0)).symm
  · rintro ⟨e, rfl⟩
    funext a
    match a with
    | 0 => rfl

/-- The sum over the images. -/
theorem sum_images (v : S8x1x4.Idx → EReal) (j : Fin 4) :
    Ideal.hostReduceAdd reducesTo_S8x1x4_S4_d0_1 v 0 (ix1 j) = ∑ i : Fin 8, v (ix3 i 0 j) := by
  refine (zero_add _).trans ?_
  exact Finset.sum_filter_eq_sum_of_fiber _ (fun e : Fin 8 => ix3 e 0 j) (fun a b e => (congrFun e 0 : (ix3 a 0 j : S8x1x4.Idx) 0 = (ix3 b 0 j : S8x1x4.Idx) 0)) (drop_iff j) v

/-- The loss's three parts: the weighted sums over the images, divided by the number of assigned cells (one if there is none). -/
def results (I : Fin 8 → Img) (k : Fin 3) : EReal :=
  Ideal.div (match k with
    | 0 => Ideal.ofBits .f32 0x40F00000#32 * ∑ i, sums (I i) 0
    | 1 => Ideal.ofBits .f32 0x3F000000#32 * ∑ i, sums (I i) 1
    | 2 => Ideal.ofBits .f32 0x3FC00000#32 * ∑ i, sums (I i) 2) (max 1 (∑ i, sums (I i) 3))

/-- The array of sums, as the operations after the region read it. -/
theorem region_eq (hm : Good m c) :
    (Pipeline.withArrays (cfgs 0).spec c (V0 m c) (fun w => (dats m 0 c).arrAt w (cfgs 0).N) (Proc.devRef .tc main_v5) : S8x1x4.Idx → EReal)
      = fun y => sums (image m c (y 0)) (y 2) := by
  have h := Pipeline.withArrays_arr (cfgs 0).spec (by decide) c (V0 m c) (fun w => (dats m 0 c).arrAt w (cfgs 0).N) 7
  exact h.trans (array_eq hm)

theorem tail_eq (hm : Good m c) (k : Fin 3) :
    (Pipeline.afterTail₀ cfgs (dats m) 0 (V0 m) [hostOps1] c main_v24 : S3.Idx → EReal) (ix1 k) = results (image m c) k := by
  simp only [Pipeline.afterTail₀, List.flatten_cons, List.flatten_nil, List.append_nil]
  after_results
  have h := region_eq hm
  generalize Pipeline.withArrays (cfgs 0).spec c (V0 m c) (fun w => (dats m 0 c).arrAt w (cfgs 0).N) = W at h ⊢
  generalize hA : (W (Proc.devRef .tc main_v5) : S8x1x4.Idx → EReal) = A at h
  pointwise
  after_results_simp
  rw [hA]
  pointwise
  have e : ∀ j : Fin 4, Ideal.hostReduceAdd reducesTo_S8x1x4_S4_d0_1 A 0 (ix1 j) = ∑ i : Fin 8, sums (image m c i) j := by
    intro j
    rw [sum_images, h]
    rfl
  rw [e, e, e, e]
  unfold results
  congr 1
  match k with
  | 0 => exact dif_pos (by decide)
  | 1 => exact (dif_neg (by decide)).trans (dif_pos (by decide))
  | 2 => exact (dif_neg (by decide)).trans (dif_neg (by decide))

end Cert.KernelIdeal.Read
-- ==== Proof.RefLoss.lean ====
/- The reference's results are the kernel's. -/
module

public import proofs.«01_k».proof.Proof.RefResults
public import proofs.«01_k».proof.Proof.KernelTail

@[expose] public section

set_option maxRecDepth 16384

noncomputable section

namespace Cert.ReferenceIdeal.Read

open Idealize.ShloMosaic Idealize.ShloMosaic.Tactic Cert.Loss Cert.TopTen

variable {x0 : S8x144x64x64.Idx → EReal} {x1 : S8x144x32x32.Idx → EReal} {x2 : S8x144x16x16.Idx → EReal}
  {x3 : S8x20x4.Idx → EReal} {x4 : S8x20.Idx → BitVec 32} {i : Fin 8} (hx : Fine x0 x1 x2 x4) (ha : Apart x0 x1 x2 x3 x4)

/-- An entry of a list of four. -/
theorem pick (a b c d : EReal) : (![a, b, c, d] : Fin 4 → EReal) 0 = a ∧ (![a, b, c, d] : Fin 4 → EReal) 1 = b
    ∧ (![a, b, c, d] : Fin 4 → EReal) 2 = c ∧ (![a, b, c, d] : Fin 4 → EReal) 3 = d := ⟨rfl, rfl, rfl, rfl⟩

theorem sums_pick (I : Img) : Cert.KernelIdeal.Read.sums I 0 = I.boxSum ∧ Cert.KernelIdeal.Read.sums I 1 = I.clsSum
    ∧ Cert.KernelIdeal.Read.sums I 2 = I.dflSum ∧ Cert.KernelIdeal.Read.sums I 3 = I.fgSum := by
  unfold Cert.KernelIdeal.Read.sums
  exact pick _ _ _ _

theorem results_of {I : Fin 8 → Img} {p q r d : EReal} (hp : ∑ i, Cert.KernelIdeal.Read.sums (I i) 0 = p)
    (hq : ∑ i, Cert.KernelIdeal.Read.sums (I i) 1 = q) (hr : ∑ i, Cert.KernelIdeal.Read.sums (I i) 2 = r)
    (hd : ∑ i, Cert.KernelIdeal.Read.sums (I i) 3 = d) {v : Fin 3 → EReal}
    (h0 : v 0 = Ideal.div (Ideal.ofBits .f32 0x40F00000#32 * p) (max 1 d))
    (h1 : v 1 = Ideal.div (Ideal.ofBits .f32 0x3F000000#32 * q) (max 1 d))
    (h2 : v 2 = Ideal.div (Ideal.ofBits .f32 0x3FC00000#32 * r) (max 1 d)) (k : Fin 3) :
    v k = Cert.KernelIdeal.Read.results I k := by
  unfold Cert.KernelIdeal.Read.results
  rw [hp, hq, hr, hd]
  match k with
  | 0 => exact h0
  | 1 => exact h1
  | 2 => exact h2

include hx ha in
theorem result_box :
    val_main_v746 (F := Ideal) x0 x1 x2 x3 x4 (ix1 0) = Ideal.div (Ideal.ofBits .f32 0x40F00000#32 * ∑ i, (pic x0 x1 x2 x3 x4 i).boxSum)
      (max 1 (∑ i, (pic x0 x1 x2 x3 x4 i).fgSum)) := by
  rw [stacked.1, denom_eq hx ha, box_sum hx ha]
  exact scale_div _ _ (denom_real _)

include hx ha in
theorem result_cls :
    val_main_v746 (F := Ideal) x0 x1 x2 x3 x4 (ix1 1) = Ideal.div (Ideal.ofBits .f32 0x3F000000#32 * ∑ i, (pic x0 x1 x2 x3 x4 i).clsSum)
      (max 1 (∑ i, (pic x0 x1 x2 x3 x4 i).fgSum)) := by
  rw [stacked.2.1, denom_eq hx ha, cls_sum hx ha]
  exact scale_div _ _ (denom_real _)

include hx ha in
theorem result_dfl :
    val_main_v746 (F := Ideal) x0 x1 x2 x3 x4 (ix1 2) = Ideal.div (Ideal.ofBits .f32 0x3FC00000#32 * ∑ i, (pic x0 x1 x2 x3 x4 i).dflSum)
      (max 1 (∑ i, (pic x0 x1 x2 x3 x4 i).fgSum)) := by
  rw [stacked.2.2, denom_eq hx ha, dfl_sum hx ha]
  exact scale_div _ _ (denom_real _)

include hx ha in
/-- The reference's results are the kernel's. -/
theorem results_eq (k : Fin 3) :
    val_main_v746 (F := Ideal) x0 x1 x2 x3 x4 (ix1 k) = Cert.KernelIdeal.Read.results (fun i => pic x0 x1 x2 x3 x4 i) k :=
  results_of (v := fun k => val_main_v746 (F := Ideal) x0 x1 x2 x3 x4 (ix1 k))
    (Finset.sum_congr rfl fun i _ => (sums_pick _).1) (Finset.sum_congr rfl fun i _ => (sums_pick _).2.1)
    (Finset.sum_congr rfl fun i _ => (sums_pick _).2.2.1) (Finset.sum_congr rfl fun i _ => (sums_pick _).2.2.2)
    (result_box hx ha) (result_cls hx ha) (result_dfl hx ha) k

end Cert.ReferenceIdeal.Read
-- ==== Proof.PreRead.lean ====
/- What the precondition says of the arguments. -/
module

public import proofs.«01_k».proof.Proof.RefTopk
public import proofs.«01_k».proof.Proof.Gen.Pre_separated

@[expose] public section

set_option maxRecDepth 65536
set_option maxHeartbeats 4000000

noncomputable section

namespace Cert.ReferenceIdeal.Read

open Idealize.ShloMosaic Idealize.ShloMosaic.Tactic Cert.Loss Cert.TopTen

/-- The precondition's metric is the reference's. -/
theorem pre_top {F : FTy → Type} [FloatOps F] (x0 : FVec F S8x144x64x64 .f32) (x1 : FVec F S8x144x32x32 .f32)
    (x2 : FVec F S8x144x16x16 .f32) (x3 : FVec F S8x20x4 .f32) (x4 : IVec S8x20 32) :
    ∃ hs h0 h1 h10 hb, ∃ hb' : S8x20x1.BroadcastsInDim Cert.Pre_separated.S8x20x10 _,
      (Cert.Pre_separated.fn (F := F) x0 x1 x2 x3 x4).2.2.2.2
      = ori (cmpf .ogt
          (extractStridedSlice Cert.Pre_separated.S8x20x10 ![0, 0, 0] (Host.topK Cert.Pre_separated.S8x20x11 2 (FloatOps.cmpfTotal .gt) (val_main_v347 (F := F) x0 x1 x2 x3 x4) hs).1 h0)
          (extractStridedSlice Cert.Pre_separated.S8x20x10 ![0, 0, 1] (Host.topK Cert.Pre_separated.S8x20x11 2 (FloatOps.cmpfTotal .gt) (val_main_v347 (F := F) x0 x1 x2 x3 x4) hs).1 h1))
        (broadcastInDim Cert.Pre_separated.S8x20x10 ![0, 1, 2] hb'
          (cmpf .ole (extractStridedSlice Cert.Pre_separated.S8x20x1 ![0, 0, 10] (Host.topK Cert.Pre_separated.S8x20x11 2 (FloatOps.cmpfTotal .gt) (val_main_v347 (F := F) x0 x1 x2 x3 x4) hs).1 h10)
            (broadcastInDim Cert.Pre_separated.S8x20x1 ![] hb (constant S_ .f32 0x3089705F#32)))) :=
  ⟨Cert.Pre_separated.Gen.sliceFits_S8x20x5376_S8x20x11, Cert.Pre_separated.Gen.slices_S8x20x11_S8x20x10_0_0_0,
    Cert.Pre_separated.Gen.slices_S8x20x11_S8x20x10_0_0_1, Cert.Pre_separated.Gen.slices_S8x20x11_S8x20x1_0_0_10,
    Cert.Pre_separated.Gen.bcast_S_S8x20x1, Cert.Pre_separated.Gen.bcast_S8x20x1_S8x20x10_0_1_2, rfl⟩

theorem inf_word : Ideal.ofBits .f32 0x7F800000#32 = ⊤ := by
  simp [Ideal.ofBits, Ideal.ieee]

/-- Below infinity is real. -/
theorem isReal_of_lt {x : EReal} (h : FloatOps.cmpf (F := Ideal) (φ := .f32) .olt (FloatOps.absf (F := Ideal) (φ := .f32) x) (Ideal.ofBits .f32 0x7F800000#32) = 1#1) :
    IsReal x := by
  rw [inf_word] at h
  have h' : BitVec.ofBool (decide (max x (-x) < ⊤)) = 1#1 := h
  have hlt : max x (-x) < ⊤ := by
    by_contra hn
    rw [decide_eq_false hn] at h'
    exact absurd h' (by decide)
  constructor
  · rintro rfl
    exact absurd hlt (by simp)
  · rintro rfl
    exact absurd hlt (by simp)

theorem label_lt {x : BitVec 32} (h : IntOp.andi (IntOp.cmpi .sge x 0#32) (IntOp.cmpi .slt x 80#32) = 1#1) : x.toNat < 80 := by
  have h' : BitVec.ofBool ((0#32).sle x) &&& BitVec.ofBool (x.slt 80#32) = 1#1 := h
  rw [BitVec.sle_eq_decide, BitVec.slt_eq_decide] at h'
  by_cases h1 : (0#32).toInt ≤ x.toInt
  · by_cases h2 : x.toInt < (80#32).toInt
    · have e0 : (0#32).toInt = 0 := by decide
      have e1 : (80#32).toInt = 80 := by decide
      rw [e0] at h1
      rw [e1] at h2
      rw [BitVec.toInt_eq_toNat_cond] at h1 h2
      split at h1 <;> omega
    · rw [decide_eq_false h2] at h'
      exact absurd h' (by cases decide ((0#32).toInt ≤ x.toInt) <;> decide)
  · rw [decide_eq_false h1] at h'
    exact absurd h' (by cases decide (x.toInt < (80#32).toInt) <;> decide)

variable {x0 : FVec Ideal S8x144x64x64 .f32} {x1 : FVec Ideal S8x144x32x32 .f32}
    {x2 : FVec Ideal S8x144x16x16 .f32} {x3 : FVec Ideal S8x20x4 .f32} {x4 : IVec S8x20 32}

theorem fine_of (h0 : (Cert.Pre_separated.fn (F := Ideal) x0 x1 x2 x3 x4).1 = fun _ => 1#1)
    (h1 : (Cert.Pre_separated.fn (F := Ideal) x0 x1 x2 x3 x4).2.1 = fun _ => 1#1)
    (h2 : (Cert.Pre_separated.fn (F := Ideal) x0 x1 x2 x3 x4).2.2.1 = fun _ => 1#1)
    (h3 : (Cert.Pre_separated.fn (F := Ideal) x0 x1 x2 x3 x4).2.2.2.1 = fun _ => 1#1) : Fine x0 x1 x2 x4 where
  p0 i k y x := isReal_of_lt (congrFun h0 (ix4 i k y x))
  p1 i k y x := isReal_of_lt (congrFun h1 (ix4 i k y x))
  p2 i k y x := isReal_of_lt (congrFun h2 (ix4 i k y x))
  lab i g := label_lt (congrFun h3 (ix2 i g))

theorem apart_word (T : Cert.Pre_separated.S8x20x11.Idx → EReal) (i : Fin 8) (g : Fin 20) (r : Fin 10) :
    (ori (cmpf (F := Ideal) (φ := .f32) .ogt
          (extractStridedSlice Cert.Pre_separated.S8x20x10 ![0, 0, 0] T Cert.Pre_separated.Gen.slices_S8x20x11_S8x20x10_0_0_0)
          (extractStridedSlice Cert.Pre_separated.S8x20x10 ![0, 0, 1] T Cert.Pre_separated.Gen.slices_S8x20x11_S8x20x10_0_0_1))
        (broadcastInDim Cert.Pre_separated.S8x20x10 ![0, 1, 2] Cert.Pre_separated.Gen.bcast_S8x20x1_S8x20x10_0_1_2
          (cmpf (F := Ideal) (φ := .f32) .ole (extractStridedSlice Cert.Pre_separated.S8x20x1 ![0, 0, 10] T Cert.Pre_separated.Gen.slices_S8x20x11_S8x20x1_0_0_10)
            (broadcastInDim Cert.Pre_separated.S8x20x1 ![] Cert.Pre_separated.Gen.bcast_S_S8x20x1 (constant S_ .f32 0x3089705F#32))))) (ix3 i g r)
      = IntOp.ori (BitVec.ofBool (decide (T (ix3 i g r.succ) < T (ix3 i g r.castSucc)))) (BitVec.ofBool (decide (T (ix3 i g 10) ≤ eps))) := by
  pointwise []
  have e : (⟨1 + r.val, by omega⟩ : Fin 11) = r.succ := Fin.ext (Nat.add_comm 1 r.val)
  rw [← e]
  rfl

theorem or_bits {p q : Prop} [Decidable p] [Decidable q] (h : IntOp.ori (BitVec.ofBool (decide p)) (BitVec.ofBool (decide q)) = 1#1) : p ∨ q := by
  by_cases hp : p
  · exact .inl hp
  · by_cases hq : q
    · exact .inr hq
    · rw [decide_eq_false hp, decide_eq_false hq] at h
      exact absurd h (by decide)

theorem apart_of (hx : Fine x0 x1 x2 x4) (h4 : (Cert.Pre_separated.fn (F := Ideal) x0 x1 x2 x3 x4).2.2.2.2 = fun _ => 1#1) :
    Apart x0 x1 x2 x3 x4 := by
  intro i g
  obtain ⟨hs, _, _, _, _, _, e⟩ := pre_top (F := Ideal) x0 x1 x2 x3 x4
  have ht : ∀ r : Fin 11, (Host.topK Cert.Pre_separated.S8x20x11 2 (FloatOps.cmpfTotal (F := Ideal) (φ := .f32) .gt)
      (val_main_v347 (F := Ideal) x0 x1 x2 x3 x4) hs).1 (ix3 i g r) = sorted (pic x0 x1 x2 x3 x4 i) g r := fun r => by
    have t := (topK_eq (N := 5376) (K := 11) (by decide) (val_main_v347 (F := Ideal) x0 x1 x2 x3 x4) hs i g r).1
    rw [metric_line hx, metric_eq hx] at t
    exact t
  rw [e] at h4
  generalize (Host.topK Cert.Pre_separated.S8x20x11 2 (FloatOps.cmpfTotal (F := Ideal) (φ := .f32) .gt)
      (val_main_v347 (F := Ideal) x0 x1 x2 x3 x4) hs).1 = T at h4 ht
  have hr : ∀ r : Fin 10, sorted (pic x0 x1 x2 x3 x4 i) g r.succ < sorted (pic x0 x1 x2 x3 x4 i) g r.castSucc
      ∨ sorted (pic x0 x1 x2 x3 x4 i) g 10 ≤ eps := fun r => by
    have w := or_bits ((apart_word T i g r).symm.trans (congrFun h4 (ix3 i g r)))
    rw [ht, ht, ht] at w
    exact w
  by_cases h : sorted (pic x0 x1 x2 x3 x4 i) g 10 ≤ eps
  · exact .inl h
  · exact .inr fun r => (hr r).resolve_right h

end Cert.ReferenceIdeal.Read
-- ==== Proof.Agree.lean ====
/- The two programs' results are equal, for arguments the precondition admits. -/
module

public import proofs.«01_k».proof.Defs
public import proofs.«01_k».proof.Proof.RefLoss
public import proofs.«01_k».proof.Proof.PreRead
public import proofs.«01_k».proof.Proof.KernelTail

@[expose] public section

set_option maxRecDepth 16384

noncomputable section

namespace Cert.Loss

open Idealize.ShloMosaic Idealize.ShloMosaic.TcCoe Idealize.ShloMosaic.Tactic Cert.KernelIdeal Cert.KernelIdeal.Gen Cert.KernelIdeal.Read

variable {m : (ℓ : Loc nD τ sig) → Buf (Elt Ideal) ℓ} {c : Dev nD}
  {m' : (ℓ : Loc Cert.ReferenceIdeal.nD Cert.ReferenceIdeal.τ Cert.ReferenceIdeal.sig) → Buf (Elt Ideal) ℓ}

theorem fine_at (hpre : Cert.Pre_KernelIdeal_separated m) (c : Dev nD) :
    Cert.ReferenceIdeal.Read.Fine (m ((c : Thread nD τ).loc main_arg0)) (m ((c : Thread nD τ).loc main_arg1))
      (m ((c : Thread nD τ).loc main_arg2)) (m ((c : Thread nD τ).loc main_arg4)) :=
  Cert.ReferenceIdeal.Read.fine_of (hpre c).1 (hpre c).2.1 (hpre c).2.2.1 (hpre c).2.2.2.1

theorem apart_at (hpre : Cert.Pre_KernelIdeal_separated m) (c : Dev nD) :
    Cert.ReferenceIdeal.Read.Apart (m ((c : Thread nD τ).loc main_arg0)) (m ((c : Thread nD τ).loc main_arg1))
      (m ((c : Thread nD τ).loc main_arg2)) (m ((c : Thread nD τ).loc main_arg3)) (m ((c : Thread nD τ).loc main_arg4)) :=
  Cert.ReferenceIdeal.Read.apart_of (fine_at hpre c) (hpre c).2.2.2.2

theorem good_at (hpre : Cert.Pre_KernelIdeal_separated m) (c : Dev nD) : Good m c where
  p0 := (fine_at hpre c).p0
  p1 := (fine_at hpre c).p1
  p2 := (fine_at hpre c).p2
  lab := (fine_at hpre c).lab

/-- An index of the results. -/
theorem idx_eq (j : S3.Idx) : j = ix1 (j 0) := by
  funext a
  match a with
  | 0 => rfl

/-- The reference's images are the kernel's. -/
theorem image_eq (i : Fin 8) : Cert.ReferenceIdeal.Read.pic (m ((c : Thread nD τ).loc main_arg0)) (m ((c : Thread nD τ).loc main_arg1))
      (m ((c : Thread nD τ).loc main_arg2)) (m ((c : Thread nD τ).loc main_arg3)) (m ((c : Thread nD τ).loc main_arg4)) i = image m c i := rfl

theorem agree (hpre : Cert.Pre_KernelIdeal_separated m) (c : Dev nD)
    (h0 : m' ((c : Thread Cert.ReferenceIdeal.nD Cert.ReferenceIdeal.τ).loc Cert.ReferenceIdeal.main_arg0) = m ((c : Thread nD τ).loc main_arg0))
    (h1 : m' ((c : Thread Cert.ReferenceIdeal.nD Cert.ReferenceIdeal.τ).loc Cert.ReferenceIdeal.main_arg1) = m ((c : Thread nD τ).loc main_arg1))
    (h2 : m' ((c : Thread Cert.ReferenceIdeal.nD Cert.ReferenceIdeal.τ).loc Cert.ReferenceIdeal.main_arg2) = m ((c : Thread nD τ).loc main_arg2))
    (h3 : m' ((c : Thread Cert.ReferenceIdeal.nD Cert.ReferenceIdeal.τ).loc Cert.ReferenceIdeal.main_arg3) = m ((c : Thread nD τ).loc main_arg3))
    (h4 : m' ((c : Thread Cert.ReferenceIdeal.nD Cert.ReferenceIdeal.τ).loc Cert.ReferenceIdeal.main_arg4) = m ((c : Thread nD τ).loc main_arg4)) :
    Cert.ReferenceIdeal.Value.res_main_v746 (F := Ideal) (StableHlo.launchContents m' c)
      = Pipeline.afterTail₀ cfgs (dats m) 0 (V0 m) [hostOps1] c main_v24 := by
  have hv : Cert.ReferenceIdeal.Value.res_main_v746 (F := Ideal) (StableHlo.launchContents m' c)
      = Cert.ReferenceIdeal.Read.val_main_v746 (F := Ideal)
        (m' ((c : Thread Cert.ReferenceIdeal.nD Cert.ReferenceIdeal.τ).loc Cert.ReferenceIdeal.main_arg0))
        (m' ((c : Thread Cert.ReferenceIdeal.nD Cert.ReferenceIdeal.τ).loc Cert.ReferenceIdeal.main_arg1))
        (m' ((c : Thread Cert.ReferenceIdeal.nD Cert.ReferenceIdeal.τ).loc Cert.ReferenceIdeal.main_arg2))
        (m' ((c : Thread Cert.ReferenceIdeal.nD Cert.ReferenceIdeal.τ).loc Cert.ReferenceIdeal.main_arg3))
        (m' ((c : Thread Cert.ReferenceIdeal.nD Cert.ReferenceIdeal.τ).loc Cert.ReferenceIdeal.main_arg4)) :=
    Cert.ReferenceIdeal.Read.val_main_v746_eq _
  rw [hv, h0, h1, h2, h3, h4]
  funext j
  rw [idx_eq j]
  have e := Cert.ReferenceIdeal.Read.results_eq (fine_at hpre c) (apart_at hpre c) (j 0)
  simp only [image_eq] at e
  have t := tail_eq (good_at hpre c) (j 0)
  exact e.trans t.symm
--_at hpre c) (apart_at hpre c) (j 0)).trans (tail_eq (good_at hpre c) (j 0)).symm

end Cert.Loss
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_separated
public import proofs.«01_k».proof.Proof.Gen.ReferenceIdeal
public import proofs.«01_k».proof.Proof.Gen.ReferenceIdeal.Run
public import proofs.«01_k».proof.Proof.Gen.ReferenceIdeal.Read
public import proofs.«01_k».proof.Proof.Agree
public import Idealize.ShloMosaic.Lib.Claim
public import Idealize.ShloMosaic.Adequacy
public import Idealize.ShloMosaic.Init

@[expose] public section

noncomputable section

namespace Cert.Proof

open Idealize.ShloMosaic Idealize.ShloMosaic.Tactic Idealize.SL.Sem

/-- The kernel's results are the reference's. -/
theorem algebraic : Cert.algebraic_KernelIdeal_ReferenceIdeal_pre_separated := by
  pair_intro
  · run_from Cert.KernelIdeal.Gen.run_main m g
    · exact Cert.KernelIdeal.Gen.W_main_arg0 m _ c
    · exact Cert.KernelIdeal.Gen.W_main_arg1 m _ c
    · exact Cert.KernelIdeal.Gen.W_main_arg2 m _ c
    · exact Cert.KernelIdeal.Gen.W_main_arg4 m _ c
  · run_from Cert.ReferenceIdeal.Value.run m' g'
    exact Cert.Loss.agree hpre c (hagree c).1 (hagree c).2.1 (hagree c).2.2.1 (hagree c).2.2.2.1 (hagree c).2.2.2.2

theorem claim : Cert.Claim := ⟨Cert.Kernel.Gen.facts, Cert.KernelIdeal.Gen.facts, Cert.ReferenceIdeal.Gen.facts, Cert.Pre_separated.Gen.facts, by
  refine ⟨fun m ρ _ => ?_, fun m ρ _ => ?_, fun m ρ _ => ?_, fun m ρ _ => ?_, fun m ρ _ => ?_, trivial, algebraic⟩
  · exact Cert.Kernel.Gen.frame m ρ
  · exact Cert.KernelIdeal.Gen.frame m ρ
  · exact Cert.KernelIdeal.Gen.frame m ρ
  · exact (θ_run _ _ _).mono (fun r h => ⟨fun c => (h c).2, sem_eq_zero_of_no_sems (by decide) r.2⟩)
      (Cert.ReferenceIdeal.Value.run m ρ)
  · exact (θ_run _ _ _).mono (fun r h => ⟨fun c => (h c).2, sem_eq_zero_of_no_sems (by decide) r.2⟩)
      (Cert.ReferenceIdeal.Value.run m ρ)⟩

end Cert.Proof

end
